-- ==== Defs.lean ====
def Pre_Kernel [hPre_fits_Kernel : Cert.Pre_fits_Kernel.Facts] (m : (ℓ : Loc Cert.Kernel.nD Cert.Kernel.τ Cert.Kernel.sig) → Buf (Elt Bits) ℓ) : Prop :=
  ∀ c : Dev Cert.Kernel.nD,
    (Cert.Pre_fits_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_fits_Kernel : Cert.Pre_fits_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_fits_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def quiescent_Kernel [hKernel : Cert.Kernel.Facts] [hPre_fits_Kernel : Cert.Pre_fits_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_fits_Kernel : Cert.Pre_fits_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_fits_Kernel : Cert.Pre_fits_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = Layout.block ⟨2, ![4096, 1024]⟩ ⟨2, ![16384, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨1, ![4096]⟩ ⟨1, ![16384]⟩ 0 4 c (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v3) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hPre_fits_Kernel : Cert.Pre_fits_Kernel.Facts) (hPre_fits_ReferenceIdeal : Cert.Pre_fits_ReferenceIdeal.Facts),
    quiescent_Kernel (hKernel := hKernel) (hPre_fits_Kernel := hPre_fits_Kernel)
    ∧ quiescent_KernelIdeal (hKernelIdeal := hKernelIdeal) (hPre_fits_Kernel := hPre_fits_Kernel)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ quiescent_Gather (hGather := hGather)
    ∧ quiescent_GatherIdeal (hGatherIdeal := hGatherIdeal)
    ∧ quiescent_GatherReferenceIdeal (hGatherReferenceIdeal := hGatherReferenceIdeal)
    ∧ preserves_Kernel_KernelIdeal
    ∧ algebraic_KernelIdeal_ReferenceIdeal (hKernelIdeal := hKernelIdeal) (hReferenceIdeal := hReferenceIdeal) (hPre_fits_Kernel := hPre_fits_Kernel)
    ∧ preserves_Gather_GatherIdeal
    ∧ algebraic_GatherIdeal_GatherReferenceIdeal (hGatherIdeal := hGatherIdeal) (hGatherReferenceIdeal := hGatherReferenceIdeal)
-- ==== Pre_fits_Kernel.lean ====
abbrev S4096x1024 : Shape := ⟨2, ![4096, 1024]⟩
abbrev S16384 : Shape := ⟨1, ![16384]⟩
abbrev S4x4096 : Shape := ⟨2, ![4, 4096]⟩
abbrev S4x4096x1 : Shape := ⟨3, ![4, 4096, 1]⟩
abbrev S4 : Shape := ⟨1, ![4]⟩
abbrev S1x1x4 : Shape := ⟨3, ![1, 1, 4]⟩
abbrev S4x4096x4 : Shape := ⟨3, ![4, 4096, 4]⟩
abbrev S_ : Shape := ⟨0, ![]⟩
abbrev S4x4 : Shape := ⟨2, ![4, 4]⟩
abbrev S1x4 : Shape := ⟨2, ![1, 4]⟩

class Facts : Prop where
  shapeCasts_S16384_S4x4096 : S16384.ShapeCasts S4x4096
  bcast_S4x4096_S4x4096x1_0_1 : S4x4096.BroadcastsInDim S4x4096x1 (![0, 1] : Fin 2 → Fin S4x4096x1.rank)
  bcast_S4_S1x1x4_2 : S4.BroadcastsInDim S1x1x4 (![2] : Fin 1 → Fin S1x1x4.rank)
  bcast_S4x4096x1_S4x4096x4_0_1_2 : S4x4096x1.BroadcastsInDim S4x4096x4 (![0, 1, 2] : Fin 3 → Fin S4x4096x4.rank)
  bcast_S1x1x4_S4x4096x4_0_1_2 : S1x1x4.BroadcastsInDim S4x4096x4 (![0, 1, 2] : Fin 3 → Fin S4x4096x4.rank)
  natLt_1_32 : 1 < 32
  reducesTo_S4x4096x4_S4x4_d1 : S4x4096x4.ReducesTo [1] S4x4
  h_S_ : 0 < S_.numel
  bcast_S_S4x4 : S_.BroadcastsInDim S4x4 (![] : Fin 0 → Fin S4x4.rank)
  reducesTo_S4x4_S4_d0 : S4x4.ReducesTo [0] S4
  bcast_S_S4 : S_.BroadcastsInDim S4 (![] : Fin 0 → Fin S4.rank)
  bcast_S4_S1x4_1 : S4.BroadcastsInDim S1x4 (![1] : Fin 1 → Fin S1x4.rank)
  bcast_S1x4_S4x4_0_1 : S1x4.BroadcastsInDim S4x4 (![0, 1] : Fin 2 → Fin S4x4.rank)

variable [Facts]

def fn {F : FTy → Type} [FloatOps F] (main_arg0 : FVec F S4096x1024 .bf16) (main_arg1 : IVec S16384 32) : IVec S4x4 1 :=
  let main_v0 : IVec S4x4096 32 := shapeCast S4x4096 main_arg1 shapeCasts_S16384_S4x4096
  let main_v1 : IVec S4x4096x1 32 := broadcastInDim S4x4096x1 ![0, 1] bcast_S4x4096_S4x4096x1_0_1 main_v0
  let main_v2 : IVec S4 32 := iotaInDim S4 32 0
  let main_v3 : IVec S1x1x4 32 := broadcastInDim S1x1x4 ![2] bcast_S4_S1x1x4_2 main_v2
  let main_v4 : IVec S4x4096x4 32 := broadcastInDim S4x4096x4 ![0, 1, 2] bcast_S4x4096x1_S4x4096x4_0_1_2 main_v1
  let main_v5 : IVec S4x4096x4 32 := broadcastInDim S4x4096x4 ![0, 1, 2] bcast_S1x1x4_S4x4096x4_0_1_2 main_v3
  let main_v6 : IVec S4x4096x4 1 := cmpi .eq main_v4 main_v5
  let main_v7 : IVec S4x4096x4 32 := (extui 32 · natLt_1_32) main_v6
  let main_c : IVec S_ 32 := constantI S_ 32 0#32
  let main_v8 : IVec S4x4 32 := (fun x v => Host.reduce IntOp.addi x v reducesTo_S4x4096x4_S4x4_d1 h_S_) main_v7 main_c
  let main_c_0 : IVec S_ 32 := constantI S_ 32 1152#32
  let main_v9 : IVec S4x4 32 := broadcastInDim S4x4 ![] bcast_S_S4x4 main_c_0
  let main_v10 : IVec S4x4 1 := cmpi .sle main_v8 main_v9
  let main_c_1 : IVec S_ 32 := constantI S_ 32 0#32
  let main_v11 : IVec S4 32 := (fun x v => Host.reduce IntOp.addi x v reducesTo_S4x4_S4_d0 h_S_) main_v8 main_c_1
  let main_c_2 : IVec S_ 32 := constantI S_ 32 4096#32
  let main_v12 : IVec S4 32 := broadcastInDim S4 ![] bcast_S_S4 main_c_2
  let main_v13 : IVec S4 1 := cmpi .eq main_v11 main_v12
  let main_v14 : IVec S1x4 1 := broadcastInDim S1x4 ![1] bcast_S4_S1x4_1 main_v13
  let main_v15 : IVec S4x4 1 := broadcastInDim S4x4 ![0, 1] bcast_S1x4_S4x4_0_1 main_v14
  let main_v16 : IVec S4x4 1 := andi main_v10 main_v15
  main_v16
-- ==== Pre_fits_ReferenceIdeal.lean ====
abbrev S16384x1024 : Shape := ⟨2, ![16384, 1024]⟩
abbrev S16384 : Shape := ⟨1, ![16384]⟩
abbrev S4x4096 : Shape := ⟨2, ![4, 4096]⟩
abbrev S4x4096x1 : Shape := ⟨3, ![4, 4096, 1]⟩
abbrev S4 : Shape := ⟨1, ![4]⟩
abbrev S1x1x4 : Shape := ⟨3, ![1, 1, 4]⟩
abbrev S4x4096x4 : Shape := ⟨3, ![4, 4096, 4]⟩
abbrev S_ : Shape := ⟨0, ![]⟩
abbrev S4x4 : Shape := ⟨2, ![4, 4]⟩
abbrev S1x4 : Shape := ⟨2, ![1, 4]⟩

class Facts : Prop where
  shapeCasts_S16384_S4x4096 : S16384.ShapeCasts S4x4096
  bcast_S4x4096_S4x4096x1_0_1 : S4x4096.BroadcastsInDim S4x4096x1 (![0, 1] : Fin 2 → Fin S4x4096x1.rank)
  bcast_S4_S1x1x4_2 : S4.BroadcastsInDim S1x1x4 (![2] : Fin 1 → Fin S1x1x4.rank)
  bcast_S4x4096x1_S4x4096x4_0_1_2 : S4x4096x1.BroadcastsInDim S4x4096x4 (![0, 1, 2] : Fin 3 → Fin S4x4096x4.rank)
  bcast_S1x1x4_S4x4096x4_0_1_2 : S1x1x4.BroadcastsInDim S4x4096x4 (![0, 1, 2] : Fin 3 → Fin S4x4096x4.rank)
  natLt_1_32 : 1 < 32
  reducesTo_S4x4096x4_S4x4_d1 : S4x4096x4.ReducesTo [1] S4x4
  h_S_ : 0 < S_.numel
  bcast_S_S4x4 : S_.BroadcastsInDim S4x4 (![] : Fin 0 → Fin S4x4.rank)
  reducesTo_S4x4_S4_d0 : S4x4.ReducesTo [0] S4
  bcast_S_S4 : S_.BroadcastsInDim S4 (![] : Fin 0 → Fin S4.rank)
  bcast_S4_S1x4_1 : S4.BroadcastsInDim S1x4 (![1] : Fin 1 → Fin S1x4.rank)
  bcast_S1x4_S4x4_0_1 : S1x4.BroadcastsInDim S4x4 (![0, 1] : Fin 2 → Fin S4x4.rank)

variable [Facts]

def fn {F : FTy → Type} [FloatOps F] (main_arg0 : FVec F S16384x1024 .bf16) (main_arg1 : IVec S16384 32) : IVec S4x4 1 :=
  let main_v0 : IVec S4x4096 32 := shapeCast S4x4096 main_arg1 shapeCasts_S16384_S4x4096
  let main_v1 : IVec S4x4096x1 32 := broadcastInDim S4x4096x1 ![0, 1] bcast_S4x4096_S4x4096x1_0_1 main_v0
  let main_v2 : IVec S4 32 := iotaInDim S4 32 0
  let main_v3 : IVec S1x1x4 32 := broadcastInDim S1x1x4 ![2] bcast_S4_S1x1x4_2 main_v2
  let main_v4 : IVec S4x4096x4 32 := broadcastInDim S4x4096x4 ![0, 1, 2] bcast_S4x4096x1_S4x4096x4_0_1_2 main_v1
  let main_v5 : IVec S4x4096x4 32 := broadcastInDim S4x4096x4 ![0, 1, 2] bcast_S1x1x4_S4x4096x4_0_1_2 main_v3
  let main_v6 : IVec S4x4096x4 1 := cmpi .eq main_v4 main_v5
  let main_v7 : IVec S4x4096x4 32 := (extui 32 · natLt_1_32) main_v6
  let main_c : IVec S_ 32 := constantI S_ 32 0#32
  let main_v8 : IVec S4x4 32 := (fun x v => Host.reduce IntOp.addi x v reducesTo_S4x4096x4_S4x4_d1 h_S_) main_v7 main_c
  let main_c_0 : IVec S_ 32 := constantI S_ 32 1152#32
  let main_v9 : IVec S4x4 32 := broadcastInDim S4x4 ![] bcast_S_S4x4 main_c_0
  let main_v10 : IVec S4x4 1 := cmpi .sle main_v8 main_v9
  let main_c_1 : IVec S_ 32 := constantI S_ 32 0#32
  let main_v11 : IVec S4 32 := (fun x v => Host.reduce IntOp.addi x v reducesTo_S4x4_S4_d0 h_S_) main_v8 main_c_1
  let main_c_2 : IVec S_ 32 := constantI S_ 32 4096#32
  let main_v12 : IVec S4 32 := broadcastInDim S4 ![] bcast_S_S4 main_c_2
  let main_v13 : IVec S4 1 := cmpi .eq main_v11 main_v12
  let main_v14 : IVec S1x4 1 := broadcastInDim S1x4 ![1] bcast_S4_S1x4_1 main_v13
  let main_v15 : IVec S4x4 1 := broadcastInDim S4x4 ![0, 1] bcast_S1x4_S4x4_0_1 main_v14
  let main_v16 : IVec S4x4 1 := andi main_v10 main_v15
  main_v16
-- ==== Kernel.lean ====
abbrev S4096x1024 : Shape := ⟨2, ![4096, 1024]⟩
abbrev S16384 : Shape := ⟨1, ![16384]⟩
abbrev S_ : Shape := ⟨0, ![]⟩
abbrev S4096 : Shape := ⟨1, ![4096]⟩
abbrev S4x4096 : Shape := ⟨2, ![4, 4096]⟩
abbrev S4x4096x1 : Shape := ⟨3, ![4, 4096, 1]⟩
abbrev S4 : Shape := ⟨1, ![4]⟩
abbrev S1x1x4 : Shape := ⟨3, ![1, 1, 4]⟩
abbrev S4x4096x4 : Shape := ⟨3, ![4, 4096, 4]⟩
abbrev S4x4 : Shape := ⟨2, ![4, 4]⟩
abbrev S1x4 : Shape := ⟨2, ![1, 4]⟩
abbrev S4x1 : Shape := ⟨2, ![4, 1]⟩
abbrev S1 : Shape := ⟨1, ![1]⟩
abbrev S3 : Shape := ⟨1, ![3]⟩
abbrev S4096x8x128 : Shape := ⟨3, ![4096, 8, 128]⟩
abbrev S5248x8x128 : Shape := ⟨3, ![5248, 8, 128]⟩
abbrev S4x1152x8x128 : Shape := ⟨4, ![4, 1152, 8, 128]⟩
abbrev S1x8x128 : Shape := ⟨3, ![1, 8, 128]⟩
abbrev S1x1152x8x128 : Shape := ⟨4, ![1, 1152, 8, 128]⟩
abbrev S1152x8x128 : Shape := ⟨3, ![1152, 8, 128]⟩

abbrev nBuf : Space → Nat
  | .hbm => 62
  | .vmem => 4
  | .smem => 3
  | _ => 0

abbrev bufTy : (tb : Table) → Fin (tcTables nBuf tb) → BufTy
  | .hbm, ⟨0, _⟩ => ⟨S4096x1024, .bf16⟩
  | .hbm, ⟨1, _⟩ => ⟨S16384, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4x4096, .i32⟩
  | .hbm, ⟨17, _⟩ => ⟨S4x4096x1, .i32⟩
  | .hbm, ⟨18, _⟩ => ⟨S4, .i32⟩
  | .hbm, ⟨19, _⟩ => ⟨S1x1x4, .i32⟩
  | .hbm, ⟨20, _⟩ => ⟨S4x4096x4, .i32⟩
  | .hbm, ⟨21, _⟩ => ⟨S4x4096x4, .i32⟩
  | .hbm, ⟨22, _⟩ => ⟨S4x4096x4, .i1⟩
  | .hbm, ⟨23, _⟩ => ⟨S4x4096x4, .i32⟩
  | .hbm, ⟨24, _⟩ => ⟨S_, .i32⟩
  | .hbm, ⟨25, _⟩ => ⟨S4x4, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x4, .i32⟩
  | .hbm, ⟨33, _⟩ => ⟨S4, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S4x1, .i32⟩
  | .hbm, ⟨41, _⟩ => ⟨S4, .i32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S_, .i32⟩
  | .hbm, ⟨46, _⟩ => ⟨S4, .i32⟩
  | .hbm, ⟨47, _⟩ => ⟨S3, .i32⟩
  | .hbm, ⟨48, _⟩ => ⟨S4, .i32⟩
  | .hbm, ⟨49, _⟩ => ⟨S_, .i32⟩
  | .hbm, ⟨50, _⟩ => ⟨S_, .i32⟩
  | .hbm, ⟨51, _⟩ => ⟨S4, .i32⟩
  | .hbm, ⟨52, _⟩ => ⟨S3, .i32⟩
  | .hbm, ⟨53, _⟩ => ⟨S4, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x8x128, .bf16⟩
  | .hbm, ⟨58, _⟩ => ⟨S5248x8x128, .bf16⟩
  | .hbm, ⟨59, _⟩ => ⟨S4096x8x128, .bf16⟩
  | .hbm, ⟨60, _⟩ => ⟨S4096x1024, .bf16⟩
  | .hbm, ⟨61, _⟩ => ⟨S4096x1024, .f32⟩
  | .local _ .vmem, ⟨0, _⟩ => ⟨S4096x8x128, .bf16⟩
  | .local _ .vmem, ⟨1, _⟩ => ⟨S5248x8x128, .bf16⟩
  | .local _ .vmem, ⟨2, _⟩ => ⟨S5248x8x128, .bf16⟩
  | .local _ .vmem, ⟨3, _⟩ => ⟨S4x1152x8x128, .bf16⟩
  | .local _ .smem, ⟨0, _⟩ => ⟨S4096, .i32⟩
  | .local _ .smem, ⟨1, _⟩ => ⟨S4, .i32⟩
  | .local _ .smem, ⟨2, _⟩ => ⟨S4, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_c_5 : Ref sig .tc := ⟨.hbm, 26, rfl⟩
abbrev main_v19 : Ref sig .tc := ⟨.hbm, 27, rfl⟩
abbrev main_c_6 : Ref sig .tc := ⟨.hbm, 28, rfl⟩
abbrev main_v20 : Ref sig .tc := ⟨.hbm, 29, rfl⟩
abbrev main_v21 : Ref sig .tc := ⟨.hbm, 30, rfl⟩
abbrev main_c_7 : Ref sig .tc := ⟨.hbm, 31, rfl⟩
abbrev main_v22 : Ref sig .tc := ⟨.hbm, 32, rfl⟩
abbrev main_v23 : Ref sig .tc := ⟨.hbm, 33, rfl⟩
abbrev main_c_8 : Ref sig .tc := ⟨.hbm, 34, rfl⟩
abbrev main_v24 : Ref sig .tc := ⟨.hbm, 35, rfl⟩
abbrev main_c_9 : Ref sig .tc := ⟨.hbm, 36, rfl⟩
abbrev main_v25 : Ref sig .tc := ⟨.hbm, 37, rfl⟩
abbrev main_v26 : Ref sig .tc := ⟨.hbm, 38, rfl⟩
abbrev main_c_10 : Ref sig .tc := ⟨.hbm, 39, rfl⟩
abbrev main_v27 : Ref sig .tc := ⟨.hbm, 40, rfl⟩
abbrev main_v28 : Ref sig .tc := ⟨.hbm, 41, rfl⟩
abbrev main_c_11 : Ref sig .tc := ⟨.hbm, 42, rfl⟩
abbrev main_v29 : Ref sig .tc := ⟨.hbm, 43, rfl⟩
abbrev main_call0_call0_c : Ref sig .tc := ⟨.hbm, 44, rfl⟩
abbrev main_call0_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_call0_c : Ref sig .tc := ⟨.hbm, 49, rfl⟩
abbrev main_call1_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call2_v0 : Ref sig .tc := ⟨.hbm, 54, rfl⟩
abbrev main_call2_v1_0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg4_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_stg2_0 : Ref sig .tc := ⟨.smem, 1, rfl⟩
abbrev cc0_stg3_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier1 : Sem sig := 0

abbrev nD : Nat := 4
abbrev τ : Topo := Topo.v7x

variable {F : FTy → Type} [FloatOps F]

abbrev grid0 : Pipeline.Grid := .none

@[reducible] def k0_t1_loop : Scf.Loop 32 :=
  let c0_i32 : BitVec 32 := 0#32
  let c4096_i32 : BitVec 32 := 4096#32
  let v3 : BitVec 32 := Scalar.addi c0_i32 c4096_i32
  let c1_i32_0 : BitVec 32 := 1#32
  ⟨c0_i32, v3, c1_i32_0⟩
def k0_off1 (k0_t1 : Fin k0_t1_loop.trips) : Fin 1 → Nat :=
  let c0_i32 : BitVec 32 := 0#32
  let c1_i32_0 : BitVec 32 := 1#32
  let arg10 : BitVec 32 := Scf.iv c0_i32 c1_i32_0 k0_t1
  let v95 : Index := Scalar.indexCast arg10
  ![v95.toNat]
def k0_off2 (v96 : BitVec 32) : Fin 3 → Nat :=
  let v97 : Index := Scalar.indexCast v96
  let c0 : Index := 0#32
  let c0_77 : Index := 0#32
  ![v97.toNat, 0, 0]

def k0_chk1 (v96 : BitVec 32) : Prop :=
  (∀ a, (k0_off2 v96) a + S1x8x128.size a ≤ S4096x8x128.size a)
theorem k0_off2_inb : ∀ (v96 : BitVec 32) (k0_hw1 : k0_chk1 v96), ∀ a, (k0_off2 v96) a + S1x8x128.size a ≤ S4096x8x128.size a := fun v96 k0_hw1 => k0_hw1

def k0_off3 (k0_t1 : Fin k0_t1_loop.trips) : Fin 3 → Nat :=
  let c0_i32 : BitVec 32 := 0#32
  let c1_i32_0 : BitVec 32 := 1#32
  let arg10 : BitVec 32 := Scf.iv c0_i32 c1_i32_0 k0_t1
  let v100 : Index := Scalar.indexCast arg10
  let c0_78 : Index := 0#32
  let c0_79 : Index := 0#32
  ![v100.toNat, 0, 0]
def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.addi v2 c1_i32_2
  let c4_i32_3 : BitVec 32 := 4#32
  let v6 : BitVec 32 := Scalar.remsi v5 c4_i32_3
  let c1_i32_5 : BitVec 32 := 1#32
  let v7 : BitVec 32 := Scalar.muli v6 c1_i32_5
  let v8 : BitVec 32 := Scalar.addi c0_i32_6 v7
  v8.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v9 : BitVec 32 := Scalar.addi v2 c2_i32
  let c4_i32_7 : BitVec 32 := 4#32
  let v10 : BitVec 32 := Scalar.remsi v9 c4_i32_7
  let c1_i32_9 : BitVec 32 := 1#32
  let v11 : BitVec 32 := Scalar.muli v10 c1_i32_9
  let v12 : BitVec 32 := Scalar.addi c0_i32_10 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 32 := Scalar.addi v2 c3_i32
  let c4_i32_11 : BitVec 32 := 4#32
  let v14 : BitVec 32 := Scalar.remsi v13 c4_i32_11
  let c1_i32_13 : BitVec 32 := 1#32
  let v15 : BitVec 32 := Scalar.muli v14 c1_i32_13
  let v16 : BitVec 32 := Scalar.addi c0_i32_14 v15
  v16.toNat
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v17 : BitVec 32 := Scalar.addi v2 c1_i32_16
  let c4_i32_17 : BitVec 32 := 4#32
  let v18 : BitVec 32 := Scalar.remsi v17 c4_i32_17
  let v19 : Index := Scalar.indexCast v18
  ![v19.toNat]
def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v17 : BitVec 32 := Scalar.addi v2 c1_i32_16
  let c4_i32_17 : BitVec 32 := 4#32
  let v18 : BitVec 32 := Scalar.remsi v17 c4_i32_17
  ![v18.toNat]
def k0_off6 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_20 : BitVec 32 := 0#32
  let c0_i32_21 : BitVec 32 := 0#32
  let c0_i32_22 : BitVec 32 := 0#32
  ![v2.toNat, 0, 0, 0]
def k0_off8 (v20 : BitVec 32) : Fin 3 → Nat :=
  let c0_i32_23 : BitVec 32 := 0#32
  let c0_i32_24 : BitVec 32 := 0#32
  ![v20.toNat, 0, 0]

def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v17 : BitVec 32 := Scalar.addi v2 c1_i32_16
  let c4_i32_17 : BitVec 32 := 4#32
  let v18 : BitVec 32 := Scalar.remsi v17 c4_i32_17
  let c1_i32_18 : BitVec 32 := 1#32
  let v21 : BitVec 32 := Scalar.muli v18 c1_i32_18
  let v22 : BitVec 32 := Scalar.addi c0_i32_19 v21
  v22.toNat
def k0_off9 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_25 : BitVec 32 := 2#32
  let v30 : BitVec 32 := Scalar.addi v2 c2_i32_25
  let c4_i32_26 : BitVec 32 := 4#32
  let v31 : BitVec 32 := Scalar.remsi v30 c4_i32_26
  let v32 : Index := Scalar.indexCast v31
  ![v32.toNat]
def k0_off10 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_25 : BitVec 32 := 2#32
  let v30 : BitVec 32 := Scalar.addi v2 c2_i32_25
  let c4_i32_26 : BitVec 32 := 4#32
  let v31 : BitVec 32 := Scalar.remsi v30 c4_i32_26
  ![v31.toNat]
def k0_off11 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off12 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_29 : BitVec 32 := 0#32
  let c0_i32_30 : BitVec 32 := 0#32
  let c0_i32_31 : BitVec 32 := 0#32
  ![v2.toNat, 0, 0, 0]
def k0_off13 (v33 : BitVec 32) : Fin 3 → Nat :=
  let c0_i32_32 : BitVec 32 := 0#32
  let c0_i32_33 : BitVec 32 := 0#32
  ![v33.toNat, 0, 0]

def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_25 : BitVec 32 := 2#32
  let v30 : BitVec 32 := Scalar.addi v2 c2_i32_25
  let c4_i32_26 : BitVec 32 := 4#32
  let v31 : BitVec 32 := Scalar.remsi v30 c4_i32_26
  let c1_i32_27 : BitVec 32 := 1#32
  let v34 : BitVec 32 := Scalar.muli v31 c1_i32_27
  let v35 : BitVec 32 := Scalar.addi c0_i32_28 v34
  v35.toNat
def k0_off14 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v43 : BitVec 32 := Scalar.addi v2 c3_i32_34
  let c4_i32_35 : BitVec 32 := 4#32
  let v44 : BitVec 32 := Scalar.remsi v43 c4_i32_35
  let v45 : Index := Scalar.indexCast v44
  ![v45.toNat]
def k0_off15 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v43 : BitVec 32 := Scalar.addi v2 c3_i32_34
  let c4_i32_35 : BitVec 32 := 4#32
  let v44 : BitVec 32 := Scalar.remsi v43 c4_i32_35
  ![v44.toNat]
def k0_off16 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off17 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_38 : BitVec 32 := 0#32
  let c0_i32_39 : BitVec 32 := 0#32
  let c0_i32_40 : BitVec 32 := 0#32
  ![v2.toNat, 0, 0, 0]
def k0_off18 (v46 : BitVec 32) : Fin 3 → Nat :=
  let c0_i32_41 : BitVec 32 := 0#32
  let c0_i32_42 : BitVec 32 := 0#32
  ![v46.toNat, 0, 0]

def k0_chk4 (v46 : BitVec 32) : Prop :=
  (∀ a, (k0_off18 v46) a + S1152x8x128.size a ≤ S5248x8x128.size a) ∧
  (∀ (hinb : ∀ a, (k0_off18 v46) a + S1152x8x128.size a ≤ S5248x8x128.size a), (Rect.unit (s := S5248x8x128) (k0_off18 v46) S1152x8x128.size hinb).WholeWords (EltTy.packing .bf16))
theorem k0_off18_inb : ∀ (v46 : BitVec 32) (k0_hw4 : k0_chk4 v46), ∀ a, (k0_off18 v46) a + S1152x8x128.size a ≤ S5248x8x128.size a := fun v46 k0_hw4 => k0_hw4.1
theorem k0_off18_wordsbf16 : ∀ (v46 : BitVec 32) (k0_hw4 : k0_chk4 v46), (Rect.unit (s := S5248x8x128) (k0_off18 v46) S1152x8x128.size (k0_off18_inb v46 k0_hw4)).WholeWords (EltTy.packing .bf16) := fun v46 k0_hw4 => k0_hw4.2 (k0_off18_inb v46 k0_hw4)

def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v43 : BitVec 32 := Scalar.addi v2 c3_i32_34
  let c4_i32_35 : BitVec 32 := 4#32
  let v44 : BitVec 32 := Scalar.remsi v43 c4_i32_35
  let c1_i32_36 : BitVec 32 := 1#32
  let v47 : BitVec 32 := Scalar.muli v44 c1_i32_36
  let v48 : BitVec 32 := Scalar.addi c0_i32_37 v47
  v48.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_43 : BitVec 32 := 0#32
  let v56 : BitVec 1 := Scalar.cmpi .eq v2 c0_i32_43
  let v57 : BitVec 32 := Scalar.extui v56
  let c0_i32_44 : BitVec 32 := 0#32
  let v58 : BitVec 1 := Scalar.cmpi .ne v57 c0_i32_44
  v58

def k0_off19 (v96 : BitVec 32) : Fin 3 → Nat :=
  let c0_i32_78 : BitVec 32 := 0#32
  let c0_i32_79 : BitVec 32 := 0#32
  ![v96.toNat, 0, 0]

def k0_off20 (v95 : BitVec 32) : Fin 3 → Nat :=
  let c0_i32_80 : BitVec 32 := 0#32
  let c0_i32_81 : BitVec 32 := 0#32
  ![v95.toNat, 0, 0]

def k0_chk6 (d0 : Dev nD) (v95 : BitVec 32) : Prop :=
  (∀ (k0_h1 : k0_cond1 d0 = 1#1), ∀ a, (k0_off20 v95) a + S1152x8x128.size a ≤ S5248x8x128.size a) ∧
  (∀ (k0_h1 : k0_cond1 d0 = 1#1), ∀ (hinb : ∀ a, (k0_off20 v95) a + S1152x8x128.size a ≤ S5248x8x128.size a), (Rect.unit (s := S5248x8x128) (k0_off20 v95) S1152x8x128.size hinb).WholeWords (EltTy.packing .bf16))
theorem k0_off20_inb : ∀ (d0 : Dev nD) (v95 : BitVec 32) (k0_hw6 : k0_chk6 d0 v95), ∀ (k0_h1 : k0_cond1 d0 = 1#1), ∀ a, (k0_off20 v95) a + S1152x8x128.size a ≤ S5248x8x128.size a := fun d0 v95 k0_hw6 k0_h1 => k0_hw6.1 k0_h1
theorem k0_off20_wordsbf16 : ∀ (d0 : Dev nD) (v95 : BitVec 32) (k0_hw6 : k0_chk6 d0 v95), ∀ (k0_h1 : k0_cond1 d0 = 1#1), (Rect.unit (s := S5248x8x128) (k0_off20 v95) S1152x8x128.size (k0_off20_inb d0 v95 k0_hw6 k0_h1)).WholeWords (EltTy.packing .bf16) := fun d0 v95 k0_hw6 k0_h1 => k0_hw6.2 k0_h1 (k0_off20_inb d0 v95 k0_hw6 k0_h1)

def k0_off21 (v96 : BitVec 32) : Fin 3 → Nat :=
  let c0_i32_82 : BitVec 32 := 0#32
  let c0_i32_83 : BitVec 32 := 0#32
  ![v96.toNat, 0, 0]

def k0_chk5 (d0 : Dev nD) (v96 : BitVec 32) : Prop :=
  (∀ (k0_h1 : k0_cond1 d0 = 1#1), ∀ a, (k0_off19 v96) a + S1152x8x128.size a ≤ S5248x8x128.size a) ∧
  (∀ (k0_h1 : k0_cond1 d0 = 1#1), ∀ (hinb : ∀ a, (k0_off19 v96) a + S1152x8x128.size a ≤ S5248x8x128.size a), (Rect.unit (s := S5248x8x128) (k0_off19 v96) S1152x8x128.size hinb).WholeWords (EltTy.packing .bf16)) ∧
  (∀ (k0_h1 : k0_cond1 d0 = 1#1), ∀ a, (k0_off21 v96) a + S1152x8x128.size a ≤ S5248x8x128.size a) ∧
  (∀ (k0_h1 : k0_cond1 d0 = 1#1), ∀ (hinb : ∀ a, (k0_off21 v96) a + S1152x8x128.size a ≤ S5248x8x128.size a), (Rect.unit (s := S5248x8x128) (k0_off21 v96) S1152x8x128.size hinb).WholeWords (EltTy.packing .bf16))
theorem k0_off19_inb : ∀ (d0 : Dev nD) (v96 : BitVec 32) (k0_hw5 : k0_chk5 d0 v96), ∀ (k0_h1 : k0_cond1 d0 = 1#1), ∀ a, (k0_off19 v96) a + S1152x8x128.size a ≤ S5248x8x128.size a := fun d0 v96 k0_hw5 k0_h1 => k0_hw5.1 k0_h1
theorem k0_off19_wordsbf16 : ∀ (d0 : Dev nD) (v96 : BitVec 32) (k0_hw5 : k0_chk5 d0 v96), ∀ (k0_h1 : k0_cond1 d0 = 1#1), (Rect.unit (s := S5248x8x128) (k0_off19 v96) S1152x8x128.size (k0_off19_inb d0 v96 k0_hw5 k0_h1)).WholeWords (EltTy.packing .bf16) := fun d0 v96 k0_hw5 k0_h1 => k0_hw5.2.1 k0_h1 (k0_off19_inb d0 v96 k0_hw5 k0_h1)
theorem k0_off21_inb : ∀ (d0 : Dev nD) (v96 : BitVec 32) (k0_hw5 : k0_chk5 d0 v96), ∀ (k0_h1 : k0_cond1 d0 = 1#1), ∀ a, (k0_off21 v96) a + S1152x8x128.size a ≤ S5248x8x128.size a := fun d0 v96 k0_hw5 k0_h1 => k0_hw5.2.2.1 k0_h1
theorem k0_off21_wordsbf16 : ∀ (d0 : Dev nD) (v96 : BitVec 32) (k0_hw5 : k0_chk5 d0 v96), ∀ (k0_h1 : k0_cond1 d0 = 1#1), (Rect.unit (s := S5248x8x128) (k0_off21 v96) S1152x8x128.size (k0_off21_inb d0 v96 k0_hw5 k0_h1)).WholeWords (EltTy.packing .bf16) := fun d0 v96 k0_hw5 k0_h1 => k0_hw5.2.2.2 k0_h1 (k0_off21_inb d0 v96 k0_hw5 k0_h1)

def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_45 : BitVec 32 := 0#32
  let v59 : BitVec 1 := Scalar.cmpi .ne v2 c0_i32_45
  let v60 : BitVec 32 := Scalar.extui v59
  let c0_i32_46 : BitVec 32 := 0#32
  let v61 : BitVec 1 := Scalar.cmpi .ne v60 c0_i32_46
  v61

def k0_off22 (v103 : BitVec 32) : Fin 3 → Nat :=
  let c0_i32_90 : BitVec 32 := 0#32
  let c0_i32_91 : BitVec 32 := 0#32
  ![v103.toNat, 0, 0]

def k0_chk7 (d0 : Dev nD) (v103 : BitVec 32) : Prop :=
  (∀ (k0_h2 : k0_cond2 d0 = 1#1), ∀ a, (k0_off22 v103) a + S1152x8x128.size a ≤ S5248x8x128.size a) ∧
  (∀ (k0_h2 : k0_cond2 d0 = 1#1), ∀ (hinb : ∀ a, (k0_off22 v103) a + S1152x8x128.size a ≤ S5248x8x128.size a), (Rect.unit (s := S5248x8x128) (k0_off22 v103) S1152x8x128.size hinb).WholeWords (EltTy.packing .bf16))
theorem k0_off22_inb : ∀ (d0 : Dev nD) (v103 : BitVec 32) (k0_hw7 : k0_chk7 d0 v103), ∀ (k0_h2 : k0_cond2 d0 = 1#1), ∀ a, (k0_off22 v103) a + S1152x8x128.size a ≤ S5248x8x128.size a := fun d0 v103 k0_hw7 k0_h2 => k0_hw7.1 k0_h2
theorem k0_off22_wordsbf16 : ∀ (d0 : Dev nD) (v103 : BitVec 32) (k0_hw7 : k0_chk7 d0 v103), ∀ (k0_h2 : k0_cond2 d0 = 1#1), (Rect.unit (s := S5248x8x128) (k0_off22 v103) S1152x8x128.size (k0_off22_inb d0 v103 k0_hw7 k0_h2)).WholeWords (EltTy.packing .bf16) := fun d0 v103 k0_hw7 k0_h2 => k0_hw7.2 k0_h2 (k0_off22_inb d0 v103 k0_hw7 k0_h2)

def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_47 : BitVec 32 := 1#32
  let v62 : BitVec 1 := Scalar.cmpi .eq v2 c1_i32_47
  let v63 : BitVec 32 := Scalar.extui v62
  let c0_i32_48 : BitVec 32 := 0#32
  let v64 : BitVec 1 := Scalar.cmpi .ne v63 c0_i32_48
  v64

def k0_off23 (v96 : BitVec 32) : Fin 3 → Nat :=
  let c0_i32_78 : BitVec 32 := 0#32
  let c0_i32_79 : BitVec 32 := 0#32
  ![v96.toNat, 0, 0]

def k0_off24 (v95 : BitVec 32) : Fin 3 → Nat :=
  let c0_i32_80 : BitVec 32 := 0#32
  let c0_i32_81 : BitVec 32 := 0#32
  ![v95.toNat, 0, 0]

def k0_chk9 (d0 : Dev nD) (v95 : BitVec 32) : Prop :=
  (∀ (k0_h3 : k0_cond3 d0 = 1#1), ∀ a, (k0_off24 v95) a + S1152x8x128.size a ≤ S5248x8x128.size a) ∧
  (∀ (k0_h3 : k0_cond3 d0 = 1#1), ∀ (hinb : ∀ a, (k0_off24 v95) a + S1152x8x128.size a ≤ S5248x8x128.size a), (Rect.unit (s := S5248x8x128) (k0_off24 v95) S1152x8x128.size hinb).WholeWords (EltTy.packing .bf16))
theorem k0_off24_inb : ∀ (d0 : Dev nD) (v95 : BitVec 32) (k0_hw9 : k0_chk9 d0 v95), ∀ (k0_h3 : k0_cond3 d0 = 1#1), ∀ a, (k0_off24 v95) a + S1152x8x128.size a ≤ S5248x8x128.size a := fun d0 v95 k0_hw9 k0_h3 => k0_hw9.1 k0_h3
theorem k0_off24_wordsbf16 : ∀ (d0 : Dev nD) (v95 : BitVec 32) (k0_hw9 : k0_chk9 d0 v95), ∀ (k0_h3 : k0_cond3 d0 = 1#1), (Rect.unit (s := S5248x8x128) (k0_off24 v95) S1152x8x128.size (k0_off24_inb d0 v95 k0_hw9 k0_h3)).WholeWords (EltTy.packing .bf16) := fun d0 v95 k0_hw9 k0_h3 => k0_hw9.2 k0_h3 (k0_off24_inb d0 v95 k0_hw9 k0_h3)

def k0_off25 (v96 : BitVec 32) : Fin 3 → Nat :=
  let c0_i32_82 : BitVec 32 := 0#32
  let c0_i32_83 : BitVec 32 := 0#32
  ![v96.toNat, 0, 0]

def k0_chk8 (d0 : Dev nD) (v96 : BitVec 32) : Prop :=
  (∀ (k0_h3 : k0_cond3 d0 = 1#1), ∀ a, (k0_off23 v96) a + S1152x8x128.size a ≤ S5248x8x128.size a) ∧
  (∀ (k0_h3 : k0_cond3 d0 = 1#1), ∀ (hinb : ∀ a, (k0_off23 v96) a + S1152x8x128.size a ≤ S5248x8x128.size a), (Rect.unit (s := S5248x8x128) (k0_off23 v96) S1152x8x128.size hinb).WholeWords (EltTy.packing .bf16)) ∧
  (∀ (k0_h3 : k0_cond3 d0 = 1#1), ∀ a, (k0_off25 v96) a + S1152x8x128.size a ≤ S5248x8x128.size a) ∧
  (∀ (k0_h3 : k0_cond3 d0 = 1#1), ∀ (hinb : ∀ a, (k0_off25 v96) a + S1152x8x128.size a ≤ S5248x8x128.size a), (Rect.unit (s := S5248x8x128) (k0_off25 v96) S1152x8x128.size hinb).WholeWords (EltTy.packing .bf16))
theorem k0_off23_inb : ∀ (d0 : Dev nD) (v96 : BitVec 32) (k0_hw8 : k0_chk8 d0 v96), ∀ (k0_h3 : k0_cond3 d0 = 1#1), ∀ a, (k0_off23 v96) a + S1152x8x128.size a ≤ S5248x8x128.size a := fun d0 v96 k0_hw8 k0_h3 => k0_hw8.1 k0_h3
theorem k0_off23_wordsbf16 : ∀ (d0 : Dev nD) (v96 : BitVec 32) (k0_hw8 : k0_chk8 d0 v96), ∀ (k0_h3 : k0_cond3 d0 = 1#1), (Rect.unit (s := S5248x8x128) (k0_off23 v96) S1152x8x128.size (k0_off23_inb d0 v96 k0_hw8 k0_h3)).WholeWords (EltTy.packing .bf16) := fun d0 v96 k0_hw8 k0_h3 => k0_hw8.2.1 k0_h3 (k0_off23_inb d0 v96 k0_hw8 k0_h3)
theorem k0_off25_inb : ∀ (d0 : Dev nD) (v96 : BitVec 32) (k0_hw8 : k0_chk8 d0 v96), ∀ (k0_h3 : k0_cond3 d0 = 1#1), ∀ a, (k0_off25 v96) a + S1152x8x128.size a ≤ S5248x8x128.size a := fun d0 v96 k0_hw8 k0_h3 => k0_hw8.2.2.1 k0_h3
theorem k0_off25_wordsbf16 : ∀ (d0 : Dev nD) (v96 : BitVec 32) (k0_hw8 : k0_chk8 d0 v96), ∀ (k0_h3 : k0_cond3 d0 = 1#1), (Rect.unit (s := S5248x8x128) (k0_off25 v96) S1152x8x128.size (k0_off25_inb d0 v96 k0_hw8 k0_h3)).WholeWords (EltTy.packing .bf16) := fun d0 v96 k0_hw8 k0_h3 => k0_hw8.2.2.2 k0_h3 (k0_off25_inb d0 v96 k0_hw8 k0_h3)

def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v65 : BitVec 1 := Scalar.cmpi .ne v2 c1_i32_49
  let v66 : BitVec 32 := Scalar.extui v65
  let c0_i32_50 : BitVec 32 := 0#32
  let v67 : BitVec 1 := Scalar.cmpi .ne v66 c0_i32_50
  v67

def k0_off26 (v103 : BitVec 32) : Fin 3 → Nat :=
  let c0_i32_90 : BitVec 32 := 0#32
  let c0_i32_91 : BitVec 32 := 0#32
  ![v103.toNat, 0, 0]

def k0_chk10 (d0 : Dev nD) (v103 : BitVec 32) : Prop :=
  (∀ (k0_h4 : k0_cond4 d0 = 1#1), ∀ a, (k0_off26 v103) a + S1152x8x128.size a ≤ S5248x8x128.size a) ∧
  (∀ (k0_h4 : k0_cond4 d0 = 1#1), ∀ (hinb : ∀ a, (k0_off26 v103) a + S1152x8x128.size a ≤ S5248x8x128.size a), (Rect.unit (s := S5248x8x128) (k0_off26 v103) S1152x8x128.size hinb).WholeWords (EltTy.packing .bf16))
theorem k0_off26_inb : ∀ (d0 : Dev nD) (v103 : BitVec 32) (k0_hw10 : k0_chk10 d0 v103), ∀ (k0_h4 : k0_cond4 d0 = 1#1), ∀ a, (k0_off26 v103) a + S1152x8x128.size a ≤ S5248x8x128.size a := fun d0 v103 k0_hw10 k0_h4 => k0_hw10.1 k0_h4
theorem k0_off26_wordsbf16 : ∀ (d0 : Dev nD) (v103 : BitVec 32) (k0_hw10 : k0_chk10 d0 v103), ∀ (k0_h4 : k0_cond4 d0 = 1#1), (Rect.unit (s := S5248x8x128) (k0_off26 v103) S1152x8x128.size (k0_off26_inb d0 v103 k0_hw10 k0_h4)).WholeWords (EltTy.packing .bf16) := fun d0 v103 k0_hw10 k0_h4 => k0_hw10.2 k0_h4 (k0_off26_inb d0 v103 k0_hw10 k0_h4)

def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v68 : BitVec 1 := Scalar.cmpi .eq v2 c2_i32_51
  let v69 : BitVec 32 := Scalar.extui v68
  let c0_i32_52 : BitVec 32 := 0#32
  let v70 : BitVec 1 := Scalar.cmpi .ne v69 c0_i32_52
  v70

def k0_off27 (v96 : BitVec 32) : Fin 3 → Nat :=
  let c0_i32_78 : BitVec 32 := 0#32
  let c0_i32_79 : BitVec 32 := 0#32
  ![v96.toNat, 0, 0]

def k0_off28 (v95 : BitVec 32) : Fin 3 → Nat :=
  let c0_i32_80 : BitVec 32 := 0#32
  let c0_i32_81 : BitVec 32 := 0#32
  ![v95.toNat, 0, 0]

def k0_chk12 (d0 : Dev nD) (v95 : BitVec 32) : Prop :=
  (∀ (k0_h5 : k0_cond5 d0 = 1#1), ∀ a, (k0_off28 v95) a + S1152x8x128.size a ≤ S5248x8x128.size a) ∧
  (∀ (k0_h5 : k0_cond5 d0 = 1#1), ∀ (hinb : ∀ a, (k0_off28 v95) a + S1152x8x128.size a ≤ S5248x8x128.size a), (Rect.unit (s := S5248x8x128) (k0_off28 v95) S1152x8x128.size hinb).WholeWords (EltTy.packing .bf16))
theorem k0_off28_inb : ∀ (d0 : Dev nD) (v95 : BitVec 32) (k0_hw12 : k0_chk12 d0 v95), ∀ (k0_h5 : k0_cond5 d0 = 1#1), ∀ a, (k0_off28 v95) a + S1152x8x128.size a ≤ S5248x8x128.size a := fun d0 v95 k0_hw12 k0_h5 => k0_hw12.1 k0_h5
theorem k0_off28_wordsbf16 : ∀ (d0 : Dev nD) (v95 : BitVec 32) (k0_hw12 : k0_chk12 d0 v95), ∀ (k0_h5 : k0_cond5 d0 = 1#1), (Rect.unit (s := S5248x8x128) (k0_off28 v95) S1152x8x128.size (k0_off28_inb d0 v95 k0_hw12 k0_h5)).WholeWords (EltTy.packing .bf16) := fun d0 v95 k0_hw12 k0_h5 => k0_hw12.2 k0_h5 (k0_off28_inb d0 v95 k0_hw12 k0_h5)

def k0_off29 (v96 : BitVec 32) : Fin 3 → Nat :=
  let c0_i32_82 : BitVec 32 := 0#32
  let c0_i32_83 : BitVec 32 := 0#32
  ![v96.toNat, 0, 0]

def k0_chk11 (d0 : Dev nD) (v96 : BitVec 32) : Prop :=
  (∀ (k0_h5 : k0_cond5 d0 = 1#1), ∀ a, (k0_off27 v96) a + S1152x8x128.size a ≤ S5248x8x128.size a) ∧
  (∀ (k0_h5 : k0_cond5 d0 = 1#1), ∀ (hinb : ∀ a, (k0_off27 v96) a + S1152x8x128.size a ≤ S5248x8x128.size a), (Rect.unit (s := S5248x8x128) (k0_off27 v96) S1152x8x128.size hinb).WholeWords (EltTy.packing .bf16)) ∧
  (∀ (k0_h5 : k0_cond5 d0 = 1#1), ∀ a, (k0_off29 v96) a + S1152x8x128.size a ≤ S5248x8x128.size a) ∧
  (∀ (k0_h5 : k0_cond5 d0 = 1#1), ∀ (hinb : ∀ a, (k0_off29 v96) a + S1152x8x128.size a ≤ S5248x8x128.size a), (Rect.unit (s := S5248x8x128) (k0_off29 v96) S1152x8x128.size hinb).WholeWords (EltTy.packing .bf16))
theorem k0_off27_inb : ∀ (d0 : Dev nD) (v96 : BitVec 32) (k0_hw11 : k0_chk11 d0 v96), ∀ (k0_h5 : k0_cond5 d0 = 1#1), ∀ a, (k0_off27 v96) a + S1152x8x128.size a ≤ S5248x8x128.size a := fun d0 v96 k0_hw11 k0_h5 => k0_hw11.1 k0_h5
theorem k0_off27_wordsbf16 : ∀ (d0 : Dev nD) (v96 : BitVec 32) (k0_hw11 : k0_chk11 d0 v96), ∀ (k0_h5 : k0_cond5 d0 = 1#1), (Rect.unit (s := S5248x8x128) (k0_off27 v96) S1152x8x128.size (k0_off27_inb d0 v96 k0_hw11 k0_h5)).WholeWords (EltTy.packing .bf16) := fun d0 v96 k0_hw11 k0_h5 => k0_hw11.2.1 k0_h5 (k0_off27_inb d0 v96 k0_hw11 k0_h5)
theorem k0_off29_inb : ∀ (d0 : Dev nD) (v96 : BitVec 32) (k0_hw11 : k0_chk11 d0 v96), ∀ (k0_h5 : k0_cond5 d0 = 1#1), ∀ a, (k0_off29 v96) a + S1152x8x128.size a ≤ S5248x8x128.size a := fun d0 v96 k0_hw11 k0_h5 => k0_hw11.2.2.1 k0_h5
theorem k0_off29_wordsbf16 : ∀ (d0 : Dev nD) (v96 : BitVec 32) (k0_hw11 : k0_chk11 d0 v96), ∀ (k0_h5 : k0_cond5 d0 = 1#1), (Rect.unit (s := S5248x8x128) (k0_off29 v96) S1152x8x128.size (k0_off29_inb d0 v96 k0_hw11 k0_h5)).WholeWords (EltTy.packing .bf16) := fun d0 v96 k0_hw11 k0_h5 => k0_hw11.2.2.2 k0_h5 (k0_off29_inb d0 v96 k0_hw11 k0_h5)

def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_53 : BitVec 32 := 2#32
  let v71 : BitVec 1 := Scalar.cmpi .ne v2 c2_i32_53
  let v72 : BitVec 32 := Scalar.extui v71
  let c0_i32_54 : BitVec 32 := 0#32
  let v73 : BitVec 1 := Scalar.cmpi .ne v72 c0_i32_54
  v73

def k0_off30 (v103 : BitVec 32) : Fin 3 → Nat :=
  let c0_i32_90 : BitVec 32 := 0#32
  let c0_i32_91 : BitVec 32 := 0#32
  ![v103.toNat, 0, 0]

def k0_chk13 (d0 : Dev nD) (v103 : BitVec 32) : Prop :=
  (∀ (k0_h6 : k0_cond6 d0 = 1#1), ∀ a, (k0_off30 v103) a + S1152x8x128.size a ≤ S5248x8x128.size a) ∧
  (∀ (k0_h6 : k0_cond6 d0 = 1#1), ∀ (hinb : ∀ a, (k0_off30 v103) a + S1152x8x128.size a ≤ S5248x8x128.size a), (Rect.unit (s := S5248x8x128) (k0_off30 v103) S1152x8x128.size hinb).WholeWords (EltTy.packing .bf16))
theorem k0_off30_inb : ∀ (d0 : Dev nD) (v103 : BitVec 32) (k0_hw13 : k0_chk13 d0 v103), ∀ (k0_h6 : k0_cond6 d0 = 1#1), ∀ a, (k0_off30 v103) a + S1152x8x128.size a ≤ S5248x8x128.size a := fun d0 v103 k0_hw13 k0_h6 => k0_hw13.1 k0_h6
theorem k0_off30_wordsbf16 : ∀ (d0 : Dev nD) (v103 : BitVec 32) (k0_hw13 : k0_chk13 d0 v103), ∀ (k0_h6 : k0_cond6 d0 = 1#1), (Rect.unit (s := S5248x8x128) (k0_off30 v103) S1152x8x128.size (k0_off30_inb d0 v103 k0_hw13 k0_h6)).WholeWords (EltTy.packing .bf16) := fun d0 v103 k0_hw13 k0_h6 => k0_hw13.2 k0_h6 (k0_off30_inb d0 v103 k0_hw13 k0_h6)

def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_55 : BitVec 32 := 3#32
  let v74 : BitVec 1 := Scalar.cmpi .eq v2 c3_i32_55
  let v75 : BitVec 32 := Scalar.extui v74
  let c0_i32_56 : BitVec 32 := 0#32
  let v76 : BitVec 1 := Scalar.cmpi .ne v75 c0_i32_56
  v76

def k0_off31 (v96 : BitVec 32) : Fin 3 → Nat :=
  let c0_i32_78 : BitVec 32 := 0#32
  let c0_i32_79 : BitVec 32 := 0#32
  ![v96.toNat, 0, 0]

def k0_off32 (v95 : BitVec 32) : Fin 3 → Nat :=
  let c0_i32_80 : BitVec 32 := 0#32
  let c0_i32_81 : BitVec 32 := 0#32
  ![v95.toNat, 0, 0]

def k0_chk15 (d0 : Dev nD) (v95 : BitVec 32) : Prop :=
  (∀ (k0_h7 : k0_cond7 d0 = 1#1), ∀ a, (k0_off32 v95) a + S1152x8x128.size a ≤ S5248x8x128.size a) ∧
  (∀ (k0_h7 : k0_cond7 d0 = 1#1), ∀ (hinb : ∀ a, (k0_off32 v95) a + S1152x8x128.size a ≤ S5248x8x128.size a), (Rect.unit (s := S5248x8x128) (k0_off32 v95) S1152x8x128.size hinb).WholeWords (EltTy.packing .bf16))
theorem k0_off32_inb : ∀ (d0 : Dev nD) (v95 : BitVec 32) (k0_hw15 : k0_chk15 d0 v95), ∀ (k0_h7 : k0_cond7 d0 = 1#1), ∀ a, (k0_off32 v95) a + S1152x8x128.size a ≤ S5248x8x128.size a := fun d0 v95 k0_hw15 k0_h7 => k0_hw15.1 k0_h7
theorem k0_off32_wordsbf16 : ∀ (d0 : Dev nD) (v95 : BitVec 32) (k0_hw15 : k0_chk15 d0 v95), ∀ (k0_h7 : k0_cond7 d0 = 1#1), (Rect.unit (s := S5248x8x128) (k0_off32 v95) S1152x8x128.size (k0_off32_inb d0 v95 k0_hw15 k0_h7)).WholeWords (EltTy.packing .bf16) := fun d0 v95 k0_hw15 k0_h7 => k0_hw15.2 k0_h7 (k0_off32_inb d0 v95 k0_hw15 k0_h7)

def k0_off33 (v96 : BitVec 32) : Fin 3 → Nat :=
  let c0_i32_82 : BitVec 32 := 0#32
  let c0_i32_83 : BitVec 32 := 0#32
  ![v96.toNat, 0, 0]

def k0_chk14 (d0 : Dev nD) (v96 : BitVec 32) : Prop :=
  (∀ (k0_h7 : k0_cond7 d0 = 1#1), ∀ a, (k0_off31 v96) a + S1152x8x128.size a ≤ S5248x8x128.size a) ∧
  (∀ (k0_h7 : k0_cond7 d0 = 1#1), ∀ (hinb : ∀ a, (k0_off31 v96) a + S1152x8x128.size a ≤ S5248x8x128.size a), (Rect.unit (s := S5248x8x128) (k0_off31 v96) S1152x8x128.size hinb).WholeWords (EltTy.packing .bf16)) ∧
  (∀ (k0_h7 : k0_cond7 d0 = 1#1), ∀ a, (k0_off33 v96) a + S1152x8x128.size a ≤ S5248x8x128.size a) ∧
  (∀ (k0_h7 : k0_cond7 d0 = 1#1), ∀ (hinb : ∀ a, (k0_off33 v96) a + S1152x8x128.size a ≤ S5248x8x128.size a), (Rect.unit (s := S5248x8x128) (k0_off33 v96) S1152x8x128.size hinb).WholeWords (EltTy.packing .bf16))
theorem k0_off31_inb : ∀ (d0 : Dev nD) (v96 : BitVec 32) (k0_hw14 : k0_chk14 d0 v96), ∀ (k0_h7 : k0_cond7 d0 = 1#1), ∀ a, (k0_off31 v96) a + S1152x8x128.size a ≤ S5248x8x128.size a := fun d0 v96 k0_hw14 k0_h7 => k0_hw14.1 k0_h7
theorem k0_off31_wordsbf16 : ∀ (d0 : Dev nD) (v96 : BitVec 32) (k0_hw14 : k0_chk14 d0 v96), ∀ (k0_h7 : k0_cond7 d0 = 1#1), (Rect.unit (s := S5248x8x128) (k0_off31 v96) S1152x8x128.size (k0_off31_inb d0 v96 k0_hw14 k0_h7)).WholeWords (EltTy.packing .bf16) := fun d0 v96 k0_hw14 k0_h7 => k0_hw14.2.1 k0_h7 (k0_off31_inb d0 v96 k0_hw14 k0_h7)
theorem k0_off33_inb : ∀ (d0 : Dev nD) (v96 : BitVec 32) (k0_hw14 : k0_chk14 d0 v96), ∀ (k0_h7 : k0_cond7 d0 = 1#1), ∀ a, (k0_off33 v96) a + S1152x8x128.size a ≤ S5248x8x128.size a := fun d0 v96 k0_hw14 k0_h7 => k0_hw14.2.2.1 k0_h7
theorem k0_off33_wordsbf16 : ∀ (d0 : Dev nD) (v96 : BitVec 32) (k0_hw14 : k0_chk14 d0 v96), ∀ (k0_h7 : k0_cond7 d0 = 1#1), (Rect.unit (s := S5248x8x128) (k0_off33 v96) S1152x8x128.size (k0_off33_inb d0 v96 k0_hw14 k0_h7)).WholeWords (EltTy.packing .bf16) := fun d0 v96 k0_hw14 k0_h7 => k0_hw14.2.2.2 k0_h7 (k0_off33_inb d0 v96 k0_hw14 k0_h7)

def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_57 : BitVec 32 := 3#32
  let v77 : BitVec 1 := Scalar.cmpi .ne v2 c3_i32_57
  let v78 : BitVec 32 := Scalar.extui v77
  let c0_i32_58 : BitVec 32 := 0#32
  let v79 : BitVec 1 := Scalar.cmpi .ne v78 c0_i32_58
  v79

def k0_off34 (v103 : BitVec 32) : Fin 3 → Nat :=
  let c0_i32_90 : BitVec 32 := 0#32
  let c0_i32_91 : BitVec 32 := 0#32
  ![v103.toNat, 0, 0]

def k0_chk16 (d0 : Dev nD) (v103 : BitVec 32) : Prop :=
  (∀ (k0_h8 : k0_cond8 d0 = 1#1), ∀ a, (k0_off34 v103) a + S1152x8x128.size a ≤ S5248x8x128.size a) ∧
  (∀ (k0_h8 : k0_cond8 d0 = 1#1), ∀ (hinb : ∀ a, (k0_off34 v103) a + S1152x8x128.size a ≤ S5248x8x128.size a), (Rect.unit (s := S5248x8x128) (k0_off34 v103) S1152x8x128.size hinb).WholeWords (EltTy.packing .bf16))
theorem k0_off34_inb : ∀ (d0 : Dev nD) (v103 : BitVec 32) (k0_hw16 : k0_chk16 d0 v103), ∀ (k0_h8 : k0_cond8 d0 = 1#1), ∀ a, (k0_off34 v103) a + S1152x8x128.size a ≤ S5248x8x128.size a := fun d0 v103 k0_hw16 k0_h8 => k0_hw16.1 k0_h8
theorem k0_off34_wordsbf16 : ∀ (d0 : Dev nD) (v103 : BitVec 32) (k0_hw16 : k0_chk16 d0 v103), ∀ (k0_h8 : k0_cond8 d0 = 1#1), (Rect.unit (s := S5248x8x128) (k0_off34 v103) S1152x8x128.size (k0_off34_inb d0 v103 k0_hw16 k0_h8)).WholeWords (EltTy.packing .bf16) := fun d0 v103 k0_hw16 k0_h8 => k0_hw16.2 k0_h8 (k0_off34_inb d0 v103 k0_hw16 k0_h8)

def k0_off35 (d0 : Dev nD) (c1_i32_16 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c1_i32_16
  let c4_i32_17 : BitVec 32 := 4#32
  let v18 : BitVec 32 := Scalar.remsi v17 c4_i32_17
  ![v18.toNat]
def k0_off36 (v20 : BitVec 32) : Fin 3 → Nat :=
  let c0_i32_60 : BitVec 32 := 0#32
  let c0_i32_61 : BitVec 32 := 0#32
  ![v20.toNat, 0, 0]
def k0_off37 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_62 : BitVec 32 := 0#32
  let c0_i32_63 : BitVec 32 := 0#32
  let c0_i32_64 : BitVec 32 := 0#32
  ![v2.toNat, 0, 0, 0]

def k0_chk2 (v20 : BitVec 32) : Prop :=
  (∀ a, (k0_off8 v20) a + S1152x8x128.size a ≤ S5248x8x128.size a) ∧
  (∀ (hinb : ∀ a, (k0_off8 v20) a + S1152x8x128.size a ≤ S5248x8x128.size a), (Rect.unit (s := S5248x8x128) (k0_off8 v20) S1152x8x128.size hinb).WholeWords (EltTy.packing .bf16)) ∧
  (∀ a, (k0_off36 v20) a + S1152x8x128.size a ≤ S5248x8x128.size a) ∧
  (∀ (hinb : ∀ a, (k0_off36 v20) a + S1152x8x128.size a ≤ S5248x8x128.size a), (Rect.unit (s := S5248x8x128) (k0_off36 v20) S1152x8x128.size hinb).WholeWords (EltTy.packing .bf16))
theorem k0_off8_inb : ∀ (v20 : BitVec 32) (k0_hw2 : k0_chk2 v20), ∀ a, (k0_off8 v20) a + S1152x8x128.size a ≤ S5248x8x128.size a := fun v20 k0_hw2 => k0_hw2.1
theorem k0_off8_wordsbf16 : ∀ (v20 : BitVec 32) (k0_hw2 : k0_chk2 v20), (Rect.unit (s := S5248x8x128) (k0_off8 v20) S1152x8x128.size (k0_off8_inb v20 k0_hw2)).WholeWords (EltTy.packing .bf16) := fun v20 k0_hw2 => k0_hw2.2.1 (k0_off8_inb v20 k0_hw2)
theorem k0_off36_inb : ∀ (v20 : BitVec 32) (k0_hw2 : k0_chk2 v20), ∀ a, (k0_off36 v20) a + S1152x8x128.size a ≤ S5248x8x128.size a := fun v20 k0_hw2 => k0_hw2.2.2.1
theorem k0_off36_wordsbf16 : ∀ (v20 : BitVec 32) (k0_hw2 : k0_chk2 v20), (Rect.unit (s := S5248x8x128) (k0_off36 v20) S1152x8x128.size (k0_off36_inb v20 k0_hw2)).WholeWords (EltTy.packing .bf16) := fun v20 k0_hw2 => k0_hw2.2.2.2 (k0_off36_inb v20 k0_hw2)

def k0_off38 (v33 : BitVec 32) : Fin 3 → Nat :=
  let c0_i32_66 : BitVec 32 := 0#32
  let c0_i32_67 : BitVec 32 := 0#32
  ![v33.toNat, 0, 0]

def k0_chk3 (v33 : BitVec 32) : Prop :=
  (∀ a, (k0_off13 v33) a + S1152x8x128.size a ≤ S5248x8x128.size a) ∧
  (∀ (hinb : ∀ a, (k0_off13 v33) a + S1152x8x128.size a ≤ S5248x8x128.size a), (Rect.unit (s := S5248x8x128) (k0_off13 v33) S1152x8x128.size hinb).WholeWords (EltTy.packing .bf16)) ∧
  (∀ a, (k0_off38 v33) a + S1152x8x128.size a ≤ S5248x8x128.size a) ∧
  (∀ (hinb : ∀ a, (k0_off38 v33) a + S1152x8x128.size a ≤ S5248x8x128.size a), (Rect.unit (s := S5248x8x128) (k0_off38 v33) S1152x8x128.size hinb).WholeWords (EltTy.packing .bf16))
theorem k0_off13_inb : ∀ (v33 : BitVec 32) (k0_hw3 : k0_chk3 v33), ∀ a, (k0_off13 v33) a + S1152x8x128.size a ≤ S5248x8x128.size a := fun v33 k0_hw3 => k0_hw3.1
theorem k0_off13_wordsbf16 : ∀ (v33 : BitVec 32) (k0_hw3 : k0_chk3 v33), (Rect.unit (s := S5248x8x128) (k0_off13 v33) S1152x8x128.size (k0_off13_inb v33 k0_hw3)).WholeWords (EltTy.packing .bf16) := fun v33 k0_hw3 => k0_hw3.2.1 (k0_off13_inb v33 k0_hw3)
theorem k0_off38_inb : ∀ (v33 : BitVec 32) (k0_hw3 : k0_chk3 v33), ∀ a, (k0_off38 v33) a + S1152x8x128.size a ≤ S5248x8x128.size a := fun v33 k0_hw3 => k0_hw3.2.2.1
theorem k0_off38_wordsbf16 : ∀ (v33 : BitVec 32) (k0_hw3 : k0_chk3 v33), (Rect.unit (s := S5248x8x128) (k0_off38 v33) S1152x8x128.size (k0_off38_inb v33 k0_hw3)).WholeWords (EltTy.packing .bf16) := fun v33 k0_hw3 => k0_hw3.2.2.2 (k0_off38_inb v33 k0_hw3)

abbrev stage0_0 : Fin 1 → Memref sig .tc .vmem S4096x8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S4 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5248x8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x1024 : Shape := ⟨2, ![16384, 1024]⟩
abbrev S16384 : Shape := ⟨1, ![16384]⟩
abbrev S_ : Shape := ⟨0, ![]⟩
abbrev S16384x1 : Shape := ⟨2, ![16384, 1]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x1024, .bf16⟩
  | .hbm, ⟨14, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Gather.lean ====
abbrev S4096 : Shape := ⟨1, ![4096]⟩
abbrev S32x128 : Shape := ⟨2, ![32, 128]⟩
abbrev S4x32x128 : Shape := ⟨3, ![4, 32, 128]⟩
abbrev S3 : Shape := ⟨1, ![3]⟩
abbrev S_ : Shape := ⟨0, ![]⟩
abbrev S1x32x128 : Shape := ⟨3, ![1, 32, 128]⟩
abbrev S1 : Shape := ⟨1, ![1]⟩
abbrev S4x4096 : Shape := ⟨2, ![4, 4096]⟩

abbrev nBuf : Space → Nat
  | .hbm => 4
  | .vmem => 2
  | .smem => 0
  | _ => 0

abbrev bufTy : (tb : Table) → Fin (tcTables nBuf tb) → BufTy
  | .hbm, ⟨0, _⟩ => ⟨S4096, .i32⟩
  | .hbm, ⟨1, _⟩ => ⟨S32x128, .i32⟩
  | .hbm, ⟨2, _⟩ => ⟨S4x32x128, .i32⟩
  | .hbm, ⟨3, _⟩ => ⟨S4x4096, .i32⟩
  | .local _ .vmem, ⟨0, _⟩ => ⟨S32x128, .i32⟩
  | .local _ .vmem, ⟨1, _⟩ => ⟨S4x32x128, .i32⟩
  | _, _ => ⟨S4096, .i32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let c0_i32_11 : BitVec 32 := 0#32
  ![v2.toNat, 0, 0]
def k0_off2 (d0 : Dev nD) (c0_i32_14 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.subi v2 c0_i32_14
  let c8_i32 : BitVec 32 := 8#32
  let v18 : BitVec 32 := Scalar.addi v17 c8_i32
  let c4_i32_15 : BitVec 32 := 4#32
  let v19 : BitVec 32 := Scalar.remsi v18 c4_i32_15
  let c0_i32_20 : BitVec 32 := 0#32
  let c0_i32_21 : BitVec 32 := 0#32
  ![v19.toNat, 0, 0]
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_18 : BitVec 32 := 1#32
  let v20 : BitVec 32 := Scalar.muli v7 c1_i32_18
  let v21 : BitVec 32 := Scalar.addi c0_i32_19 v20
  v21.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_44 : BitVec 32 := 1#32
  let v47 : BitVec 32 := Scalar.muli v7 c1_i32_44
  let v48 : BitVec 32 := Scalar.addi c0_i32_45 v47
  v48.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_70 : BitVec 32 := 1#32
  let v74 : BitVec 32 := Scalar.muli v7 c1_i32_70
  let v75 : BitVec 32 := Scalar.addi c0_i32_71 v74
  v75.toNat
abbrev stage0_0 : Fin 1 → Memref sig .tc .vmem S32x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== GatherReferenceIdeal.lean ====
abbrev S16384 : Shape := ⟨1, ![16384]⟩
abbrev S4x4096 : Shape := ⟨2, ![4, 4096]⟩

abbrev nBuf : Space → Nat
  | .hbm => 2
  | .vmem => 0
  | .smem => 0
  | _ => 0

abbrev bufTy : (tb : Table) → Fin (tcTables nBuf tb) → BufTy
  | .hbm, ⟨0, _⟩ => ⟨S16384, .i32⟩
  | .hbm, ⟨1, _⟩ => ⟨S4x4096, .i32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Order.lean ====
/-
  Where a stable sort puts an element, in numbers.

  The element at `a` goes to the position that counts the elements of smaller key, wherever they are, and the elements
  of equal key before `a`. When the elements lie in blocks and each block is sorted by itself, the counts of the whole
  are sums of the counts of the blocks; this gives the place of each row in the exchange.
-/
module

public import Idealize.ShloMosaic.Lib.SortPrefix
public import Mathlib.Data.Nat.Count
public import Mathlib.Data.Fintype.Card
public import Mathlib.Order.Interval.Finset.Fin

@[expose] public section

namespace Cert.Proof.Order

open Idealize.ShloMosaic

/-! ## One stable sort -/

/-- Sorting by the key alone, stably, is sorting by the key and then by the position. -/
theorem insert_key {n : ℕ} (K : Fin n → ℕ) (l : List (Fin n)) (hl : l.Pairwise (· < ·)) :
    stableSort (fun a b => decide (K a < K b)) l
      = stableSort (fun a b => decide (K a < K b) || (decide (K a = K b) && decide (a < b))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [not_lt.mpr hab.le]

/-- The position the element `a` of `n` elements goes to. -/
def pos (n : ℕ) (K : ℕ → ℕ) (a : ℕ) : ℕ :=
  Nat.count (fun b => K b < K a) n + Nat.count (fun b => K b = K a) a

theorem count_card (n : ℕ) (p : ℕ → Prop) [DecidablePred p] :
    Nat.count p n = (Finset.univ.filter fun b : Fin n => p b.val).card := by
  rw [Nat.count_eq_card_filter_range]
  symm
  refine Finset.card_bij (fun b _ => b.val) ?_ ?_ ?_
  · intro b hb; simpa using (Finset.mem_filter.mp hb).2
  · intro b _ c _ h; exact Fin.ext h
  · intro b hb
    obtain ⟨h₁, h₂⟩ := Finset.mem_filter.mp hb
    exact ⟨⟨b, Finset.mem_range.mp h₁⟩, by simpa using h₂, rfl⟩

/-- The element that a stable sort puts at `k` is the one whose position is `k`. -/
theorem pos_sorted (n : ℕ) (K : ℕ → ℕ) (k : Fin n) :
    pos n K (sortedFrom (fun a b : Fin n => decide (K a.val < K b.val)) k).val = k.val := by
  classical
  set B : Fin n → Fin n → Bool := fun a b => decide (K a.val < K b.val) || (decide (K a.val = K b.val) && decide (a < b)) with hBdef
  have hB : StrictTotalBefore B :=
    StrictTotalBefore.of_key_then_position (fun a b : ℕ => decide (a < b)) (fun a : Fin n => K a.val)
      (by simp) (by intro a b c; simp only [decide_eq_true_eq]; omega) (by intro a b; simp only [decide_eq_true_eq]; omega)
  have hsort : sortPositions n (fun a b : Fin n => decide (K a.val < K b.val)) = sortPositions n B :=
    insert_key (fun a : Fin n => K a.val) (List.finRange n) (List.pairwise_lt_finRange n)
  have hfrom : sortedFrom (fun a b : Fin n => decide (K a.val < K b.val)) = sortedFrom B := by
    funext k
    unfold sortedFrom
    rw [List.get_of_eq hsort]
    rfl
  rw [hfrom]
  set σ : Fin n → Fin n := sortedFrom B with hσ
  have hinj : Function.Injective σ := sortedFrom_injective B
  have hsur : Function.Surjective σ := sortedFrom_surjective B
  have hlt : ∀ i j, i < j → B (σ i) (σ j) = true := fun i j hij => by
    have h := sortedFrom_noInversion B B (fun a b h => hB.asymm a b h) (fun _ _ h => h) hB.negTrans i j hij
    rcases hB.total (σ i) (σ j) (fun e => absurd (hinj e) (ne_of_lt hij)) with h' | h'
    · exact h'
    · rw [h] at h'; exact absurd h' (by decide)
  have hiff : ∀ i j, B (σ i) (σ j) = true ↔ i < j := fun i j => by
    constructor
    · intro h
      rcases lt_trichotomy i j with g | g | g
      · exact g
      · subst g; rw [hB.irrefl] at h; exact absurd h (by decide)
      · rw [hB.asymm _ _ (hlt j i g)] at h; exact absurd h (by decide)
    · exact hlt i j
  have hcard : (Finset.univ.filter fun b : Fin n => B b (σ k) = true).card = k.val := by
    have : (Finset.univ.filter fun b : Fin n => B b (σ k) = true) = (Finset.Iio k).image σ := by
      ext b
      simp only [Finset.mem_filter, Finset.mem_univ, true_and, Finset.mem_image, Finset.mem_Iio]
      constructor
      · intro h
        obtain ⟨i, rfl⟩ := hsur b
        exact ⟨i, (hiff i k).mp h, rfl⟩
      · rintro ⟨i, hi, rfl⟩
        exact hlt i k hi
    rw [this, Finset.card_image_of_injective _ hinj, Fin.card_Iio]
  unfold pos
  have hsplit : (Finset.univ.filter fun b : Fin n => B b (σ k) = true)
      = (Finset.univ.filter fun b : Fin n => K b.val < K (σ k).val)
        ∪ (Finset.univ.filter fun b : Fin n => K b.val = K (σ k).val ∧ b < σ k) := by
    ext b
    simp [hBdef]
  have hdis : Disjoint (Finset.univ.filter fun b : Fin n => K b.val < K (σ k).val)
      (Finset.univ.filter fun b : Fin n => K b.val = K (σ k).val ∧ b < σ k) :=
    Finset.disjoint_left.mpr fun b h₁ h₂ => by
      have := (Finset.mem_filter.mp h₁).2; have := (Finset.mem_filter.mp h₂).2.1; omega
  rw [← hcard, hsplit, Finset.card_union_of_disjoint hdis, count_card n]
  congr 1
  rw [Nat.count_eq_card_filter_range]
  symm
  refine Finset.card_bij (fun b _ => b.val) ?_ ?_ ?_
  · intro b hb
    obtain ⟨h₁, h₂⟩ := (Finset.mem_filter.mp hb).2
    exact Finset.mem_filter.mpr ⟨Finset.mem_range.mpr h₂, h₁⟩
  · intro b _ c _ h; exact Fin.ext h
  · intro b hb
    obtain ⟨h₁, h₂⟩ := Finset.mem_filter.mp hb
    have h₃ := Finset.mem_range.mp h₁
    exact ⟨⟨b, lt_trans h₃ (σ k).isLt⟩, Finset.mem_filter.mpr ⟨Finset.mem_univ _, h₂, h₃⟩, rfl⟩

/-- The other way round: the element of position `k` is the one that goes to `k`. -/
theorem sorted_pos (n : ℕ) (K : ℕ → ℕ) (a k : Fin n) (h : pos n K a.val = k.val) :
    sortedFrom (fun a b : Fin n => decide (K a.val < K b.val)) k = a := by
  obtain ⟨k', rfl⟩ := sortedFrom_surjective (fun a b : Fin n => decide (K a.val < K b.val)) a
  rw [pos_sorted] at h
  rw [Fin.ext h]

/-! ## Four blocks -/

variable (d : ℕ → ℕ)

/-- How many elements of block `s` have key `r`. -/
def cnt (s r : ℕ) : ℕ := Nat.count (fun j => d (4096 * s + j) = r) 4096
/-- How many elements of block `s` have a key below `r`. -/
def start (s r : ℕ) : ℕ := ((List.range r).map (cnt d s)).sum
/-- How many elements of the blocks before `s` have key `r`. -/
def off (r s : ℕ) : ℕ := ((List.range s).map fun s' => cnt d s' r).sum
/-- How many elements of key `r` lie in block `s` before place `j`. -/
def rank (s r j : ℕ) : ℕ := Nat.count (fun j' => d (4096 * s + j') = r) j

theorem start_succ (s r : ℕ) : start d s (r + 1) = start d s r + cnt d s r := by
  simp [start, List.range_succ]
theorem off_succ (r s : ℕ) : off d r (s + 1) = off d r s + cnt d s r := by
  simp [off, List.range_succ]

theorem off_mono (r : ℕ) {s s' : ℕ} (h : s ≤ s') : off d r s ≤ off d r s' := by
  induction s', h using Nat.le_induction with
  | base => exact le_rfl
  | succ k _ ih => rw [off_succ]; omega
theorem start_mono (s : ℕ) {r r' : ℕ} (h : r ≤ r') : start d s r ≤ start d s r' := by
  induction r', h using Nat.le_induction with
  | base => exact le_rfl
  | succ k _ ih => rw [start_succ]; omega

/-- The elements of key below `r + 1` are those of key below `r` and those of key `r`. -/
theorem count_below (K : ℕ → ℕ) (r n : ℕ) :
    Nat.count (fun b => K b < r + 1) n = Nat.count (fun b => K b < r) n + Nat.count (fun b => K b = r) n := by
  induction n with
  | zero => rfl
  | succ n ih =>
    rw [Nat.count_succ, Nat.count_succ, Nat.count_succ, ih]
    split_ifs <;> omega

theorem count_start (s r : ℕ) : Nat.count (fun j => d (4096 * s + j) < r) 4096 = start d s r := by
  induction r with
  | zero => simp [start, Nat.count_eq_card_filter_range]
  | succ r ih => rw [count_below (fun j => d (4096 * s + j)), ih, start_succ]; rfl

/-- In its own block the element at `j` goes to the start of its group and its rank in it. -/
theorem pos_block (s j : ℕ) :
    pos 4096 (fun j => d (4096 * s + j)) j = start d s (d (4096 * s + j)) + rank d s (d (4096 * s + j)) j := by
  unfold pos
  rw [count_start]
  rfl

theorem count_blocks (r s : ℕ) : Nat.count (fun b => d b = r) (4096 * s) = off d r s := by
  induction s with
  | zero => rfl
  | succ s ih => rw [Nat.mul_succ, Nat.count_add, ih, off_succ]; rfl

theorem count_all (r : ℕ) : Nat.count (fun b => d b = r) 16384 = off d r 4 := count_blocks d r 4

/-- Every rank gets 4096 rows. -/
def Even : Prop := ∀ r, r < 4 → off d r 4 = 4096

theorem below_even (h : Even d) (r : ℕ) (hr : r ≤ 4) : Nat.count (fun b => d b < r) 16384 = 4096 * r := by
  induction r with
  | zero => simp [Nat.count_eq_card_filter_range]
  | succ r ih => rw [count_below d, ih (by omega), count_all, h r (by omega), Nat.mul_succ]

/-- So every key is a rank. -/
theorem key_lt (h : Even d) (b : ℕ) (hb : b < 16384) : d b < 4 :=
  (Nat.count_iff_forall (p := fun b => d b < 4)).mp (below_even d h 4 le_rfl) _ hb

/-- In the whole the element at `j` of block `s` goes to the part of its rank, past the rows of the blocks before `s`,
    at its rank in its own block. -/
theorem pos_whole (h : Even d) (s j : ℕ) (hb : 4096 * s + j < 16384) :
    pos 16384 d (4096 * s + j)
      = 4096 * d (4096 * s + j) + off d (d (4096 * s + j)) s + rank d s (d (4096 * s + j)) j := by
  unfold pos
  rw [below_even d h _ (key_lt d h _ hb).le, Nat.count_add, count_blocks, Nat.add_assoc]
  rfl

theorem rank_lt (s j : ℕ) (hj : j < 4096) : rank d s (d (4096 * s + j)) j < cnt d s (d (4096 * s + j)) :=
  Nat.count_strict_mono (p := fun j' => d (4096 * s + j') = d (4096 * s + j)) rfl hj

theorem start_le (s r : ℕ) : start d s r ≤ 4096 := by
  rw [← count_start]; exact Nat.count_le _
theorem off_le (h : Even d) (r s : ℕ) (hr : r < 4) (hs : s ≤ 4) : off d r s ≤ 4096 :=
  (off_mono d r hs).trans (h r hr).le

/-- The row that a stable sort of the whole puts at place `q` of the part of rank `r` is the row at some place `j` of
    some block `s`; its rank `m` there says where in the sorted block it is, and `q` is `m` past the offset of `s`. -/
theorem found (h : Even d) (r q : ℕ) (hr : r < 4) (hq : q < 4096) :
    ∃ s j m : ℕ, s < 4 ∧ j < 4096
      ∧ (sortedFrom (fun a b : Fin 16384 => decide (d a.val < d b.val)) ⟨4096 * r + q, by omega⟩).val = 4096 * s + j
      ∧ q = off d r s + m ∧ m < cnt d s r ∧ ∃ hlt : start d s r + m < 4096,
        (sortedFrom (fun a b : Fin 4096 => decide (d (4096 * s + a.val) < d (4096 * s + b.val))) ⟨start d s r + m, hlt⟩).val = j := by
  set a := sortedFrom (fun a b : Fin 16384 => decide (d a.val < d b.val)) ⟨4096 * r + q, by omega⟩ with ha
  have hp := pos_sorted 16384 d ⟨4096 * r + q, by omega⟩
  rw [← ha] at hp
  have hsplit : a.val = 4096 * (a.val / 4096) + a.val % 4096 := (Nat.div_add_mod _ _).symm
  have hj : a.val % 4096 < 4096 := Nat.mod_lt _ (by decide)
  have hs : a.val / 4096 < 4 := by omega
  refine ⟨a.val / 4096, a.val % 4096, ?_⟩
  generalize a.val / 4096 = s at hsplit hs ⊢
  generalize a.val % 4096 = j at hsplit hj ⊢
  have hlt : 4096 * s + j < 16384 := by omega
  rw [hsplit, pos_whole d h s j hlt] at hp
  have hrk := rank_lt d s j hj
  have hk4 := key_lt d h _ hlt
  have hsucc := off_succ d (d (4096 * s + j)) s
  have hoff := off_mono d (d (4096 * s + j)) (show s + 1 ≤ 4 by omega)
  have heven := h _ hk4
  have hp' : 4096 * d (4096 * s + j) + off d (d (4096 * s + j)) s + rank d s (d (4096 * s + j)) j = 4096 * r + q := hp
  have hkey : d (4096 * s + j) = r := by omega
  have hpb := pos_block d s j
  rw [hkey] at hp' hrk hpb
  have hstart := start_succ d s r
  have hstl := start_le d s (r + 1)
  refine ⟨rank d s r j, hs, hj, hsplit, by omega, hrk, by omega, ?_⟩
  exact congrArg Fin.val (sorted_pos 4096 (fun j => d (4096 * s + j)) ⟨j, hj⟩ ⟨start d s r + rank d s r j, by omega⟩ hpb)

end Cert.Proof.Order
-- ==== Proof.Words.lean ====
/-
  The host operations that count, sum and cut the destinations, read at an index.

  `dest D p` is the number the word `D` holds at `p`. The table of counts holds at `(s, r)` the number of rows of block
  `s` bound for `r`; its row `c` summed from the left gives where the groups of device `c` start, its column `c` summed
  from the top gives where the rows of each device go.
-/
module

public import proofs.«01_k».proof.Proof.Order
public import Idealize.ShloMosaic.Lib.Routing.Ops
public import Idealize.ShloMosaic.Lib.Routing.Words
public import Idealize.ShloMosaic.Lib.DynamicIndex
public import Idealize.ShloMosaic.Lib.Pipeline.Value
public import Idealize.ShloMosaic.Lib.StableHlo.Predicate
public import Idealize.ShloMosaic.PureOps.Reduce

@[expose] public section

namespace Cert.Proof.Words

open Idealize.ShloMosaic Idealize.ShloMosaic.Routing Idealize.ShloMosaic.ValueIdx
open Idealize.ShloMosaic.StableHlo.Predicate (cmpi_eq_iff sle_iff_toNat slt_iff_toNat)
open Cert.Proof.Order

/-! ## Sums along one axis -/

theorem fold_word {ι : Type} (S : Finset ι) (f : ι → BitVec 32) :
    S.fold IntOp.addi 0#32 f = BitVec.ofNat 32 (∑ i ∈ S, (f i).toNat) := by
  classical
  induction S using Finset.induction_on with
  | empty => rfl
  | insert a S ha ih =>
    rw [Finset.fold_insert ha, Finset.sum_insert ha, ih, BitVec.ofNat_add, BitVec.ofNat_toNat, BitVec.setWidth_eq]
    rfl

/-- A sum whose terms at `j` are the elements `g 0`, `g 1`, … is the word of the sum of their numbers. -/
theorem reduce_line {s t u : Shape} {axes : List (Fin s.rank)} {N : ℕ} (x : IVec s 32) (init : IVec u 32)
    (h : s.ReducesTo axes t) (hu : 0 < u.numel) (hinit : init (Shape.Idx.first hu) = 0#32) (j : t.Idx) (g : Fin N → s.Idx)
    (hg : Function.Injective g) (hline : ∀ i, h.drop i = j ↔ ∃ q, g q = i) :
    Host.reduce IntOp.addi x init h hu j = BitVec.ofNat 32 (∑ q : Fin N, (x (g q)).toNat) := by
  classical
  rw [Host.reduce_eq_fold, hinit, fold_word]
  congr 1
  have : (Finset.univ.filter fun i => h.drop i = j) = Finset.univ.image g := by
    ext i
    simp only [Finset.mem_filter, Finset.mem_univ, true_and, Finset.mem_image]
    exact hline i
  rw [this, Finset.sum_image fun a _ b _ e => hg e]

/-! ## The table of counts -/

/-- The number at place `p`. -/
def dest (D : IVec (shape1 16384) 32) (p : ℕ) : ℕ := (D (ix1 ⟨p % 16384, Nat.mod_lt _ (by decide)⟩)).toNat

theorem dest_val (D : IVec (shape1 16384) 32) (p : Fin 16384) : dest D p.val = (D (ix1 p)).toNat := by
  unfold dest
  congr 2
  exact congrArg ix1 (Fin.ext (Nat.mod_eq_of_lt p.isLt))

variable (D : IVec (shape1 16384) 32)
  (h₁ : (shape1 16384).ShapeCasts (shape2 4 4096))
  (h₂ : (shape2 4 4096).BroadcastsInDim (shape3 4 4096 1) (![0, 1] : Fin 2 → Fin 3))
  (h₃ : (shape1 4).BroadcastsInDim (shape3 1 1 4) (![2] : Fin 1 → Fin 3))
  (h₄ : (shape3 4 4096 1).BroadcastsInDim (shape3 4 4096 4) (![0, 1, 2] : Fin 3 → Fin 3))
  (h₅ : (shape3 1 1 4).BroadcastsInDim (shape3 4 4096 4) (![0, 1, 2] : Fin 3 → Fin 3))
  (h₆ : 1 < 32)
  (h₇ : (shape3 4 4096 4).ReducesTo [1] (shape2 4 4))
  (h₈ : 0 < shape0.numel)

/-- Which rows of which block are bound for which rank. -/
abbrev mask : IVec (shape3 4 4096 4) 1 :=
  cmpi .eq (broadcastInDim (shape3 4 4096 4) ![0, 1, 2] h₄ (broadcastInDim (shape3 4 4096 1) ![0, 1] h₂ (shapeCast (shape2 4 4096) D h₁)))
    (broadcastInDim (shape3 4 4096 4) ![0, 1, 2] h₅ (broadcastInDim (shape3 1 1 4) ![2] h₃ (iotaInDim (shape1 4) 32 0)))

/-- The table of counts. -/
abbrev table : IVec (shape2 4 4) 32 :=
  Host.reduce IntOp.addi (extui 32 (mask D h₁ h₂ h₃ h₄ h₅) h₆) (constantI shape0 32 0#32) h₇ h₈

theorem mask_at (s : Fin 4) (j : Fin 4096) (r : Fin 4) :
    mask D h₁ h₂ h₃ h₄ h₅ (ix3 s j r) = 1#1 ↔ dest D (4096 * s.val + j.val) = r.val := by
  have e₁ : broadcastInDim (shape3 4 4096 4) ![0, 1, 2] h₄ (broadcastInDim (shape3 4 4096 1) ![0, 1] h₂ (shapeCast (shape2 4 4096) D h₁)) (ix3 s j r)
      = D (ix1 ⟨4096 * s.val + j.val, by omega⟩) := by
    refine (broadcastInDim_apply _ h₄ _ _ (ix3 s j (0 : Fin 1)) fun a => ?_).trans
      ((broadcastInDim_apply _ h₂ _ _ (ix2 s j) fun a => ?_).trans
        (cast12 D h₁ s j ⟨4096 * s.val + j.val, by omega⟩ (by show 4096 * s.val + j.val = s.val * 4096 + j.val; omega)))
    · match a with
      | ⟨0, _⟩ => rfl
      | ⟨1, _⟩ => rfl
      | ⟨2, _⟩ => rfl
    · match a with
      | ⟨0, _⟩ => rfl
      | ⟨1, _⟩ => rfl
  have e₂ : broadcastInDim (shape3 4 4096 4) ![0, 1, 2] h₅ (broadcastInDim (shape3 1 1 4) ![2] h₃ (iotaInDim (shape1 4) 32 0)) (ix3 s j r)
      = BitVec.ofNat 32 r.val := by
    refine (broadcastInDim_apply _ h₅ _ _ (ix3 (0 : Fin 1) (0 : Fin 1) r) fun a => ?_).trans
      ((broadcastInDim_apply _ h₃ _ _ (ix1 r) fun a => ?_).trans (iota1_ap r))
    · match a with
      | ⟨0, _⟩ => rfl
      | ⟨1, _⟩ => rfl
      | ⟨2, _⟩ => rfl
    · match a with
      | ⟨0, _⟩ => rfl
  show IntOp.cmpi .eq _ _ = 1#1 ↔ _
  rw [e₁, e₂, cmpi_eq_iff, show dest D (4096 * s.val + j.val) = (D (ix1 ⟨4096 * s.val + j.val, by omega⟩)).toNat from
    dest_val D ⟨4096 * s.val + j.val, by omega⟩]
  constructor
  · intro h; rw [h, BitVec.toNat_ofNat]; omega
  · intro h; apply BitVec.eq_of_toNat_eq; rw [h, BitVec.toNat_ofNat]; omega

theorem table_at (s r : Fin 4) : table D h₁ h₂ h₃ h₄ h₅ h₆ h₇ h₈ (ix2 s r) = BitVec.ofNat 32 (cnt (dest D) s.val r.val) := by
  classical
  refine (reduce_line (N := 4096) _ _ h₇ h₈ rfl (ix2 s r) (fun j => ix3 s j r) (fun a b e => congrFun e 1) fun i => ?_).trans ?_
  · have hv0 : (h₇.drop i 0 : ℕ) = i 0 := Shape.ReducesTo.drop_apply_val h₇ i 0
    have hv1 : (h₇.drop i 1 : ℕ) = i 2 := Shape.ReducesTo.drop_apply_val h₇ i 1
    constructor
    · intro e
      rw [e] at hv0 hv1
      refine ⟨i 1, ?_⟩
      rw [eq_ix3 i]
      exact congrArg₂ (fun a b => ix3 a (i 1) b) (Fin.ext hv0) (Fin.ext hv1)
    · rintro ⟨q, rfl⟩
      funext a
      match a with
      | ⟨0, _⟩ => exact Fin.ext hv0
      | ⟨1, _⟩ => exact Fin.ext hv1
  · refine congrArg (BitVec.ofNat 32) ?_
    rw [cnt, count_card, Finset.card_filter]
    refine Finset.sum_congr rfl fun j _ => ?_
    refine (StableHlo.Predicate.toNat_setWidth_bit _).trans ?_
    exact if_congr (mask_at D h₁ h₂ h₃ h₄ h₅ s j r) rfl rfl

theorem cnt_le (d : ℕ → ℕ) (s r : ℕ) : cnt d s r ≤ 4096 := Nat.count_le _

/-- The sums of the columns of the table. -/
theorem column_at (h : (shape2 4 4).ReducesTo [0] (shape1 4)) (r : Fin 4) :
    Host.reduce IntOp.addi (table D h₁ h₂ h₃ h₄ h₅ h₆ h₇ h₈) (constantI shape0 32 0#32) h h₈ (ix1 r)
      = BitVec.ofNat 32 (off (dest D) r.val 4) := by
  refine (reduce_line (N := 4) _ _ h h₈ rfl (ix1 r) (fun s => ix2 s r) (fun a b e => congrFun e 0) fun i => ?_).trans ?_
  · have hv : (h.drop i 0 : ℕ) = i 1 := Shape.ReducesTo.drop_apply_val h i 0
    constructor
    · intro e
      rw [e] at hv
      refine ⟨i 0, ?_⟩
      rw [eq_ix2 i]
      exact congrArg (fun a => ix2 (i 0) a) (Fin.ext hv)
    · rintro ⟨q, rfl⟩
      funext a
      match a with
      | ⟨0, _⟩ => exact Fin.ext hv
  · refine congrArg (BitVec.ofNat 32) ?_
    simp only [table_at]
    have : ∀ s : Fin 4, (BitVec.ofNat 32 (cnt (dest D) s.val r.val)).toNat = cnt (dest D) s.val r.val := fun s => by
      rw [BitVec.toNat_ofNat]; have := cnt_le (dest D) s.val r.val; omega
    simp only [this, Fin.sum_univ_four, off, List.range_succ]
    simp [Nat.add_assoc]

/-! ## Rows, columns, running sums -/

/-- Row `c` of a four by four table, cut out and read as a vector. -/
theorem row_at {α : Type} (T : (shape2 4 4).Idx → α) (start : Fin 2 → Int) (h : (shape2 4 4).Slices (fun _ => 0) (shape2 1 4))
    (hc : (shape2 1 4).ShapeCasts (shape1 4)) (c : Fin 4) (h0 : start 0 = (c.val : Int)) (h1 : start 1 = 0) (r : Fin 4) :
    shapeCast (shape1 4) (Host.dynamicSlice (shape2 1 4) T start h) hc (ix1 r) = T (ix2 c r) := by
  have hs : (shape2 4 4).Slices (![c.val, 0] : Fin 2 → ℕ) (shape2 1 4) := ⟨rfl, fun a => by
    match a with
    | ⟨0, _⟩ => show c.val + 1 ≤ 4; omega
    | ⟨1, _⟩ => show 0 + 4 ≤ 4; omega⟩
  rw [Host.dynamicSlice_eq_extractStridedSlice (shape2 1 4) T start ![c.val, 0] h hs (fun a => by
    match a with
    | ⟨0, _⟩ => exact h0
    | ⟨1, _⟩ => exact h1)]
  refine (cast21 (a := 1) (b := 4) _ hc (0 : Fin 1) r r (by show r.val = 0 * 4 + r.val; omega)).trans ?_
  unfold extractStridedSlice
  refine congrArg T (funext fun a => Fin.ext ?_)
  match a with
  | ⟨0, _⟩ => show c.val + 0 = c.val; omega
  | ⟨1, _⟩ => show 0 + r.val = r.val; omega

/-- Column `c` of a four by four table, cut out and read as a vector. -/
theorem col_at {α : Type} (T : (shape2 4 4).Idx → α) (start : Fin 2 → Int) (h : (shape2 4 4).Slices (fun _ => 0) (shape2 4 1))
    (hc : (shape2 4 1).ShapeCasts (shape1 4)) (c : Fin 4) (h0 : start 0 = 0) (h1 : start 1 = (c.val : Int)) (s : Fin 4) :
    shapeCast (shape1 4) (Host.dynamicSlice (shape2 4 1) T start h) hc (ix1 s) = T (ix2 s c) := by
  have hs : (shape2 4 4).Slices (![0, c.val] : Fin 2 → ℕ) (shape2 4 1) := ⟨rfl, fun a => by
    match a with
    | ⟨0, _⟩ => show 0 + 4 ≤ 4; omega
    | ⟨1, _⟩ => show c.val + 1 ≤ 4; omega⟩
  rw [Host.dynamicSlice_eq_extractStridedSlice (shape2 4 1) T start ![0, c.val] h hs (fun a => by
    match a with
    | ⟨0, _⟩ => exact h0
    | ⟨1, _⟩ => exact h1)]
  refine (cast21 (a := 4) (b := 1) _ hc s (0 : Fin 1) s (by show s.val = s.val * 1 + 0; omega)).trans ?_
  unfold extractStridedSlice
  refine congrArg T (funext fun a => Fin.ext ?_)
  match a with
  | ⟨0, _⟩ => show 0 + s.val = s.val; omega
  | ⟨1, _⟩ => show c.val + 0 = c.val; omega

/-- A zero and then the running sums of a vector of four, without the last: the sum of what stands before. -/
theorem before_at (x : IVec (shape1 4) 32) (f : ℕ → ℕ) (hx : ∀ i : Fin 4, x (ix1 i) = BitVec.ofNat 32 (f i.val))
    (z : IVec (shape1 1) 32) (hz : z (ix1 0) = 0#32) (init : IVec shape0 32) (hinit : init ix0 = 0#32)
    (hw : (shape1 4).ReduceWindows (![4] : Fin 1 → ℕ) ![1] ![3] ![0] (shape1 4)) (hu : 0 < shape0.numel)
    (hs : (shape1 4).Slices ![0] (shape1 3)) (hc : Shape.Concatenates [shape1 1, shape1 3] (shape1 4) 0) (i : Fin 4) :
    concatenate (shape1 4) 0 [⟨shape1 1, z⟩, ⟨shape1 3, extractStridedSlice (shape1 3) ![0]
        (Host.reduceWindow IntOp.addi ![4] ![1] ![3] ![0] x init hw hu) hs⟩] hc (ix1 i)
      = BitVec.ofNat 32 ((List.range i.val).map f).sum := by
  have hy : ∀ j : Fin 3, extractStridedSlice (shape1 3) ![0] (Host.reduceWindow IntOp.addi ![4] ![1] ![3] ![0] x init hw hu) hs (ix1 j)
      = BitVec.ofNat 32 ((List.range (j.val + 1)).map f).sum := fun j =>
    (slice1 0 _ hs j (by omega)).trans
      ((cumsum1 (N := 4) (Nm1 := 3) rfl x f hx init hinit hw hu ⟨0 + j.val, by omega⟩).trans (by simp only [Nat.zero_add]))
  generalize extractStridedSlice (shape1 3) ![0] (Host.reduceWindow IntOp.addi ![4] ![1] ![3] ![0] x init hw hu) hs = y at hy ⊢
  have right : ∀ (i : Fin 4) (j : Fin 3), j.val + 1 = i.val →
      concatenate (shape1 4) 0 [⟨shape1 1, z⟩, ⟨shape1 3, y⟩] hc (ix1 i) = BitVec.ofNat 32 ((List.range i.val).map f).sum := fun i j hij => by
    rw [← hij, ← hy j]
    exact concatenate_pair_apply_right 0 z y hc (ix1 i) rfl rfl (ix1 j) (fun b hb => absurd (Subsingleton.elim _ _) hb) hij
  match i with
  | ⟨0, _⟩ =>
    refine (concatenate_pair_apply_left 0 z y hc _ rfl (ix1 0) fun b => ?_).trans hz
    match b with
    | ⟨0, _⟩ => rfl
  | ⟨1, _⟩ => exact right _ 0 rfl
  | ⟨2, _⟩ => exact right _ 1 rfl
  | ⟨3, _⟩ => exact right _ 2 rfl

/-! ## Sorting -/

/-- The second result of the sort of the destinations with their places: the place the sort takes each element from. -/
theorem argsort_at {n : ℕ} (x : IVec (shape1 n) 32) (K : ℕ → ℕ) (hx : ∀ i : Fin n, (x (ix1 i)).toNat = K i.val)
    (hK : ∀ i : Fin n, K i.val < 2 ^ 31) (cmp : BitVec 32 × BitVec 32 → BitVec 32 × BitVec 32 → BitVec 1)
    (hcmp : ∀ a b, cmp a b = IntOp.cmpi .slt a.1 b.1) (k : Fin n) :
    (Host.sort2 (shape1 n) 0 cmp x (iotaInDim (shape1 n) 32 0)).2 (ix1 k)
      = BitVec.ofNat 32 (sortedFrom (fun a b : Fin n => decide (K a.val < K b.val)) k).val := by
  have hd : 0 < (shape1 n).rank := Nat.zero_lt_one
  have e : ∀ (j : (shape1 n).Idx) (c : Fin n), j.along (⟨0, hd⟩ : Fin (shape1 n).rank) c = ix1 c := fun j c => by
    funext a
    match a with
    | ⟨0, _⟩ => exact Function.update_self ..
  have hB : (fun a b : Fin n => cmp (x ((ix1 k : (shape1 n).Idx).along (⟨0, hd⟩ : Fin (shape1 n).rank) a), iotaInDim (shape1 n) 32 0 ((ix1 k : (shape1 n).Idx).along (⟨0, hd⟩ : Fin (shape1 n).rank) a))
        (x ((ix1 k : (shape1 n).Idx).along (⟨0, hd⟩ : Fin (shape1 n).rank) b), iotaInDim (shape1 n) 32 0 ((ix1 k : (shape1 n).Idx).along (⟨0, hd⟩ : Fin (shape1 n).rank) b)) == 1#1)
      = fun a b : Fin n => decide (K a.val < K b.val) := by
    funext a b
    rw [hcmp, e, e, Bool.eq_iff_iff, beq_iff_eq, decide_eq_true_eq,
      slt_iff_toNat (by rw [hx]; exact hK a) (by rw [hx]; exact hK b), hx, hx]
  unfold Host.sort2
  rw [dif_pos hd]
  refine (congrArg (fun B : Fin n → Fin n → Bool => iotaInDim (shape1 n) 32 0
    ((ix1 k : (shape1 n).Idx).along (⟨0, hd⟩ : Fin (shape1 n).rank) (sortedFrom B k))) hB).trans ?_
  exact (congrArg (iotaInDim (shape1 n) 32 0) (e _ _)).trans (iota1_ap _)

/-- A block of 4096 of the destinations. -/
theorem block_at {α : Type} (x : (shape1 16384).Idx → α) (start : Fin 1 → Int) (h : (shape1 16384).Slices (fun _ => 0) (shape1 4096)) (c : Fin 4)
    (h0 : start 0 = ((4096 * c.val : ℕ) : Int)) (j : Fin 4096) :
    Host.dynamicSlice (shape1 4096) x start h (ix1 j) = x (ix1 ⟨4096 * c.val + j.val, by omega⟩) := by
  have hs : (shape1 16384).Slices (![4096 * c.val] : Fin 1 → ℕ) (shape1 4096) := ⟨rfl, fun a => by
    match a with
    | ⟨0, _⟩ => show 4096 * c.val + 4096 ≤ 16384; omega⟩
  rw [Host.dynamicSlice_eq_extractStridedSlice (shape1 4096) x start ![4096 * c.val] h hs (fun a => by
    match a with
    | ⟨0, _⟩ => exact h0)]
  exact slice1 _ x hs j (by omega)

end Cert.Proof.Words
-- ==== Proof.Host.lean ====
/-
  What the host operations before the kernel leave in the buffers the kernel reads.
-/
module

public import proofs.«01_k».proof.Proof.Words
public import proofs.«01_k».proof.Proof.Gen.KernelIdeal.Regions
public import Idealize.ShloMosaic.Lib.StableHlo.Run

@[expose] public section

noncomputable section

namespace Cert.Proof.Host

open Cert.KernelIdeal Cert.KernelIdeal.Gen
open Idealize.ShloMosaic Idealize.ShloMosaic.TcCoe Idealize.ShloMosaic.StableHlo
open Idealize.ShloMosaic.Routing Idealize.ShloMosaic.ValueIdx
open Cert.Proof.Order Cert.Proof.Words

variable {F : FTy → Type} [FloatOps F]
variable (m : (ℓ : Loc nD τ sig) → Buf (Elt F) ℓ) (c : Dev nD)

/-- The destinations of all rows, as the device holds them. -/
abbrev D : IVec (shape1 16384) 32 := m ((c : Thread nD τ).loc main_arg1)

/-- The device's coordinate, as the host program computes it. -/
theorem my_z : id (Host.remui (Host.divui (constantI S_ 32 (Dev.word c)) (constantI S_ 32 1#32)) (constantI S_ 32 4#32))
    = constantI S_ 32 (BitVec.ofNat 32 c.val) := by
  funext i
  show IntOp.remui .host (IntOp.divui .host (Dev.word c) 1#32) 4#32 = BitVec.ofNat 32 c.val
  unfold IntOp.remui IntOp.divui
  rw [if_neg (by decide), if_neg (by decide)]
  revert c
  decide

/-- Where the device's own destinations start. -/
theorem start8 : select (cmpi .slt (muli (constantI S_ 32 (BitVec.ofNat 32 c.val)) (constantI S_ 32 4096#32)) (constantI S_ 32 0#32))
      (addi (muli (constantI S_ 32 (BitVec.ofNat 32 c.val)) (constantI S_ 32 4096#32)) (constantI S_ 32 16384#32))
      (muli (constantI S_ 32 (BitVec.ofNat 32 c.val)) (constantI S_ 32 4096#32))
    = constantI S_ 32 (BitVec.ofNat 32 (4096 * c.val)) := by
  funext i
  revert c
  exact (by decide : ∀ c : Fin 4, Scalar.select (IntOp.cmpi .slt (IntOp.muli (BitVec.ofNat 32 c.val) 4096#32) 0#32)
    (IntOp.addi (IntOp.muli (BitVec.ofNat 32 c.val) 4096#32) 16384#32) (IntOp.muli (BitVec.ofNat 32 c.val) 4096#32) = BitVec.ofNat 32 (4096 * c.val))

/-- Which row and column of the table are the device's own. -/
theorem start21 : select (cmpi .slt (constantI S_ 32 (BitVec.ofNat 32 c.val)) (constantI S_ 32 0#32))
      (addi (constantI S_ 32 (BitVec.ofNat 32 c.val)) (constantI S_ 32 4#32)) (constantI S_ 32 (BitVec.ofNat 32 c.val))
    = constantI S_ 32 (BitVec.ofNat 32 c.val) := by
  funext i
  revert c
  exact (by decide : ∀ c : Fin 4, Scalar.select (IntOp.cmpi .slt (BitVec.ofNat 32 c.val) 0#32)
    (IntOp.addi (BitVec.ofNat 32 c.val) 4#32) (BitVec.ofNat 32 c.val) = BitVec.ofNat 32 c.val)

theorem toInt8 : (BitVec.ofNat 32 (4096 * c.val)).toInt = ((4096 * c.val : ℕ) : Int) := by
  revert c; decide
theorem toInt21 : (BitVec.ofNat 32 c.val).toInt = (c.val : Int) := by
  revert c; decide

/-- The table of counts of the device. -/
abbrev T : IVec (shape2 4 4) 32 :=
  table (D m c) shapeCasts_S16384_S4x4096 bcast_S4x4096_S4x4096x1_0_1 bcast_S4_S1x1x4_2 bcast_S4x4096x1_S4x4096x4_0_1_2
    bcast_S1x1x4_S4x4096x4_0_1_2 natLt_1_32 reducesTo_S4x4096x4_S4x4_d1 h_S_

set_option maxHeartbeats 2000000 in
theorem v18 : V1 m c (Proc.devRef .tc main_v18) = T m c := by
  dsimp only [V1]
  after_results
  rfl

set_option maxHeartbeats 2000000 in
theorem v9 (j : Fin 4096) : V1 m c (Proc.devRef .tc main_v9) (ix1 j) = D m c (ix1 ⟨4096 * c.val + j.val, by have h : c.val < 4 := c.isLt; omega⟩) := by
  dsimp only [V1]
  after_results
  refine (block_at _ _ _ c ?_ j).trans rfl
  change (BitVec.toInt ((_ : Valuation τ sig (Elt F)) (Proc.devRef .tc main_v8) (Shape.Idx.first h_S_)) = _)
  after_results_simp
  rw [my_z, start8]
  exact toInt8 c

set_option maxHeartbeats 2000000 in
theorem v23 (r : Fin 4) : V1 m c (Proc.devRef .tc main_v23) (ix1 r) = T m c (ix2 c r) := by
  dsimp only [V1]
  after_results
  refine (row_at _ _ _ _ c ?_ ?_ r).trans ?_
  · change (BitVec.toInt ((_ : Valuation τ sig (Elt F)) (Proc.devRef .tc main_v21) (Shape.Idx.first h_S_)) = _)
    after_results_simp
    rw [my_z, start21]
    exact toInt21 c
  · change (BitVec.toInt ((_ : Valuation τ sig (Elt F)) (Proc.devRef .tc main_c_7) (Shape.Idx.first h_S_)) = _)
    after_results_simp
    rfl
  · rfl

set_option maxHeartbeats 2000000 in
theorem v28 (s : Fin 4) : V1 m c (Proc.devRef .tc main_v28) (ix1 s) = T m c (ix2 s c) := by
  dsimp only [V1]
  after_results
  refine (col_at _ _ _ _ c ?_ ?_ s).trans ?_
  · change (BitVec.toInt ((_ : Valuation τ sig (Elt F)) (Proc.devRef .tc main_c_10) (Shape.Idx.first h_S_)) = _)
    after_results_simp
    rfl
  · change (BitVec.toInt ((_ : Valuation τ sig (Elt F)) (Proc.devRef .tc main_v26) (Shape.Idx.first h_S_)) = _)
    after_results_simp
    rw [my_z, start21]
    exact toInt21 c
  · rfl

theorem v29 : V1 m c (Proc.devRef .tc main_v29) = fun _ => (0#32 : BitVec 32) := by
  dsimp only [V1]
  after_results
  rfl

/-! What each later stretch of host code leaves, from any contents `V`. -/

section stretches

variable (V : Valuation τ sig (Elt F))

theorem sums1 : StableHlo.after hostOps0_1 V (Proc.devRef .tc main_v30)
    = Host.reduceWindow IntOp.addi ![4] ![1] ![3] ![0] (V (Proc.devRef .tc main_v23) : IVec S4 32)
        (broadcastInDim S_ ![] bcast_S_S_ (constantI S_ 32 0#32)) reduceWindows_S4_S4_w4s1p3_0 h_S_ := by
  simp only [hostOps0_1, TRef.binary, TRef.unary, TRef.nullary, TRef.toBuf, TRef.ofBuf, cast_eq]
  after_results

theorem sums3 : StableHlo.after hostOps0_3 V (Proc.devRef .tc main_v33)
    = Host.reduceWindow IntOp.addi ![4] ![1] ![3] ![0] (V (Proc.devRef .tc main_v28) : IVec S4 32)
        (broadcastInDim S_ ![] bcast_S_S_ (constantI S_ 32 0#32)) reduceWindows_S4_S4_w4s1p3_0 h_S_ := by
  simp only [hostOps0_3, TRef.binary, TRef.unary, TRef.nullary, TRef.toBuf, TRef.ofBuf, cast_eq]
  after_results

theorem join2 : StableHlo.after hostOps0_2 V (Proc.devRef .tc main_v32)
    = concatenate S4 0 [⟨S1, (V (Proc.devRef .tc main_v29) : IVec S1 32)⟩,
        ⟨S3, extractStridedSlice S3 ![0] (V (Proc.devRef .tc main_v30) : IVec S4 32) slices_S4_S3_0⟩] concatenates_S1_S3_S4_d0 := by
  after_results

theorem join4 : StableHlo.after hostOps0_4 V (Proc.devRef .tc main_v35)
    = concatenate S4 0 [⟨S1, (V (Proc.devRef .tc main_v29) : IVec S1 32)⟩,
        ⟨S3, extractStridedSlice S3 ![0] (V (Proc.devRef .tc main_v33) : IVec S4 32) slices_S4_S3_0⟩] concatenates_S1_S3_S4_d0 := by
  after_results

theorem sort5 : StableHlo.after hostOps0_5 V (Proc.devRef .tc main_v36)
    = (Host.sort2 S4096 0 comparator_i32_i32_d0 (V (Proc.devRef .tc main_v9) : IVec S4096 32) (iotaInDim S4096 32 0)).2 := by
  simp only [hostOps0_5, TRef.binary, TRef.unary, TRef.nullary, TRef.toBuf, TRef.ofBuf, cast_eq]
  after_results

theorem rows6 : StableHlo.after hostOps0_6 V (Proc.devRef .tc main_v37)
    = shapeCast S4096x8x128 (V (Proc.devRef .tc main_arg0) : S4096x1024.Idx → Elt F .bf16) shapeCasts_S4096x1024_S4096x8x128 := by
  after_results
  rfl

/-- The result, from what the call left. -/
theorem result : StableHlo.after hostOps1 V (Proc.devRef .tc main_v41)
    = extf .f32 (shapeCast S4096x1024 (extractStridedSlice S4096x8x128 ![0, 0, 0] (V (Proc.devRef .tc main_v38) : FVec F S5248x8x128 .bf16) slices_S5248x8x128_S4096x8x128_0_0_0) shapeCasts_S4096x8x128_S4096x1024) := by
  after_results
  rfl

end stretches

/-- The starts of the groups of the device: running sums of its row of the table. -/
theorem v32 (r : Fin 4) : V7 m c (Proc.devRef .tc main_v32) (ix1 r) = BitVec.ofNat 32 (start (dest (D m c)) c.val r.val) := by
  rw [V7_of m c main_v32 (by decide), V6_of m c main_v32 (by decide), V5_of m c main_v32 (by decide), V4_of m c main_v32 (by decide)]
  have h29 : V2 m c (Proc.devRef .tc main_v29) = fun _ => (0#32 : BitVec 32) := (V2_of m c main_v29 (by decide)).trans (v29 m c)
  have h30 : V2 m c (Proc.devRef .tc main_v30) = _ := sums1 (V1 m c)
  have h := join2 (V2 m c)
  rw [h29, h30] at h
  refine (congrFun h (ix1 r)).trans ?_
  exact before_at (V1 m c (Proc.devRef .tc main_v23)) (cnt (dest (D m c)) c.val)
    (fun r => (v23 m c r).trans (table_at ..)) _ rfl _ rfl _ _ _ _ r

/-- Where the rows of each device go: running sums of the device's column of the table. -/
theorem v35 (s : Fin 4) : V7 m c (Proc.devRef .tc main_v35) (ix1 s) = BitVec.ofNat 32 (off (dest (D m c)) c.val s.val) := by
  rw [V7_of m c main_v35 (by decide), V6_of m c main_v35 (by decide)]
  have h29 : V4 m c (Proc.devRef .tc main_v29) = fun _ => (0#32 : BitVec 32) :=
    (V4_of m c main_v29 (by decide)).trans ((V3_of m c main_v29 (by decide)).trans ((V2_of m c main_v29 (by decide)).trans (v29 m c)))
  have h28 : V3 m c (Proc.devRef .tc main_v28) = V1 m c (Proc.devRef .tc main_v28) :=
    (V3_of m c main_v28 (by decide)).trans (V2_of m c main_v28 (by decide))
  have h33 : V4 m c (Proc.devRef .tc main_v33) = _ := sums3 (V3 m c)
  have h := join4 (V4 m c)
  rw [h29, h33, h28] at h
  refine (congrFun h (ix1 s)).trans ?_
  exact before_at (V1 m c (Proc.devRef .tc main_v28)) (fun s => cnt (dest (D m c)) s c.val)
    (fun s => (v28 m c s).trans (table_at ..)) _ rfl _ rfl _ _ _ _ s

/-- The order in which the device gathers its rows: the stable sort of its own destinations. -/
theorem v36 (h : ∀ p, p < 16384 → dest (D m c) p < 4) (k : Fin 4096) :
    V7 m c (Proc.devRef .tc main_v36) (ix1 k)
      = BitVec.ofNat 32 (sortedFrom (fun a b : Fin 4096 => decide (dest (D m c) (4096 * c.val + a.val) < dest (D m c) (4096 * c.val + b.val))) k).val := by
  have hc : c.val < 4 := c.isLt
  rw [V7_of m c main_v36 (by decide)]
  have h9 : V5 m c (Proc.devRef .tc main_v9) = V1 m c (Proc.devRef .tc main_v9) :=
    (V5_of m c main_v9 (by decide)).trans ((V4_of m c main_v9 (by decide)).trans ((V3_of m c main_v9 (by decide)).trans (V2_of m c main_v9 (by decide))))
  have h36 := sort5 (V5 m c)
  rw [h9] at h36
  refine (congrFun h36 (ix1 k)).trans ?_
  refine argsort_at (n := 4096) (V1 m c (Proc.devRef .tc main_v9)) (fun j => dest (D m c) (4096 * c.val + j)) (fun i => ?_) (fun i => ?_)
    comparator_i32_i32_d0 (fun _ _ => rfl) k
  · rw [v9]
    exact (dest_val (D m c) ⟨4096 * c.val + i.val, by omega⟩).symm
  · exact lt_trans (h _ (by omega)) (by decide)

/-- The rows, reshaped. -/
theorem v37 : V7 m c (Proc.devRef .tc main_v37)
    = shapeCast S4096x8x128 (m ((c : Thread nD τ).loc main_arg0) : S4096x1024.Idx → Elt F .bf16) shapeCasts_S4096x1024_S4096x8x128 := by
  have h0 : V6 m c (Proc.devRef .tc main_arg0) = m ((c : Thread nD τ).loc main_arg0) :=
    (V6_of m c main_arg0 (by decide)).trans ((V5_of m c main_arg0 (by decide)).trans ((V4_of m c main_arg0 (by decide)).trans
      ((V3_of m c main_arg0 (by decide)).trans ((V2_of m c main_arg0 (by decide)).trans (V1_of m c main_arg0 (by decide))))))
  rw [← h0]
  exact rows6 (V6 m c)

end Cert.Proof.Host

end
-- ==== Proof.Proto.lean ====
/-
  The exchange of the kernel as a protocol between four devices.

  Device `c` gathers its rows into `xsorted` (rows of equal destination lie together), tells the three other devices
  that its receive buffer is free, waits until the three others have said the same, and then sends each of them a
  window of `xsorted`. It puts the pieces it receives, and its own piece, into the result one after the other, in the
  order of their sources.

  * The barrier counter of device `c` takes one unit from each other device `p`. The unit hands over slot `c` of the
    receive buffer of `p`.
  * The receive counter number `s` of device `c` is paid by the copy that device `s` sends. The payment is slot `s` of
    the receive buffer of `c`, holding the rows of `s` from the start of the group bound for `c`.
  * The send counter number `r` of device `c` is paid by the copy that `c` sends to `r`. The payment is the window of
    `xsorted` the copy read.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Rounds.Family
public import Idealize.ShloMosaic.Lib.ShareLeaves
public import Idealize.ShloMosaic.Lib.ViewIndex
public import Idealize.ShloMosaic.Lib.Pipeline.ValueKit.Geometry
public import Idealize.ShloMosaic.Lib.Tactic

@[expose] public section

noncomputable section

namespace Cert.Proof.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What a device is given -/

/-- The one index of a vector of four. -/
abbrev i4 (r : Fin 4) : S4.Idx := fun a => match a with
  | ⟨0, _⟩ => r
  | ⟨_ + 1, h⟩ => absurd h (Nat.not_lt.2 (Nat.le_add_left _ _))
/-- An index of a vector of 4096. -/
abbrev i4096 (n : ℕ) : S4096.Idx := fun a => match a with
  | ⟨0, _⟩ => ⟨n % 4096, Nat.mod_lt _ (by decide)⟩
  | ⟨_ + 1, h⟩ => absurd h (Nat.not_lt.2 (Nat.le_add_left _ _))

/-- What each device holds when the kernel starts: its rows, the order they are gathered in, where in that order the
    rows bound for each device start, and where in its result the rows of each device go. The bounds keep every window
    inside its array. -/
structure Inp (F : FTy → Type) where
  X : Dev nD → S4096x8x128.Idx → Elt F .bf16
  LS : Dev nD → S4096.Idx → BitVec 32
  ST : Dev nD → S4.Idx → BitVec 32
  OF : Dev nD → S4.Idx → BitVec 32
  ls_lt : ∀ c i, (LS c i).toNat < 4096
  st_le : ∀ c i, (ST c i).toNat ≤ 4096
  of_le : ∀ c i, (OF c i).toNat ≤ 4096

variable (I : Inp F)

/-- Where the rows of `s` bound for `r` start in the gathered order of `s`. -/
def Inp.st (s r : Fin 4) : ℕ := (I.ST s (i4 r)).toNat
/-- Where the rows of `s` go in the result of `c`. -/
def Inp.of (c s : Fin 4) : ℕ := (I.OF c (i4 s)).toNat
theorem Inp.st_le' (s r : Fin 4) : I.st s r ≤ 4096 := I.st_le s _
theorem Inp.of_le' (c s : Fin 4) : I.of c s ≤ 4096 := I.of_le c _

/-- Row `v + i 0` of the tall arrays, at the place of `i` inside the row. -/
def row (v : ℕ) (i : S1152x8x128.Idx) : S5248x8x128.Idx := fun a => match a with
  | ⟨0, _⟩ => ⟨(v + (i 0).val) % 5248, Nat.mod_lt _ (by decide)⟩
  | ⟨1, _⟩ => i 1
  | ⟨2, _⟩ => i 2
  | ⟨_ + 3, h⟩ => absurd h (Nat.not_lt.2 (Nat.le_add_left _ _))

/-- The element of `X` that the gathered array of device `c` has at `i`. -/
def Inp.src (c : Dev nD) (i : S5248x8x128.Idx) : S4096x8x128.Idx := fun a => match a with
  | ⟨0, _⟩ => ⟨(I.LS c (i4096 (i 0).val)).toNat, I.ls_lt c _⟩
  | ⟨1, _⟩ => i 1
  | ⟨2, _⟩ => i 2
  | ⟨_ + 3, h⟩ => absurd h (Nat.not_lt.2 (Nat.le_add_left _ _))
/-- The gathered array of device `c`: row `k` is row `LS k` of `X`. -/
def Inp.srt (c : Dev nD) (i : S5248x8x128.Idx) : Elt F .bf16 := I.X c (I.src c i)

/-- The first `n` rows of `xsorted` are the gathered rows. -/
def Sorted (c : Dev nD) (n : ℕ) (f : S5248x8x128.Idx → Elt F .bf16) : Prop :=
  ∀ i : S5248x8x128.Idx, (i 0).val < n → f i = I.srt c i

/-- A piece holds the rows of `s` from the start of the group bound for `c`. -/
def Landed (s c : Dev nD) (f : S1152x8x128.Idx → Elt F .bf16) : Prop :=
  ∀ i : S1152x8x128.Idx, I.st s c + (i 0).val < 4096 → f i = I.srt s (row (I.st s c) i)

/-- The result of `c` after the pieces of the sources below `k` have been put in. A row of a piece is there unless a
    later piece lies over it. -/
def Placed (c : Dev nD) (k : ℕ) (f : S5248x8x128.Idx → Elt F .bf16) : Prop :=
  ∀ s : Dev nD, s.val < k → ∀ i : S1152x8x128.Idx, I.st s c + (i 0).val < 4096 →
    (∀ s' : Dev nD, s < s' → s'.val < k → I.of c s + (i 0).val < I.of c s') →
    f (row (I.of c s) i) = I.srt s (row (I.st s c) i)

/-! ## The buffers, the windows, the slots -/

abbrev xM : Memref sig .tc .vmem S4096x8x128 .bf16 := Memref.whole cc0_stg0_0
abbrev lsM : Memref sig .tc .smem S4096 .i32 := Memref.whole cc0_stg1_0
abbrev stM : Memref sig .tc .smem S4 .i32 := Memref.whole cc0_stg2_0
abbrev ofM : Memref sig .tc .smem S4 .i32 := Memref.whole cc0_stg3_0
abbrev oM : Memref sig .tc .vmem S5248x8x128 .bf16 := Memref.whole cc0_stg4_0
abbrev xsM : Memref sig .tc .vmem S5248x8x128 .bf16 := Memref.whole cc0_scratch0
abbrev rbM : Memref sig .tc .vmem S4x1152x8x128 .bf16 := Memref.whole cc0_scratch1

theorem win_inb {v : ℕ} (h : v ≤ 4096) : ∀ a, (![v, 0, 0] : Fin 3 → ℕ) a + S1152x8x128.size a ≤ S5248x8x128.size a := by
  intro a
  match a with
  | ⟨0, _⟩ => show v + 1152 ≤ 5248; omega
  | ⟨1, _⟩ => show 0 + 8 ≤ 8; omega
  | ⟨2, _⟩ => show 0 + 128 ≤ 128; omega
theorem slot_inb (s : Fin 4) : ∀ a, (![s.val, 0, 0, 0] : Fin 4 → ℕ) a + S1x1152x8x128.size a ≤ S4x1152x8x128.size a := by
  intro a
  match a with
  | ⟨0, _⟩ => show s.val + 1 ≤ 4; omega
  | ⟨1, _⟩ => show 0 + 1152 ≤ 1152; omega
  | ⟨2, _⟩ => show 0 + 8 ≤ 8; omega
  | ⟨3, _⟩ => show 0 + 128 ≤ 128; omega

/-- The window of 1152 rows from row `v` on, of `xsorted` and of the result. -/
abbrev xsWin (v : ℕ) (h : ∀ a, (![v, 0, 0] : Fin 3 → ℕ) a + S1152x8x128.size a ≤ S5248x8x128.size a) : Memref sig .tc .vmem S1152x8x128 .bf16 :=
  xsM.slice (Rect.unit (s := S5248x8x128) ![v, 0, 0] S1152x8x128.size h) (fun _ => rfl)
abbrev oWin (v : ℕ) (h : ∀ a, (![v, 0, 0] : Fin 3 → ℕ) a + S1152x8x128.size a ≤ S5248x8x128.size a) : Memref sig .tc .vmem S1152x8x128 .bf16 :=
  oM.slice (Rect.unit (s := S5248x8x128) ![v, 0, 0] S1152x8x128.size h) (fun _ => rfl)
/-- Slot `s` of the receive buffer. -/
abbrev slotM (s : Fin 4) : Memref sig .tc .vmem S1152x8x128 .bf16 :=
  (rbM.slice (Rect.unit (s := S4x1152x8x128) ![s.val, 0, 0, 0] S1x1152x8x128.size (slot_inb s)) (fun _ => rfl)).squeeze S1152x8x128
    squeezes_S1x1152x8x128_S1152x8x128

theorem xsWin_emb {v : ℕ} (hv : v ≤ 4096) (h) (i : S1152x8x128.Idx) : (xsWin v h).view.emb i = row v i := by
  have hi : (i 0).val < 1152 := (i 0).isLt
  refine Shape.idx3_ext ?_ ?_ ?_
  · refine (ValueKit.rect_emb_unit_val (s := S5248x8x128) ![v, 0, 0] S1152x8x128.size h i 0).trans ?_
    show v + (i 0).val = (v + (i 0).val) % 5248
    rw [Nat.mod_eq_of_lt (by omega)]
  · refine (ValueKit.rect_emb_unit_val (s := S5248x8x128) ![v, 0, 0] S1152x8x128.size h i 1).trans ?_
    exact Nat.zero_add _
  · refine (ValueKit.rect_emb_unit_val (s := S5248x8x128) ![v, 0, 0] S1152x8x128.size h i 2).trans ?_
    exact Nat.zero_add _
theorem oWin_emb {v : ℕ} (hv : v ≤ 4096) (h) (i : S1152x8x128.Idx) : (oWin v h).view.emb i = row v i :=
  xsWin_emb hv h i

theorem row_val {v : ℕ} (hv : v ≤ 4096) (i : S1152x8x128.Idx) : (row v i 0).val = v + (i 0).val := by
  have hi : (i 0).val < 1152 := (i 0).isLt
  show (v + (i 0).val) % 5248 = _
  exact Nat.mod_eq_of_lt (by omega)

/-- What a window of a gathered array holds is what the copy lands. -/
theorem landed_of_sorted {s c : Dev nD} {f : S5248x8x128.Idx → Elt F .bf16} (hf : Sorted I s 4096 f) (h) :
    Landed I s c ((xsWin (I.st s c) h).view.read (Elt F) f) := by
  intro i hi
  rw [View.read_apply, xsWin_emb (I.st_le' s c)]
  exact hf _ (by rw [row_val (I.st_le' s c)]; exact hi)

/-- Putting the next piece in keeps what was said of the pieces before it. -/
theorem Placed.step {c s : Dev nD} {f : S5248x8x128.Idx → Elt F .bf16} (hf : Placed I c s.val f) (h)
    {g : S1152x8x128.Idx → Elt F .bf16} (hg : Landed I s c g) :
    Placed I c (s.val + 1) ((oWin (I.of c s) h).view.write (Elt F) f g Finset.univ) := by
  intro s₀ hs₀ i hi hlater
  by_cases e : s₀ = s
  · subst e
    rw [← oWin_emb (I.of_le' c s₀) h i, View.write_emb_of_mem _ _ (Finset.mem_univ _)]
    exact hg i hi
  · have hlt : s₀ < s := by
      have : s₀.val ≠ s.val := fun h => e (Fin.ext h)
      exact Fin.lt_def.mpr (by omega)
    rw [View.write_of_not_mem]
    · exact hf s₀ hlt i hi fun s' h1 h2 => hlater s' h1 (by omega)
    · intro hm
      obtain ⟨j, -, hj⟩ := Finset.mem_map.mp hm
      have h1 : (oWin (I.of c s) h).view.emb j = row (I.of c s₀) i := hj
      rw [oWin_emb (I.of_le' c s)] at h1
      have h2 := congrArg (fun x : S5248x8x128.Idx => (x 0).val) h1
      simp only [row_val (I.of_le' c s), row_val (I.of_le' c s₀)] at h2
      have h3 := hlater s hlt (Nat.lt_succ_self _)
      omega

theorem Placed.zero (c : Dev nD) (f : S5248x8x128.Idx → Elt F .bf16) : Placed I c 0 f :=
  fun _ h => absurd h (Nat.not_lt_zero _)

/-! ## The resource algebra -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The cells -/

abbrev barS : Sem sig := barrier1
/-- The send semaphore number `r`, the receive semaphore number `s`, the semaphore of the local copies. -/
def sendS (r : Fin 4) : DmaSem sig := ⟨5 + r.val, by have := r.isLt; show 5 + r.val < 14; omega⟩
def recvS (s : Fin 4) : DmaSem sig := ⟨9 + s.val, by have := s.isLt; show 9 + s.val < 14; omega⟩
def locS : DmaSem sig := ⟨13, by decide⟩

abbrev barCell (c : Dev nD) : GSem nD τ sig := ((c : Thread nD τ), .reg barS)
abbrev sendCell (c : Dev nD) (r : Fin 4) : GSem nD τ sig := ((c : Thread nD τ), .dma (sendS r))
abbrev recvCell (c : Dev nD) (s : Fin 4) : GSem nD τ sig := ((c : Thread nD τ), .dma (recvS s))

/-- What a DMA semaphore is for: sending to a device (`inl`), receiving from one (`inr`), or neither. -/
def kind (n : DmaSem sig) : Option (Fin 4 ⊕ Fin 4) :=
  match n with
  | ⟨5, _⟩ => some (.inl 0) | ⟨6, _⟩ => some (.inl 1) | ⟨7, _⟩ => some (.inl 2) | ⟨8, _⟩ => some (.inl 3)
  | ⟨9, _⟩ => some (.inr 0) | ⟨10, _⟩ => some (.inr 1) | ⟨11, _⟩ => some (.inr 2) | ⟨12, _⟩ => some (.inr 3)
  | _ => none
theorem kind_send (r : Fin 4) : kind (sendS r) = some (.inl r) := by revert r; decide
theorem kind_recv (s : Fin 4) : kind (recvS s) = some (.inr s) := by revert s; decide

/-- The units one piece brings to a counter. -/
abbrev N : ℕ := (slotM 0).view.dmaCredit
theorem N_pos : 0 < N := View.dmaCredit_pos _ (by decide)

/-- The share of `xsorted` that is lent to the copy to device `r`; device `c`'s own number is the share it keeps. -/
def shr (r : Fin 4) : PosShare TreeShare := ShareLeaves.leaf 2 fullShare r

/-! ## The points-tos -/

abbrev slotPt (c : Dev nD) (s : Fin 4) (f : Buf (Elt F) ((slotM s).view.loc (c : Thread nD τ))) : sProp 𝕄 :=
  (slotM s).view.loc (c : Thread nD τ) ↦[(slotM s).view.set]{fullShare} f
/-- The window of `xsorted` that device `c` sends to `r`, at the share lent. -/
abbrev winM (c r : Dev nD) : Memref sig .tc .vmem S1152x8x128 .bf16 := xsWin (I.st c r) (win_inb (I.st_le' c r))
abbrev winPt (c r : Dev nD) (f : Buf (Elt F) ((winM I c r).view.loc (c : Thread nD τ))) : sProp 𝕄 :=
  (winM I c r).view.loc (c : Thread nD τ) ↦[(winM I c r).view.set]{shr r} f
abbrev xsPt (c : Dev nD) (q : PosShare TreeShare) (f : Buf (Elt F) ((c : Thread nD τ).loc cc0_scratch0)) : sProp 𝕄 :=
  (c : Thread nD τ).loc cc0_scratch0 ↦{q} f

/-! ## The schedule -/

/-- Paid to the barrier of `c` by `p`: slot `c` of the receive buffer of `p`, whose receive counter number `c` is open. -/
def barPay (p c : Dev nD) : sProp 𝕄 := iprop((∃ f, slotPt p c f) ∗ reached ER (recvCell p c) 0)
/-- Paid to receive counter `s` of `c`: the slot with the rows of `s`. -/
def recvPay (s c : Dev nD) : sProp 𝕄 := iprop(∃ f, ⌜Landed I s c ((slotM s).view.read (Elt F) f)⌝ ∗ slotPt c s f)
/-- Paid to send counter `r` of `c`: the window read. -/
def sendPay (c r : Dev nD) : sProp 𝕄 := iprop(∃ f, winPt I c r f)

def exRd : Rounds.Schedule (GSem nD τ sig) (Dev nD) 𝕄 where
  duties g r := if r = 0 ∧ g.1.2 = .tc then
      match g.2 with
      | .reg _ => Finset.univ.erase g.1.1
      | .dma n => match kind n with
        | some (.inl r) => if r = g.1.1 then ∅ else {r}
        | some (.inr s) => if s = g.1.1 then ∅ else {s}
        | none => ∅
    else ∅
  unitless _ := False
  amount g _ _ := match g.2 with | .reg _ => 1 | .dma _ => N
  payload g _ d := match g.2 with
    | .reg _ => barPay d g.1.1
    | .dma n => match kind n with
      | some (.inl r) => sendPay I g.1.1 r
      | some (.inr s) => recvPay I s g.1.1
      | none => iprop(emp)
  amount_pos g _ _ _ := by
    cases h : g.2 with
    | reg s => simp only [h]; exact Nat.one_pos
    | dma s => simp only [h]; exact N_pos

instance slotPt_storable (c : Dev nD) (s : Fin 4) (f) : BI.Storable (upEmb : UEmb _ 𝕄) (slotPt c s f : sProp 𝕄) := by
  unfold slotPt; infer_instance
set_option synthInstance.maxHeartbeats 400000 in
instance recvPay_storable (s c : Dev nD) : BI.Storable (upEmb : UEmb _ 𝕄) (recvPay I s c) := by
  unfold recvPay; infer_instance
set_option synthInstance.maxHeartbeats 400000 in
instance barPay_storable (p c : Dev nD) : BI.Storable (upEmb : UEmb _ 𝕄) (barPay p c : sProp 𝕄) := by
  unfold barPay; infer_instance
set_option synthInstance.maxHeartbeats 400000 in
instance sendPay_storable (c r : Dev nD) : BI.Storable (upEmb : UEmb _ 𝕄) (sendPay I c r) := by
  unfold sendPay; infer_instance
instance exRd_payload_storable (g : GSem nD τ sig) (r : ℕ) (d : Dev nD) :
    BI.Storable (upEmb : UEmb _ 𝕄) ((exRd I).payload g r d) := by
  show BI.Storable upEmb (match g.2 with
    | .reg _ => barPay d g.1.1
    | .dma n => match kind n with
      | some (.inl r) => sendPay I g.1.1 r
      | some (.inr s) => recvPay I s g.1.1
      | none => iprop(emp))
  (repeat' split) <;> infer_instance

section Sched

variable (c p r s : Dev nD)

theorem duties_bar : (exRd I).duties (barCell c) 0 = Finset.univ.erase c := by
  dsimp only [exRd]; exact if_pos ⟨rfl, rfl⟩
theorem duties_send : (exRd I).duties (sendCell c r) 0 = if r = c then ∅ else {r} := by
  dsimp only [exRd]; rw [if_pos ⟨rfl, rfl⟩, kind_send]
theorem duties_recv : (exRd I).duties (recvCell c s) 0 = if s = c then ∅ else {s} := by
  dsimp only [exRd]; rw [if_pos ⟨rfl, rfl⟩, kind_recv]
theorem duties_later (g : GSem nD τ sig) : ∀ r, 1 ≤ r → (exRd I).duties g r = ∅ :=
  fun r hr => by dsimp only [exRd]; rw [if_neg (fun h => by omega)]

theorem amount_bar (u : Dev nD) : (exRd I).amount (barCell c) 0 u = 1 := rfl
theorem amount_send (u : Dev nD) : (exRd I).amount (sendCell c r) 0 u = N := rfl
theorem amount_recv (u : Dev nD) : (exRd I).amount (recvCell c s) 0 u = N := rfl

theorem expect_bar : (exRd I).expect (barCell c) 0 = 3 := by
  unfold Schedule.expect Schedule.amountOf
  rw [duties_bar, Finset.sum_congr rfl (fun u _ => amount_bar I c u), Finset.sum_const, Finset.card_erase_of_mem (Finset.mem_univ _)]
  rfl
theorem expect_send (h : r ≠ c) : (exRd I).expect (sendCell c r) 0 = N := by
  unfold Schedule.expect Schedule.amountOf; rw [duties_send, if_neg h, Finset.sum_singleton, amount_send]
theorem expect_recv (h : s ≠ c) : (exRd I).expect (recvCell c s) 0 = N := by
  unfold Schedule.expect Schedule.amountOf; rw [duties_recv, if_neg h, Finset.sum_singleton, amount_recv]

theorem payload_bar : (exRd I).payload (barCell c) 0 p = barPay p c := rfl
theorem payload_send (u : Dev nD) : (exRd I).payload (sendCell c r) 0 u = sendPay I c r := by
  dsimp only [exRd]; rw [kind_send]
theorem payload_recv (u : Dev nD) : (exRd I).payload (recvCell c s) 0 u = recvPay I s c := by
  dsimp only [exRd]; rw [kind_recv]

theorem rest_bar : bigSep ((exRd I).duties (barCell c) 0 \ ∅) (fun u => (exRd I).payload (barCell c) 0 u)
    = bigSep (Finset.univ.erase c) (fun p => barPay p c) := by
  rw [Finset.sdiff_empty, duties_bar]; rfl
theorem rest_send (h : r ≠ c) : bigSep ((exRd I).duties (sendCell c r) 0 \ ∅) (fun u => (exRd I).payload (sendCell c r) 0 u) = sendPay I c r := by
  rw [Finset.sdiff_empty, duties_send, if_neg h, bigSep_singleton, payload_send]
theorem rest_recv (h : s ≠ c) : bigSep ((exRd I).duties (recvCell c s) 0 \ ∅) (fun u => (exRd I).payload (recvCell c s) 0 u) = recvPay I s c := by
  rw [Finset.sdiff_empty, duties_recv, if_neg h, bigSep_singleton, payload_recv]

end Sched

/-! ## What each device owes at the start, and the levels -/

/-- The device `o + 1` places further on. -/
def peer (c : Dev nD) (o : Fin 3) : Dev nD := ⟨(c.val + (o.val + 1)) % 4, Nat.mod_lt _ (by decide)⟩
theorem peer_ne (c : Dev nD) (o : Fin 3) : peer c o ≠ c := by revert c o; decide
theorem ne_peer (c : Dev nD) (o : Fin 3) : c ≠ peer c o := (peer_ne c o).symm

/-- The payments device `c` still owes before each of its sends and signals: its copies to the three others. -/
def owed3 (_ : Dev nD) : CellTallies nD τ sig Unit := 0
def owed2 (c : Dev nD) : CellTallies nD τ sig Unit := owed3 c + tallyAt (recvCell (peer c 2) c) () N
def owed1 (c : Dev nD) : CellTallies nD τ sig Unit := owed2 c + tallyAt (recvCell (peer c 1) c) () N
def owed0 (c : Dev nD) : CellTallies nD τ sig Unit := owed1 c + tallyAt (recvCell (peer c 0) c) () N
def owedB2 (c : Dev nD) : CellTallies nD τ sig Unit := owed0 c + tallyAt (barCell (peer c 2)) () 1
def owedB1 (c : Dev nD) : CellTallies nD τ sig Unit := owedB2 c + tallyAt (barCell (peer c 1)) () 1
/-- Everything owed at the start: a unit to each other barrier, a piece to each other device. -/
def O₀ (c : Dev nD) : CellTallies nD τ sig Unit := owedB1 c + tallyAt (barCell (peer c 0)) () 1

def L (g : GSem nD τ sig) : Finset Unit := if g.1.2 = .tc then {()} else ∅
/-- Barriers at 1, receive counters at 2, the rest at 0. -/
def lv (g : GSem nD τ sig) (_ : Unit) : ℕ := match g.2 with
  | .reg _ => 1
  | .dma n => match kind n with | some (.inr _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c s : Dev nD) : lv (recvCell c s) () = 2 := by dsimp only [lv]; rw [kind_recv]

theorem tallyAt_pos {g g' : GSem nD τ sig} {u u' : Unit} {n : ℕ} (h : 0 < (tallyAt g' u' n : CellTallies nD τ sig Unit) g u) : g = g' := by
  rw [tallyAt_apply] at h
  by_cases e : g = g' ∧ u = u'
  · exact e.1
  · rw [if_neg e] at h; exact absurd h (Nat.lt_irrefl 0)

theorem owed0_pos (c : Dev nD) {g : GSem nD τ sig} {u : Unit} (h : 0 < owed0 c g u) : ∃ p, g = recvCell p c := by
  unfold owed0 owed1 owed2 owed3 at h
  simp only [Pi.add_apply] at h
  by_contra hn
  have key : ∀ p : Dev nD, (tallyAt (recvCell p c) () N : CellTallies nD τ sig Unit) g u = 0 := fun p => by
    by_contra h0
    exact hn ⟨p, tallyAt_pos (Nat.pos_of_ne_zero h0)⟩
  have e1 := key (peer c 0)
  have e2 := key (peer c 1)
  have e3 := key (peer c 2)
  simp_all

/-- A device may wait at its barrier while it still owes the three copies. -/
theorem mayWait_bar (c : Dev nD) :
    (levAts L lv : sProp 𝕄) ⊢ MayWait (c : Thread nD τ) (.reg barS) () (owed0 c) :=
  MayOwe.of_cut (L := L) (lev := lv) 1 (fun p hp => by rw [Finset.mem_singleton.mp hp, L_tc]; exact Finset.mem_singleton_self _)
    (fun g u hg => by obtain ⟨p, rfl⟩ := owed0_pos c hg; rw [L_tc]; exact Finset.mem_singleton_self _)
    (fun p hp => by rw [Finset.mem_singleton.mp hp]; exact le_of_eq (lv_bar c))
    (fun g u hg => by obtain ⟨p, rfl⟩ := owed0_pos c hg; rw [lv_recv]; decide)

end Cert.Proof.Talk

end
-- ==== Proof.Gather.lean ====
/-
  The loop that gathers a device's rows: trip `k` copies row `LS k` of the input into row `k` of `xsorted`. Also the
  reading of one word of scalar memory, which the whole kernel does.
-/
module

public import proofs.«01_k».proof.Proof.Proto

@[expose] public section

noncomputable section

namespace Cert.Proof.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A whole buffer of device `c` at contents `f`. -/
abbrev pt (c : Dev nD) (b : Ref sig .tc) (f : Buf (Elt F) ((c : Thread nD τ).loc b)) : sProp 𝕄 :=
  ((c : Thread nD τ).loc b) ↦{fullShare} f

variable (I : Inp F)

/-- The word of a table of four at offset `r`. -/
theorem read_st (f : S4.Idx → BitVec 32) (off : Fin 1 → ℕ) (inb) (h) (r : Fin 4) (hr : off = ![r.val]) :
    (stM).view.readAt (Elt F) (Rect.unit (s := S4) off S1.size inb).toLoadRect f (Shape.Idx.first h) = f (i4 r) := by
  subst hr
  show f _ = f _
  congr 1
  refine Shape.idx1_ext ?_
  refine (ValueKit.rect_emb_unit_val (s := S4) ![r.val] S1.size inb _ 0).trans ?_
  have h0 : ((Shape.Idx.first h : (Rect.unit (s := S4) ![r.val] S1.size inb).shape.Idx) 0).val < 1 := (Shape.Idx.first h 0).isLt
  show r.val + _ = r.val
  omega
theorem read_of (f : S4.Idx → BitVec 32) (off : Fin 1 → ℕ) (inb) (h) (r : Fin 4) (hr : off = ![r.val]) :
    (ofM).view.readAt (Elt F) (Rect.unit (s := S4) off S1.size inb).toLoadRect f (Shape.Idx.first h) = f (i4 r) :=
  read_st (F := F) f off inb h r hr
theorem read_ls (f : S4096.Idx → BitVec 32) (off : Fin 1 → ℕ) (inb) (h) (n : ℕ) (hn : n < 4096) (hr : off = ![n]) :
    (lsM).view.readAt (Elt F) (Rect.unit (s := S4096) off S1.size inb).toLoadRect f (Shape.Idx.first h) = f (i4096 n) := by
  subst hr
  show f _ = f _
  congr 1
  refine Shape.idx1_ext ?_
  refine (ValueKit.rect_emb_unit_val (s := S4096) ![n] S1.size inb _ 0).trans ?_
  have h0 : ((Shape.Idx.first h : (Rect.unit (s := S4096) ![n] S1.size inb).shape.Idx) 0).val < 1 := (Shape.Idx.first h 0).isLt
  show n + _ = n % 4096
  rw [Nat.mod_eq_of_lt hn]
  omega

/-- The rows gathered so far. -/
def gInv (c : Dev nD) (n : ℕ) : sProp 𝕄 :=
  iprop(pt c cc0_stg0_0 (I.X c) ∗ pt c cc0_stg1_0 (I.LS c) ∗ ∃ f, ⌜Sorted I c n f⌝ ∗ xsPt c fullShare f)

theorem chk1_of {v : BitVec 32} (h : v.toNat < 4096) : k0_chk1 v := by
  intro a
  match a with
  | ⟨0, _⟩ => show v.toNat + 1 ≤ 4096; omega
  | ⟨1, _⟩ => show 0 + 8 ≤ 8; omega
  | ⟨2, _⟩ => show 0 + 128 ≤ 128; omega

theorem pay1_eq (v : Vec F S1x8x128 .bf16) : k0_pay1 v = v := by
  unfold k0_pay1
  simp only [shapeCast_self]
theorem src_eq (c : Dev nD) (i : S5248x8x128.Idx) (n : ℕ) (e : (i 0).val = n) (j : S1x8x128.Idx) (h1 : (j 1).val = (i 1).val)
    (h2 : (j 2).val = (i 2).val) (inb2) :
    (Rect.unit (s := S4096x8x128) (k0_off2 (I.LS c (i4096 n))) S1x8x128.size inb2).emb j = I.src c i := by
  have h0 : (j 0).val < 1 := (j 0).isLt
  subst e
  refine Shape.idx3_ext ?_ ?_ ?_
  · refine (ValueKit.rect_emb_unit_val (s := S4096x8x128) (k0_off2 (I.LS c (i4096 (i 0).val))) S1x8x128.size inb2 j 0).trans ?_
    show (I.LS c (i4096 (i 0).val)).toNat + (j 0).val = (I.LS c (i4096 (i 0).val)).toNat
    omega
  · refine (ValueKit.rect_emb_unit_val (s := S4096x8x128) (k0_off2 (I.LS c (i4096 (i 0).val))) S1x8x128.size inb2 j 1).trans ?_
    exact (Nat.zero_add _).trans h1
  · refine (ValueKit.rect_emb_unit_val (s := S4096x8x128) (k0_off2 (I.LS c (i4096 (i 0).val))) S1x8x128.size inb2 j 2).trans ?_
    exact (Nat.zero_add _).trans h2

/-- One trip brings one row. -/
theorem sorted_step {c : Dev nD} {n : ℕ} (hn : n < 4096) {f : S5248x8x128.Idx → Elt F .bf16} (hf : Sorted I c n f)
    (off : Fin 3 → ℕ) (inb) (hoff : off = ![n, 0, 0]) (inb2) :
    Sorted I c (n + 1) (((xsM).access (Rect.unit (s := S5248x8x128) off S1x8x128.size inb)).write (Elt F) f
      (k0_pay1 ((xM).view.readAt (Elt F) (Rect.unit (s := S4096x8x128) (k0_off2 (I.LS c (i4096 n))) S1x8x128.size inb2).toLoadRect (I.X c)))
      Finset.univ) := by
  subst hoff
  intro i hi
  by_cases e : (i 0).val = n
  · obtain ⟨j, hj, h1, h2⟩ : ∃ j : (Rect.unit (s := S5248x8x128) ![n, 0, 0] S1x8x128.size inb).shape.Idx,
        ((xsM).access (Rect.unit (s := S5248x8x128) ![n, 0, 0] S1x8x128.size inb)).emb j = i
          ∧ (j 1).val = (i 1).val ∧ (j 2).val = (i 2).val := by
      refine ⟨fun a => match a with
        | ⟨0, _⟩ => (⟨0, Nat.one_pos⟩ : Fin 1)
        | ⟨1, _⟩ => i 1
        | ⟨2, _⟩ => i 2
        | ⟨_ + 3, h⟩ => absurd h (Nat.not_lt.2 (Nat.le_add_left _ _)), ?_, rfl, rfl⟩
      refine Shape.idx3_ext ?_ ?_ ?_
      · refine (ValueKit.rect_emb_unit_val (s := S5248x8x128) ![n, 0, 0] S1x8x128.size inb _ 0).trans ?_
        exact e.symm
      · refine (ValueKit.rect_emb_unit_val (s := S5248x8x128) ![n, 0, 0] S1x8x128.size inb _ 1).trans ?_
        exact Nat.zero_add _
      · refine (ValueKit.rect_emb_unit_val (s := S5248x8x128) ![n, 0, 0] S1x8x128.size inb _ 2).trans ?_
        exact Nat.zero_add _
    have h0 : (j 0).val < 1 := (j 0).isLt
    rw [← hj]
    refine (View.write_emb_of_mem _ _ (Finset.mem_univ _)).trans ?_
    rw [hj, pay1_eq]
    exact congrArg (I.X c) (src_eq I c i n e j h1 h2 inb2)
  · rw [View.write_of_not_mem]
    · exact hf i (by omega)
    · intro hm
      obtain ⟨j, -, hj⟩ := Finset.mem_map.mp hm
      have h0 : (j 0).val < 1 := (j 0).isLt
      have h1 := ValueKit.rect_emb_unit_val (s := S5248x8x128) ![n, 0, 0] S1x8x128.size inb j 0
      have h2 : (i 0).val = n + (j 0).val := (congrArg (fun x : S5248x8x128.Idx => (x 0).val) hj).symm.trans h1
      omega

set_option maxHeartbeats 1000000 in
theorem trip (c : Dev nD) (harg0 harg1 harg2 harg3 harg4 harg5 harg6) (k : Fin k0_t1_loop.trips) (acc : Unit) :
    gInv I c k.val ⊢ wp frame (wpE (defs₀ (F := F)) 𝒱₀ (c : Thread nD τ) none) Set.univ
      (k0_t1_body xM harg0 lsM harg1 stM harg2 ofM harg3 oM harg4 xsM harg5 rbM harg6 cc0_scratch2 cc0_scratch3 cc0_scratch4 k acc)
      (fun _ => gInv I c (k.val + 1)) := by
  have hk : k.val < 4096 := Nat.lt_of_lt_of_le k.isLt k0_t1_abs.2.1
  unfold k0_t1_body gInv
  simp only [smemLoad, smemLoadElt, Prog.lift, Prog.bind_op, Prog.bind_ret, Prog.pure_eq_ret]
  iintro ⟨Hx, Hl, %f, %hf, Hs⟩
  iapply (wp_load 𝒱₀ (c : Thread nD τ) none Set.univ (m := lsM) (Finset.subset_univ _)) $$ Hl
  iintro Hl
  rw [read_ls (F := F) (I.LS c) (k0_off1 k) _ _ k.val hk (k0_off1_eq k)]
  iapply (wp_assume 𝒱₀ (c : Thread nD τ) none Set.univ (chk1_of (I.ls_lt c _)))
  iapply (wp_load 𝒱₀ (c : Thread nD τ) none Set.univ (m := xM) (Finset.subset_univ _)) $$ Hx
  iintro Hx
  iapply (wp_load 𝒱₀ (c : Thread nD τ) none Set.univ (m := xsM) (Finset.subset_univ _)) $$ Hs
  iintro Hs
  iapply (wp_store 𝒱₀ (c : Thread nD τ) none Set.univ (m := xsM) (Mk := Finset.univ)
    (r := Rect.unit (s := S5248x8x128) (k0_off3 k) S1x8x128.size (k0_off3_inb k)) (S := Finset.univ) (f := f) (Finset.subset_univ _)) $$ Hs
  iintro Hs
  rw [wp_ret]
  imodintro
  isplitl [Hx]; · iexact Hx
  isplitl [Hl]; · iexact Hl
  iexists _
  isplitr
  swap
  · iexact Hs
  ipureintro
  exact sorted_step I hk hf (k0_off3 k) _ (k0_off3_eq k) _

end Cert.Proof.Talk

end
-- ==== Proof.Ready.lean ====
/-
  The first part of the kernel: gather the rows, tell the other devices that the receive buffer is free, and wait
  until they have said the same.
-/
module

public import proofs.«01_k».proof.Proof.Gather

@[expose] public section

noncomputable section

namespace Cert.Proof.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## Families over the devices -/

/-- The three other devices, one by one. -/
theorem others (c : Dev nD) (Φ : Dev nD → sProp 𝕄) :
    bigSep (Finset.univ.erase c) Φ = iprop(Φ (peer c 0) ∗ Φ (peer c 1) ∗ Φ (peer c 2)) :=
  bigSep_eq_bigSepL_of_eq [peer c 0, peer c 1, peer c 2] (by revert c; decide) (by revert c; decide) Φ
/-- All four devices, seen from `c`. -/
theorem fromMe (c : Dev nD) (Φ : Dev nD → sProp 𝕄) :
    bigSep Finset.univ Φ = iprop(Φ c ∗ Φ (peer c 0) ∗ Φ (peer c 1) ∗ Φ (peer c 2)) :=
  bigSep_univ_eq_bigSepL [c, peer c 0, peer c 1, peer c 2] (by revert c; decide) (by revert c; decide) Φ
/-- All four, in order. -/
theorem inOrder (Φ : Dev nD → sProp 𝕄) : bigSep Finset.univ Φ = iprop(Φ 0 ∗ Φ 1 ∗ Φ 2 ∗ Φ 3) :=
  bigSep_univ_eq_bigSepL [(0 : Dev nD), 1, 2, 3] (by decide) (by decide) Φ

/-- One member of a family. -/
theorem famAt {ι : Type} [Fintype ι] [DecidableEq ι] (Φ : ι → sProp 𝕄) (i : ι) : (bigSep Finset.univ Φ : sProp 𝕄) ⊢ Φ i :=
  bigSep_elim (Finset.mem_univ i)

/-! ## The counters a device owns, and what everybody may know -/

/-- A device's scoped counters of the exchange: send counters, then receive counters. -/
abbrev CK : Type := Fin 4 ⊕ Fin 4
def csem : CK → SemLoc sig | .inl r => .dma (sendS r) | .inr s => .dma (recvS s)
abbrev scell (c : Dev nD) (k : CK) : GSem nD τ sig := ((c : Thread nD τ), csem k)

/-- The invariants of all cells. -/
def invs (K : GSem nD τ sig → ℕ) : sProp 𝕄 :=
  iprop((bigSep Finset.univ fun d : Dev nD => cellInv ER (exRd I) (K (barCell d)) (barCell d))
    ∗ bigSep Finset.univ fun p : Dev nD × CK => cellInv ER (exRd I) (K (scell p.1 p.2)) (scell p.1 p.2))
instance invs_persistent (K : GSem nD τ sig → ℕ) : BI.Persistent (invs I K) := by unfold invs; infer_instance

theorem inv_bar (K : GSem nD τ sig → ℕ) (d : Dev nD) : invs I K ⊢ cellInv ER (exRd I) (K (barCell d)) (barCell d) := by
  unfold invs
  iintro ⟨H, -⟩
  iapply (famAt (fun d : Dev nD => cellInv ER (exRd I) (K (barCell d)) (barCell d)) d) $$ H
theorem inv_scell (K : GSem nD τ sig → ℕ) (d : Dev nD) (k : CK) : invs I K ⊢ cellInv ER (exRd I) (K (scell d k)) (scell d k) := by
  unfold invs
  iintro ⟨-, H⟩
  iapply (famAt (fun p : Dev nD × CK => cellInv ER (exRd I) (K (scell p.1 p.2)) (scell p.1 p.2)) (d, k)) $$ H

/-- Round 0 of every barrier is reached. -/
def bars : sProp 𝕄 := bigSep Finset.univ fun d : Dev nD => reached ER (barCell d) 0
instance bars_persistent : BI.Persistent (bars (F := F)) := by unfold bars; infer_instance
theorem bars_at (d : Dev nD) : (bars : sProp 𝕄) ⊢ reached ER (barCell d) 0 := by
  unfold bars
  iintro H
  iapply (famAt (fun d : Dev nD => (reached ER (barCell d) 0 : sProp 𝕄)) d) $$ H
/-- Round 0 of every scoped counter of `c` is reached. -/
def mine (c : Dev nD) : sProp 𝕄 := bigSep Finset.univ fun k : CK => reached ER (scell c k) 0
instance mine_persistent (c : Dev nD) : BI.Persistent (mine (F := F) c) := by unfold mine; infer_instance
theorem mine_at (c : Dev nD) (k : CK) : (mine c : sProp 𝕄) ⊢ reached ER (scell c k) 0 := by
  unfold mine
  iintro H
  iapply (famAt (fun k : CK => (reached ER (scell c k) 0 : sProp 𝕄)) k) $$ H

/-- What device `c` knows throughout. -/
def env (K : GSem nD τ sig → ℕ) (c : Dev nD) : sProp 𝕄 := iprop(invs I K ∗ bars ∗ mine c ∗ levAts L lv)
instance env_persistent (K : GSem nD τ sig → ℕ) (c : Dev nD) : BI.Persistent (env I K c) := by unfold env; infer_instance

/-! ## The first part -/

theorem sigDev1 (c : Dev nD) : (⟨k0_dev1 c, k0_dev1_lt c⟩ : Dev nD) = peer c 0 := by revert c; decide +kernel
theorem sigDev2 (c : Dev nD) : (⟨k0_dev2 c, k0_dev2_lt c⟩ : Dev nD) = peer c 1 := by revert c; decide +kernel
theorem sigDev3 (c : Dev nD) : (⟨k0_dev3 c, k0_dev3_lt c⟩ : Dev nD) = peer c 2 := by revert c; decide +kernel

/-- One signal: the unit to the barrier of a peer, with the slot that peer's piece will land in. -/
theorem wp_tell (K : GSem nD τ sig → ℕ) (c p : Dev nD) (hp : p ≠ c) (O' : CellTallies nD τ sig Unit) {β : Type} (W : Waits sig Unit) (n : ℕ) (hn : n = 1)
    {k : PUnit → Prog (TpuEff nD τ sig (Elt F) Λ₀ .tc) β} {Q : β → sProp 𝕄} :
    iprop(env I K c ∗ (∃ f, slotPt c p f) ∗ dutyTok ER (barCell p) 0 c ∗ owes (c : Thread nD τ) (O' + tallyAt (barCell p) () 1) W)
      ⊢ iprop((owes (c : Thread nD τ) O' W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc p) barS n) k) Q) := by
  subst hn
  iintro ⟨#He, ⟨%f, Hs⟩, Ht, HO⟩ Hk
  unfold env
  icases He with ⟨#Hi, #Hb, #Hm, -⟩
  iapply (Rounds.wp_signal 𝒱₀ ER (exRd I) (c : Thread nD τ) none (dst := (p : Thread nD τ)) (κ := K (barCell p)) (d := c)
      (by rw [duties_bar]; exact Finset.mem_erase.mpr ⟨hp.symm, Finset.mem_univ _⟩) (amount_bar I p c) () O' rfl) $$ [Hs Ht HO]
  · isplitr; · iapply (inv_bar I K p); iexact Hi
    isplitl [HO]; · iexact HO
    isplitl [Ht]; · iexact Ht
    isplitl [Hs]
    · rw [payload_bar]; unfold barPay
      isplitl [Hs]; · iexists f; iexact Hs
      iapply (mine_at c (.inr p)); iexact Hm
    · iapply (bars_at p); iexact Hb
  iexact Hk

/-- The loop, and what is done after it. -/
theorem wp_gather (c : Dev nD) (harg0 harg1 harg2 harg3 harg4 harg5 harg6) {β : Type}
    {kk : Unit → Prog (TpuEff nD τ sig (Elt F) Λ₀ .tc) β} {Q : β → sProp 𝕄} :
    gInv I c 0 ⊢ iprop((gInv I c 4096 -∗ wp frame (wpE (defs₀ (F := F)) 𝒱₀ (c : Thread nD τ) none) Set.univ (kk ()) Q)
      -∗ wp frame (wpE (defs₀ (F := F)) 𝒱₀ (c : Thread nD τ) none) Set.univ
        (Scf.Loop.for k0_t1_loop k0_t1_ok ⟨⟩ (k0_t1_body xM harg0 lsM harg1 stM harg2 ofM harg3 oM harg4 xsM harg5 rbM harg6
          cc0_scratch2 cc0_scratch3 cc0_scratch4) >>= kk) Q) := by
  iintro Hg Hk
  iapply (Scf.wp_for_bind frame (wpE (defs₀ (F := F)) 𝒱₀ (c : Thread nD τ) none) Set.univ k0_t1_loop.lb k0_t1_loop.ub k0_t1_loop.st
    k0_t1_ok () _ (fun n _ => gInv I c n) (fun k acc => trip I c harg0 harg1 harg2 harg3 harg4 harg5 harg6 k acc)) $$ Hg
  iintro %acc Hg
  rw [show Scf.trips k0_t1_loop.lb k0_t1_loop.ub k0_t1_loop.st = 4096 from by decide +kernel]
  iapply Hk; iexact Hg

/-- A window at a row up to 4096 fits, and takes whole slabs. -/
theorem win_fits {off : Fin 3 → ℕ} {v : ℕ} (hoff : off = ![v, 0, 0]) (h : v ≤ 4096) : ∀ a, off a + S1152x8x128.size a ≤ S5248x8x128.size a := by
  subst hoff; exact win_inb h
theorem win_words {off : Fin 3 → ℕ} {v : ℕ} (hoff : off = ![v, 0, 0]) (hinb : ∀ a, off a + S1152x8x128.size a ≤ S5248x8x128.size a) :
    (Rect.unit (s := S5248x8x128) off S1152x8x128.size hinb).WholeWords (EltTy.packing .bf16) := by
  subst hoff; exact .inr ⟨by decide, rfl, rfl, rfl⟩

theorem chk2_of {v : BitVec 32} (h : v.toNat ≤ 4096) : k0_chk2 v :=
  ⟨win_fits rfl h, fun hinb => win_words rfl hinb, win_fits rfl h, fun hinb => win_words rfl hinb⟩
theorem chk3_of {v : BitVec 32} (h : v.toNat ≤ 4096) : k0_chk3 v :=
  ⟨win_fits rfl h, fun hinb => win_words rfl hinb, win_fits rfl h, fun hinb => win_words rfl hinb⟩
theorem chk4_of {v : BitVec 32} (h : v.toNat ≤ 4096) : k0_chk4 v :=
  ⟨win_fits rfl h, fun hinb => win_words rfl hinb⟩

/-- Waiting for the three signals: every other device's slot for this device's piece. -/
theorem wp_hear (K : GSem nD τ sig → ℕ) (c : Dev nD) {β : Type} (W : Waits sig Unit) (n : ℕ) (hn : n = 3)
    {k : PUnit → Prog (TpuEff nD τ sig (Elt F) Λ₀ .tc) β} {Q : β → sProp 𝕄} :
    iprop(env I K c ∗ cred (tallyAt (barCell c) () 3) ∗ owes (c : Thread nD τ) (owed0 c) W ∗ atPos ER (barCell c) 0 ∅ 0)
      ⊢ iprop((((∃ W, owes (c : Thread nD τ) (owed0 c) W) ∗ atPos ER (barCell c) 1 ∅ 0 ∗ bigSep (Finset.univ.erase c) (fun p => barPay p c))
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS n) k) Q) := by
  subst hn
  iintro ⟨#He, Hc, HO, Hat⟩ Hk
  iapply (Rounds.wp_wait_rest_token 𝒱₀ ER (exRd I) (c : Thread nD τ) none (κ := K (barCell c))
      (wpE_semWait_eq 𝒱₀ (c : Thread nD τ) none Set.univ) (Set.mem_univ _) () (O := owed0 c) (W := W) (R := 0) (m := 0) (T := ∅)
      (by rw [expect_bar])) $$ [Hc HO Hat]
  · isplitr
    · unfold env
      icases He with ⟨#Hi, -⟩
      iapply (inv_bar I K c); iexact Hi
    isplitl [Hc]; · iexact Hc
    isplitl [HO]; · iexact HO
    isplitr
    · unfold env
      icases He with ⟨-, -, -, #Hl⟩
      iapply (mayWait_bar c); iexact Hl
    iexact Hat
  iintro ⟨HO, Hat, -, Hpay⟩
  iapply Hk
  isplitl [HO]; · iexists _; iexact HO
  isplitl [Hat]; · iexact Hat
  iapply (Entails.of_eq (rest_bar I c)) $$ Hpay

set_option maxHeartbeats 1000000 in
theorem part1_run (K : GSem nD τ sig → ℕ) (c : Dev nD) (W : Waits sig Unit) (harg0 harg1 harg2 harg3 harg4 harg5 harg6) (Q) :
    iprop(env I K c ∗ gInv I c 0 ∗ pt c cc0_stg2_0 (I.ST c) ∗ atPos ER (barCell c) 0 ∅ 0
        ∗ bigSep (Finset.univ.erase c) (fun p => iprop(dutyTok ER (barCell p) 0 c ∗ ∃ f, slotPt c p f))
        ∗ cred (tallyAt (barCell c) () 3) ∗ owes (c : Thread nD τ) (O₀ c) W
        ∗ (∀ v2 h, iprop(gInv I c 4096 ∗ pt c cc0_stg2_0 (I.ST c) ∗ atPos ER (barCell c) 1 ∅ 0
            ∗ bigSep (Finset.univ.erase c) (fun p => barPay p c)
            ∗ ∃ W, owes (c : Thread nD τ) (owed0 c) W) -∗ Q ⟨c, v2, I.ST c (i4 (peer c 0)), h⟩))
      ⊢ wp frame (wpE (defs₀ (F := F)) 𝒱₀ (c : Thread nD τ) none) Set.univ
        (k0_part1 xM harg0 lsM harg1 stM harg2 ofM harg3 oM harg4 xsM harg5 rbM harg6 cc0_scratch2 cc0_scratch3 cc0_scratch4) Q := by
  rw [k0_part1_eq_skeleton, others, others]
  unfold k0_part1_skel
  simp only [semSignalWord, semWaitWord, smemLoad, smemLoadElt, Prog.lift, Prog.bind_op, Prog.bind_ret, Prog.pure_eq_ret, wp_deviceId]
  simp only [sigDev1, sigDev2, sigDev3]
  iintro ⟨#He, Hg, Hst, Hat, ⟨⟨Ht0, Hs0⟩, ⟨Ht1, Hs1⟩, ⟨Ht2, Hs2⟩⟩, Hc, HO, Hk⟩
  iapply (wp_gather I c harg0 harg1 harg2 harg3 harg4 harg5 harg6) $$ Hg
  iintro Hg
  unfold O₀
  iapply (wp_tell I K c (peer c 0) (peer_ne c 0) (owedB1 c) W _ rfl) $$ [Hs0 Ht0 HO]
  · isplitr; · iexact He
    isplitl [Hs0]; · iexact Hs0
    isplitl [Ht0] <;> iassumption
  iintro HO
  unfold owedB1
  iapply (wp_tell I K c (peer c 1) (peer_ne c 1) (owedB2 c) W _ rfl) $$ [Hs1 Ht1 HO]
  · isplitr; · iexact He
    isplitl [Hs1]; · iexact Hs1
    isplitl [Ht1] <;> iassumption
  iintro HO
  unfold owedB2
  iapply (wp_tell I K c (peer c 2) (peer_ne c 2) (owed0 c) W _ rfl) $$ [Hs2 Ht2 HO]
  · isplitr; · iexact He
    isplitl [Hs2]; · iexact Hs2
    isplitl [Ht2] <;> iassumption
  iintro HO
  iapply (wp_hear I K c W _ rfl) $$ [Hc HO Hat]
  · isplitr; · iexact He
    isplitl [Hc]; · iexact Hc
    isplitl [HO] <;> iassumption
  iintro ⟨HO, Hat, Hp⟩
  iapply (wp_load 𝒱₀ (c : Thread nD τ) none Set.univ (m := stM) (Finset.subset_univ _)) $$ Hst
  iintro Hst
  rw [read_st (F := F) (I.ST c) (k0_off4 c) _ _ (peer c 0) (by revert c; decide +kernel)]
  iapply (wp_assume 𝒱₀ (c : Thread nD τ) none Set.univ (chk2_of (I.st_le c _)))
  rw [wp_ret]
  imodintro
  iapply Hk
  isplitl [Hg]; · iexact Hg
  isplitl [Hst]; · iexact Hst
  isplitl [Hat]; · iexact Hat
  isplitl [Hp]; · iapply (Entails.of_eq (others c (fun p => barPay p c))) $$ Hp
  iexact HO

end Cert.Proof.Talk

end
-- ==== Proof.Send.lean ====
/-
  The three copies to the other devices: one is started by giving up a share of the rows it reads, the slot it lands
  in, and the duty owed to the receiver; it is over when that share is back.
-/
module

public import proofs.«01_k».proof.Proof.Ready

@[expose] public section

noncomputable section

namespace Cert.Proof.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

theorem slot_eq (s : Fin 4) {off : Fin 4 → ℕ} (h : off = ![s.val, 0, 0, 0]) (inb) :
    (rbM.slice (Rect.unit (s := S4x1152x8x128) off S1x1152x8x128.size inb) (fun _ => rfl)).squeeze S1152x8x128
      squeezes_S1x1152x8x128_S1152x8x128 = slotM s := by
  subst h; rfl

theorem landed_pay (c p : Dev nD) (hp : p ≠ c) {f : S5248x8x128.Idx → Elt F .bf16} (hf : Sorted I c 4096 f)
    (g : Buf (Elt F) ((slotM c).view.loc (p : Thread nD τ))) :
    ((slotM c).view.loc (p : Thread nD τ) ↦[(slotM c).view.set]{fullShare}
        ((slotM c).view.write (Elt F) g ((winM I c p).view.read (Elt F) f) Finset.univ) : sProp 𝕄)
      ⊢ (exRd I).payload (recvCell p c) 0 c := by
  rw [payload_recv]
  unfold recvPay
  iintro H
  iexists _
  isplitr; swap; iexact H
  ipureintro
  rw [View.read_write_univ]
  exact landed_of_sorted I hf _

theorem amount_slot (s : Fin 4) (sR : DmaSem sig) : (slotM s).view.amount (.dma sR) = N := rfl

/-- Starting the copy to `p`. -/
theorem wp_post (K : GSem nD τ sig → ℕ) (c p q : Dev nD) (hp : p ≠ c) (hq : q = p) (O' : CellTallies nD τ sig Unit) (W : Waits sig Unit)
    {f : S5248x8x128.Idx → Elt F .bf16} (hf : Sorted I c 4096 f)
    {src dst : Memref sig .tc .vmem S1152x8x128 .bf16} (hsrcE : src = winM I c p) (hdstE : dst = slotM c)
    {sS sR : DmaSem sig} (hS : sS = sendS p) (hR : sR = recvS c) {hsc : dst.view.ref.isScScratch = false}
    {hsrc : src.view.WordExact} {hdst : dst.view.WordExact} {hsem : DmaTarget.Typed .vmem (.dma sR) (.remote (Dev.tc q) dst (.dma sS) hsc)}
    {β : Type} {k : PUnit → Prog (TpuEff nD τ sig (Elt F) Λ₀ .tc) β} {Q : β → sProp 𝕄} :
    iprop(env I K c ∗ winPt I c p f ∗ barPay p c ∗ dutyTok ER (sendCell c p) 0 p ∗ dutyTok ER (recvCell p c) 0 c
        ∗ owes (c : Thread nD τ) (O' + tallyAt (recvCell p c) () N) W)
      ⊢ iprop(((cred (tallyAt (sendCell c p) () N) ∗ owes (c : Thread nD τ) O' W)
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc q) dst (.dma sS) hsc) (.dma sR) hsrc hdst hsem) k) Q) := by
  subst hq hsrcE hdstE hS hR
  unfold barPay env
  iintro ⟨⟨#Hi, #Hb, #Hm, -⟩, Hw, ⟨⟨%g, Hs⟩, #Hr⟩, Ht1, Ht2, HO⟩ Hk
  have h1 : q ∈ (exRd I).duties (sendCell c q) 0 := by rw [duties_send, if_neg hp]; exact Finset.mem_singleton_self _
  have h2 : c ∈ (exRd I).duties (recvCell q c) 0 := by rw [duties_recv, if_neg hp.symm]; exact Finset.mem_singleton_self _
  have h3 := landed_pay I c q hp hf g
  have h4 : (winPt I c q f : sProp 𝕄) ⊢ (exRd I).payload (sendCell c q) 0 q := by
    rw [payload_send]; unfold sendPay; iintro H; iexists f; iexact H
  have key := Rounds.wp_send_pointsTo (Γ := .empty) (defs := defs₀ (F := F)) (k := k) (Q := Q) (W := W) (src := winM I c q) (dst := slotM c)
      (sS := .dma (sendS q)) (sem := .dma (recvS c)) (hsrc := hsrc) (hdst := hdst) (hsem := hsem) 𝒱₀ ER (exRd I) (c : Thread nD τ) none
      (c' := (q : Thread nD τ)) (κ₁ := K (sendCell c q)) (κ₂ := K (recvCell q c)) (r₁ := 0) (r₂ := 0) (d₁ := q) (d₂ := c) (q := shr q) (fs := f) (fd := g)
      h1 h2 () () N (amount_slot c _) (amount_send I c q q) (amount_recv I q c c) (O₀ := O' + tallyAt (recvCell q c) () N) O' rfl
      h4 h3 (Es := Set.univ) (by routes)
  iapply key $$ [Hw Hs Ht1 Ht2 HO]
  · isplitr; · iapply (inv_scell I K c (.inl q)); iexact Hi
    isplitr; · iapply (inv_scell I K q (.inr c)); iexact Hi
    isplitl [Hw]; · iexact Hw
    isplitl [Hs]; · iexact Hs
    isplitl [HO]; · iexact HO
    isplitl [Ht1]; · iexact Ht1
    isplitr; · iapply (mine_at c (.inl q)); iexact Hm
    isplitl [Ht2]; · iexact Ht2
    iexact Hr
  iexact Hk

end Cert.Proof.Talk

end
-- ==== Proof.Post.lean ====
/-
  The second part of the kernel: the gathered rows are cut into four shares, one is kept and one goes with each copy.
-/
module

public import proofs.«01_k».proof.Proof.Send

@[expose] public section

noncomputable section

namespace Cert.Proof.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-- The rows outside the window sent to `r`, at the share lent with it. -/
abbrev restPt (c r : Dev nD) (f : S5248x8x128.Idx → Elt F .bf16) : sProp 𝕄 :=
  (c : Thread nD τ).loc cc0_scratch0 ↦[Finset.univ \ (winM I c r).view.set]{shr r} f

theorem split_win (c r : Dev nD) (f : S5248x8x128.Idx → Elt F .bf16) : xsPt c (shr r) f ⊢ (iprop(winPt I c r f ∗ restPt I c r f) : sProp 𝕄) :=
  (pointsTo_split_subset (Finset.subset_univ _)).1

/-- The four shares of `xsorted`. -/
theorem shares (c : Dev nD) (f : S5248x8x128.Idx → Elt F .bf16) :
    (xsPt c fullShare f : sProp 𝕄) = iprop(xsPt c (shr c) f ∗ xsPt c (shr (peer c 0)) f ∗ xsPt c (shr (peer c 1)) f ∗ xsPt c (shr (peer c 2)) f) := by
  rw [← fromMe c (fun r => xsPt c (shr r) f)]
  exact ShareLeaves.pointsTo_leaves _ _ 2 _

theorem sendDev1 (c : Dev nD) : (⟨k0_dev4 c, k0_dev4_lt c⟩ : Dev nD) = peer c 0 := by revert c; decide +kernel
theorem sendDev2 (c : Dev nD) : (⟨k0_dev5 c, k0_dev5_lt c⟩ : Dev nD) = peer c 1 := by revert c; decide +kernel
theorem sendDev3 (c : Dev nD) : (⟨k0_dev6 c, k0_dev6_lt c⟩ : Dev nD) = peer c 2 := by revert c; decide +kernel

theorem sendSem1 (c : Dev nD) : ((cc0_scratch2.slice (Rect.unit (s := S4) (k0_off5 c) S1.size (k0_off5_inb c))).squeeze S_ squeezes_S1_S_).sem = sendS (peer c 0) := by
  revert c; decide +kernel
theorem sendSem2 (c : Dev nD) : ((cc0_scratch2.slice (Rect.unit (s := S4) (k0_off10 c) S1.size (k0_off10_inb c))).squeeze S_ squeezes_S1_S_).sem = sendS (peer c 1) := by
  revert c; decide +kernel
theorem sendSem3 (c : Dev nD) : ((cc0_scratch2.slice (Rect.unit (s := S4) (k0_off15 c) S1.size (k0_off15_inb c))).squeeze S_ squeezes_S1_S_).sem = sendS (peer c 2) := by
  revert c; decide +kernel
theorem recvSem1 (c : Dev nD) : ((cc0_scratch3.slice (Rect.unit (s := S4) (k0_off6 c) S1.size (k0_off6_inb c))).squeeze S_ squeezes_S1_S_).sem = recvS c := by
  revert c; decide +kernel
theorem recvSem2 (c : Dev nD) : ((cc0_scratch3.slice (Rect.unit (s := S4) (k0_off11 c) S1.size (k0_off11_inb c))).squeeze S_ squeezes_S1_S_).sem = recvS c := by
  revert c; decide +kernel
theorem recvSem3 (c : Dev nD) : ((cc0_scratch3.slice (Rect.unit (s := S4) (k0_off16 c) S1.size (k0_off16_inb c))).squeeze S_ squeezes_S1_S_).sem = recvS c := by
  revert c; decide +kernel

theorem off7 (c : Dev nD) : k0_off7 c = ![c.val, 0, 0, 0] := by revert c; decide +kernel
theorem off12 (c : Dev nD) : k0_off12 c = ![c.val, 0, 0, 0] := by revert c; decide +kernel
theorem off17 (c : Dev nD) : k0_off17 c = ![c.val, 0, 0, 0] := by revert c; decide +kernel
theorem off9 (c : Dev nD) : k0_off9 c = ![(peer c 1).val] := by revert c; decide +kernel
theorem off14 (c : Dev nD) : k0_off14 c = ![(peer c 2).val] := by revert c; decide +kernel

set_option maxHeartbeats 2000000 in
theorem part2_run (K : GSem nD τ sig → ℕ) (c : Dev nD) (W : Waits sig Unit) (harg0 harg1 harg2 harg3 harg4 harg5 harg6) (v2 : BitVec 32)
    (hw) {f : S5248x8x128.Idx → Elt F .bf16} (hf : Sorted I c 4096 f) (Q) :
    iprop(env I K c ∗ xsPt c fullShare f ∗ pt c cc0_stg2_0 (I.ST c)
        ∗ bigSep (Finset.univ.erase c) (fun p => iprop(barPay p c ∗ dutyTok ER (sendCell c p) 0 p ∗ dutyTok ER (recvCell p c) 0 c))
        ∗ owes (c : Thread nD τ) (owed0 c) W
        ∗ (∀ h3 h4 b, iprop(xsPt c (shr c) f ∗ pt c cc0_stg2_0 (I.ST c)
            ∗ bigSep (Finset.univ.erase c) (fun p => iprop(restPt I c p f ∗ cred (tallyAt (sendCell c p) () N)))
            ∗ ∃ W, owes (c : Thread nD τ) 0 W) -∗ Q ⟨I.ST c (i4 (peer c 1)), h3, I.ST c (i4 (peer c 2)), h4, b⟩))
      ⊢ wp frame (wpE (defs₀ (F := F)) 𝒱₀ (c : Thread nD τ) none) Set.univ
        (k0_part2 xM harg0 lsM harg1 stM harg2 ofM harg3 oM harg4 xsM harg5 rbM harg6 cc0_scratch2 cc0_scratch3 cc0_scratch4
          c v2 (I.ST c (i4 (peer c 0))) hw) Q := by
  rw [k0_part2_eq_skeleton, others, others, shares]
  unfold k0_part2_skel
  simp only [smemLoad, smemLoadElt, Prog.lift, Prog.bind_op, Prog.bind_ret, Prog.pure_eq_ret]
  iintro ⟨#He, ⟨Hx, Hx0, Hx1, Hx2⟩, Hst, ⟨⟨Hp0, Hs0, Hr0⟩, ⟨Hp1, Hs1, Hr1⟩, ⟨Hp2, Hs2, Hr2⟩⟩, HO, Hk⟩
  ihave ⟨Hw0, Hx0⟩ := (split_win I c (peer c 0) f) $$ Hx0
  ihave ⟨Hw1, Hx1⟩ := (split_win I c (peer c 1) f) $$ Hx1
  ihave ⟨Hw2, Hx2⟩ := (split_win I c (peer c 2) f) $$ Hx2
  unfold owed0
  iapply (wp_post I K c (peer c 0) _ (peer_ne c 0) (sendDev1 c) (owed1 c) W hf rfl (slot_eq c (off7 c) _) (sendSem1 c) (recvSem1 c)) $$ [Hw0 Hp0 Hs0 Hr0 HO]
  · isplitr; · iexact He
    isplitl [Hw0]; · iexact Hw0
    isplitl [Hp0]; · iexact Hp0
    isplitl [Hs0]; · iexact Hs0
    isplitl [Hr0] <;> iassumption
  iintro ⟨Hc0, HO⟩
  iapply (wp_load 𝒱₀ (c : Thread nD τ) none Set.univ (m := stM) (Finset.subset_univ _)) $$ Hst
  iintro Hst
  rw [read_st (F := F) (I.ST c) (k0_off9 c) _ _ (peer c 1) (off9 c)]
  iapply (wp_assume 𝒱₀ (c : Thread nD τ) none Set.univ (chk3_of (I.st_le c _)))
  unfold owed1
  iapply (wp_post I K c (peer c 1) _ (peer_ne c 1) (sendDev2 c) (owed2 c) W hf rfl (slot_eq c (off12 c) _) (sendSem2 c) (recvSem2 c)) $$ [Hw1 Hp1 Hs1 Hr1 HO]
  · isplitr; · iexact He
    isplitl [Hw1]; · iexact Hw1
    isplitl [Hp1]; · iexact Hp1
    isplitl [Hs1]; · iexact Hs1
    isplitl [Hr1] <;> iassumption
  iintro ⟨Hc1, HO⟩
  iapply (wp_load 𝒱₀ (c : Thread nD τ) none Set.univ (m := stM) (Finset.subset_univ _)) $$ Hst
  iintro Hst
  rw [read_st (F := F) (I.ST c) (k0_off14 c) _ _ (peer c 2) (off14 c)]
  iapply (wp_assume 𝒱₀ (c : Thread nD τ) none Set.univ (chk4_of (I.st_le c _)))
  unfold owed2
  iapply (wp_post I K c (peer c 2) _ (peer_ne c 2) (sendDev3 c) (owed3 c) W hf rfl (slot_eq c (off17 c) _) (sendSem3 c) (recvSem3 c)) $$ [Hw2 Hp2 Hs2 Hr2 HO]
  · isplitr; · iexact He
    isplitl [Hw2]; · iexact Hw2
    isplitl [Hp2]; · iexact Hp2
    isplitl [Hs2]; · iexact Hs2
    isplitl [Hr2] <;> iassumption
  iintro ⟨Hc2, HO⟩
  rw [wp_ret]
  imodintro
  iapply Hk
  isplitl [Hx]; · iexact Hx
  isplitl [Hst]; · iexact Hst
  isplitr [HO]
  · isplitl [Hx0 Hc0]
    · isplitl [Hx0] <;> iassumption
    isplitl [Hx1 Hc1]
    · isplitl [Hx1] <;> iassumption
    isplitl [Hx2] <;> iassumption
  iexists W
  iexact HO

end Cert.Proof.Talk

end
-- ==== Proof.Take.lean ====
/-
  The pieces a device puts into its result: its own rows straight from the gathered array, the rows of the others from
  the slots they have landed in.
-/
module

public import proofs.«01_k».proof.Proof.Post
public import Idealize.ShloMosaic.Lib.Transfers

@[expose] public section

noncomputable section

namespace Cert.Proof.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

abbrev locCell (c : Dev nD) : GSem nD τ sig := ((c : Thread nD τ), .dma locS)

/-- A device's `owes` with nothing left to pay. -/
def idle (c : Dev nD) : sProp 𝕄 := iprop(∃ W, owes (c : Thread nD τ) 0 W)

theorem amount_oWin {v : ℕ} (h) : (oWin v h).view.amount (.dma locS) = N := rfl
theorem credit_oWin {v : ℕ} (h) : (oWin v h).view.dmaCredit = N := rfl
theorem credit_xsWin {v : ℕ} (h) : (xsWin v h).view.dmaCredit = N := rfl
theorem credit_slot (s : Fin 4) : (slotM s).view.dmaCredit = N := rfl

/-- A copy into the result and the wait for it. -/
theorem wp_put (c : Dev nD) {v : ℕ} (h) {src srcw dst dstw : Memref sig .tc .vmem S1152x8x128 .bf16} (hdstE : dst = oWin v h) (hdstwE : dstw = oWin v h)
    {lS : DmaSem sig} (hl : lS = locS)
    {hsrc : src.view.WordExact} {hdst : dst.view.WordExact} {hsem : DmaTarget.Typed (nD := nD) .vmem (.dma lS) (DmaTarget.here (p := (.tc : Proc τ)) dst)}
    {hsrcw : srcw.view.WordExact} {hdstw : dstw.view.WordExact} {q : PosShare TreeShare}
    {g : Buf (Elt F) (src.view.loc (c : Thread nD τ))} {f : S5248x8x128.Idx → Elt F .bf16}
    {β : Type} {k : PUnit → Prog (TpuEff nD τ sig (Elt F) Λ₀ .tc) β} {Q : β → sProp 𝕄} :
    iprop((src.view.loc (c : Thread nD τ) ↦[src.view.set]{q} g) ∗ pt c cc0_stg4_0 f ∗ semVal (locCell c) 0 ∗ idle c)
      ⊢ iprop(((pt c cc0_stg4_0 ((oWin v h).view.write (Elt F) f (src.view.read (Elt F) g) Finset.univ)
              ∗ (src.view.loc (c : Thread nD τ) ↦[src.view.set]{q} g) ∗ semVal (locCell c) 0 ∗ idle c)
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.here dst) (.dma lS) hsrc hdst hsem) (fun _ => .op (.waitDma2 lS srcw dstw hsrcw hdstw) k)) Q) := by
  subst hdstE hdstwE hl
  unfold idle
  iintro ⟨Hs, Ho, Hl, ⟨%W, HO⟩⟩ Hk
  have key := Transfers.wp_dmaLocal (defs := defs₀ (F := F)) (countersEmb (U := UU)) 𝒱₀ (c : Thread nD τ) none (src := src) (dst := oWin v h) (via := .same)
    (sm := .dma locS) (hsrc := hsrc) (hdst := hdst) (hsem := hsem) (k := fun _ => .op (.waitDma2 locS srcw (oWin v h) hsrcw hdstw) k) (Q := Q)
    (q := q) (fs := g) (Sd := Finset.univ) (fd := f) () N (amount_oWin h) N_pos (Finset.subset_univ _)
  iapply key $$ [Hs Ho Hl]
  · isplitl [Hs]; · iexact Hs
    isplitl [Ho] <;> iassumption
  iintro Hf
  iapply (Transfers.wp_waitLocal (countersEmb (U := UU)) 𝒱₀ (c : Thread nD τ) none () (credit_oWin h)) $$ [Hf HO]
  · isplitl [Hf] <;> iassumption
  iintro ⟨⟨Ho, Hs⟩, Hl, HO⟩
  iapply Hk
  isplitl [Ho]; · iexact Ho
  isplitl [Hs]; · iexact Hs
  isplitl [Hl]; · iexact Hl
  iexists _; iexact HO

/-- Waiting for the piece of `s`. -/
theorem wp_arrive (K : GSem nD τ sig → ℕ) (c s : Dev nD) (hs : s ≠ c) {srcw dstw : Memref sig .tc .vmem S1152x8x128 .bf16}
    (hd : dstw.view.dmaCredit = N) {sR : DmaSem sig} (hR : sR = recvS s) {hsrcw : srcw.view.WordExact} {hdstw : dstw.view.WordExact}
    {β : Type} {k : PUnit → Prog (TpuEff nD τ sig (Elt F) Λ₀ .tc) β} {Q : β → sProp 𝕄} :
    iprop(env I K c ∗ cred (tallyAt (recvCell c s) () N) ∗ idle c ∗ atPos ER (recvCell c s) 0 ∅ 0)
      ⊢ iprop(((idle c ∗ atPos ER (recvCell c s) 1 ∅ 0 ∗ recvPay I s c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR srcw dstw hsrcw hdstw) k) Q) := by
  subst hR
  unfold idle env
  iintro ⟨⟨#Hi, -⟩, Hc, ⟨%W, HO⟩, Hat⟩ Hk
  iapply (Rounds.wp_wait_rest_token 𝒱₀ ER (exRd I) (c : Thread nD τ) none (κ := K (recvCell c s))
      (wpE_waitDma2_eq 𝒱₀ (c : Thread nD τ) none Set.univ) (Set.mem_univ _) () (O := 0) (W := W) (R := 0) (m := 0) (T := ∅)
      ((Nat.zero_add _).trans (hd.trans (expect_recv I c s hs).symm))) $$ [Hc HO Hat]
  · isplitr; · iapply (inv_scell I K c (.inr s)); iexact Hi
    isplitl [Hc]; · rw [hd]; iexact Hc
    isplitl [HO]; · iexact HO
    isplitr
    · rw [MayWait_zero]; iempintro
    iexact Hat
  iintro ⟨HO, Hat, -, Hpay⟩
  iapply Hk
  isplitl [HO]; · iexists _; iexact HO
  isplitl [Hat]; · iexact Hat
  iapply (Entails.of_eq (rest_recv I c s hs)) $$ Hpay

/-- Waiting for the copy to `p` to be over. -/
theorem wp_sent (K : GSem nD τ sig → ℕ) (c p : Dev nD) (hp : p ≠ c) {srcw dstw : Memref sig .tc .vmem S1152x8x128 .bf16}
    (hd : dstw.view.dmaCredit = N) {sS : DmaSem sig} (hS : sS = sendS p) {hsrcw : srcw.view.WordExact} {hdstw : dstw.view.WordExact}
    {β : Type} {k : PUnit → Prog (TpuEff nD τ sig (Elt F) Λ₀ .tc) β} {Q : β → sProp 𝕄} :
    iprop(env I K c ∗ cred (tallyAt (sendCell c p) () N) ∗ idle c ∗ atPos ER (sendCell c p) 0 ∅ 0)
      ⊢ iprop(((idle c ∗ atPos ER (sendCell c p) 1 ∅ 0 ∗ sendPay I c p) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS srcw dstw hsrcw hdstw) k) Q) := by
  subst hS
  unfold idle env
  iintro ⟨⟨#Hi, -⟩, Hc, ⟨%W, HO⟩, Hat⟩ Hk
  iapply (Rounds.wp_wait_rest_token 𝒱₀ ER (exRd I) (c : Thread nD τ) none (κ := K (sendCell c p))
      (wpE_waitDma2_eq 𝒱₀ (c : Thread nD τ) none Set.univ) (Set.mem_univ _) () (O := 0) (W := W) (R := 0) (m := 0) (T := ∅)
      ((Nat.zero_add _).trans (hd.trans (expect_send I c p hp).symm))) $$ [Hc HO Hat]
  · isplitr; · iapply (inv_scell I K c (.inl p)); iexact Hi
    isplitl [Hc]; · rw [hd]; iexact Hc
    isplitl [HO]; · iexact HO
    isplitr
    · rw [MayWait_zero]; iempintro
    iexact Hat
  iintro ⟨HO, Hat, -, Hpay⟩
  iapply Hk
  isplitl [HO]; · iexists _; iexact HO
  isplitl [Hat]; · iexact Hat
  iapply (Entails.of_eq (rest_send I c p hp)) $$ Hpay

/-- What is at hand while the pieces are put in, those of the sources below `k` being in. -/
def work (c : Dev nD) (f₀ : S5248x8x128.Idx → Elt F .bf16) (k : ℕ) : sProp 𝕄 :=
  iprop((∃ f, ⌜Placed I c k f⌝ ∗ pt c cc0_stg4_0 f) ∗ xsPt c (shr c) f₀ ∗ pt c cc0_stg2_0 (I.ST c) ∗ pt c cc0_stg3_0 (I.OF c)
    ∗ semVal (locCell c) 0 ∗ idle c)
/-- What the piece of `s` takes: nothing for the device's own. -/
def need (c s : Dev nD) : sProp 𝕄 :=
  if s = c then iprop(emp) else iprop(atPos ER (recvCell c s) 0 ∅ 0 ∗ cred (tallyAt (recvCell c s) () N))
/-- What is left when it is in. -/
def left (c s : Dev nD) : sProp 𝕄 :=
  if s = c then iprop(emp) else iprop(atPos ER (recvCell c s) 1 ∅ 0 ∗ ∃ f, slotPt c s f)

end Cert.Proof.Talk

end
-- ==== Proof.Slots.lean ====
/-
  The receive buffer as its four slots, and `xsorted` put together again from the shares that were lent.
-/
module

public import proofs.«01_k».proof.Proof.Take

@[expose] public section

noncomputable section

namespace Cert.Proof.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

theorem mem_slot (s : Fin 4) (i : S4x1152x8x128.Idx) : i ∈ ((slotM s).view.set : Finset S4x1152x8x128.Idx) ↔ (i 0).val = s.val := by
  have h0 : (slotM s).view.set = (Rect.unit (s := S4x1152x8x128) ![s.val, 0, 0, 0] S1x1152x8x128.size (slot_inb s)).set := by
    show (((rbM.slice (Rect.unit (s := S4x1152x8x128) ![s.val, 0, 0, 0] S1x1152x8x128.size (slot_inb s)) (fun _ => rfl)).view).reshape _ _).set = _
    rw [View.set_reshape]
    exact View.set_slice_whole cc0_scratch1 _
  rw [h0]
  refine Rect.mem_set_unit.trans ⟨fun h => ?_, fun h a => ?_⟩
  · have h1 := h 0
    have h2 : s.val ≤ (i 0).val ∧ (i 0).val < s.val + 1 := h1
    omega
  · match a with
    | ⟨0, _⟩ => exact ⟨le_of_eq h.symm, by show (i 0).val < s.val + 1; omega⟩
    | ⟨1, _⟩ => exact ⟨Nat.zero_le _, by show (i 1).val < 0 + 1152; have := (i 1).isLt; rw [Nat.zero_add]; exact this⟩
    | ⟨2, _⟩ => exact ⟨Nat.zero_le _, by show (i 2).val < 0 + 8; have := (i 2).isLt; rw [Nat.zero_add]; exact this⟩
    | ⟨3, _⟩ => exact ⟨Nat.zero_le _, by show (i 3).val < 0 + 128; have := (i 3).isLt; rw [Nat.zero_add]; exact this⟩

abbrev slotSet (s : Fin 4) : Finset S4x1152x8x128.Idx := (slotM s).view.set

theorem slots_disjoint : ∀ s ∈ (Finset.univ : Finset (Fin 4)), ∀ s' ∈ (Finset.univ : Finset (Fin 4)), s ≠ s' → Disjoint (slotSet s) (slotSet s') := by
  intro s _ s' _ hne
  rw [Finset.disjoint_left]
  intro i h1 h2
  exact hne (Fin.ext (((mem_slot s i).mp h1).symm.trans ((mem_slot s' i).mp h2)))
theorem slots_cover : (Finset.univ : Finset (Fin 4)).biUnion slotSet = Finset.univ := by
  ext i
  simp only [Finset.mem_biUnion, Finset.mem_univ, true_and, iff_true]
  exact ⟨i 0, (mem_slot _ i).mpr rfl⟩

/-- The receive buffer is its slots. -/
theorem rb_cut (c : Dev nD) (f) : (pt c cc0_scratch1 f : sProp 𝕄) ⊢ bigSep Finset.univ fun s : Dev nD => iprop(∃ f, slotPt c s f) := by
  have h := pointsTo_biUnion (Ix := Unit) (Val := Elt F) (Name := ℕ) (U := UU) (Lvl := ℕ) (ℓ := (c : Thread nD τ).loc cc0_scratch1) (q := fullShare) (f := f)
    (Finset.univ : Finset (Fin 4)) slotSet slots_disjoint
  rw [slots_cover] at h
  refine (Entails.of_eq h).trans (bigSep_mono fun s _ => ?_)
  show (slotPt c s f : sProp 𝕄) ⊢ iprop(∃ f, slotPt c s f)
  iintro H
  iexists f
  iexact H
theorem rb_join (c : Dev nD) : (bigSep Finset.univ fun s : Dev nD => iprop(∃ f, slotPt c s f)) ⊢ (iprop(∃ f, pt c cc0_scratch1 f) : sProp 𝕄) := by
  rw [inOrder]
  iintro ⟨⟨%f0, H0⟩, ⟨%f1, H1⟩, ⟨%f2, H2⟩, ⟨%f3, H3⟩⟩
  ihave H := (pointsTo_biUnion_join (Ix := Unit) (Val := Elt F) (Name := ℕ) (U := UU) (Lvl := ℕ) (ℓ := (c : Thread nD τ).loc cc0_scratch1) (q := fullShare)
    (Finset.univ : Finset (Fin 4)) slotSet ![f0, f1, f2, f3] f0 slots_disjoint) $$ [H0 H1 H2 H3]
  · rw [inOrder]
    isplitl [H0]; · iexact H0
    isplitl [H1]; · iexact H1
    isplitl [H2]; · iexact H2
    iexact H3
  rw [slots_cover]
  icases H with ⟨%g, -, H⟩
  iexists g; iexact H

/-- A window that is back is still what it was: the share that was kept says so. -/
theorem rejoin (c p : Dev nD) (f : S5248x8x128.Idx → Elt F .bf16) :
    iprop(xsPt c (shr c) f ∗ sendPay I c p ∗ restPt I c p f) ⊢ (iprop(xsPt c (shr c) f ∗ xsPt c (shr p) f) : sProp 𝕄) := by
  unfold sendPay
  iintro ⟨Hx, ⟨%g, Hw⟩, Hr⟩
  ihave H := (persistent_entails_right (pointsTo_agree (Ix := Unit) (Val := Elt F) (Name := ℕ) (U := UU) (Lvl := ℕ) (ℓ := (c : Thread nD τ).loc cc0_scratch0)
    (I := Finset.univ) (J := (winM I c p).view.set) (q₁ := shr c) (q₂ := shr p) (f := f) (g := g))) $$ [Hx Hw]
  · isplitl [Hx] <;> iassumption
  icases H with ⟨%hv, Hx, Hw⟩
  isplitl [Hx]; · iexact Hx
  have e : (winPt I c p g : sProp 𝕄) = winPt I c p f :=
    pointsTo_congr fun i hi => ((hv i (Finset.mem_inter.mpr ⟨Finset.mem_univ _, hi⟩)).1).symm
  iapply (pointsTo_split_subset (Finset.subset_univ (winM I c p).view.set)).2
  isplitl [Hw]
  · iapply (Entails.of_eq e)
    iexact Hw
  iexact Hr

end Cert.Proof.Talk

end
-- ==== Proof.Pieces.lean ====
/-
  The third part of the kernel: the four pieces one after the other, then the end of the first copy.
-/
module

public import proofs.«01_k».proof.Proof.Take

@[expose] public section

noncomputable section

namespace Cert.Proof.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-- A conditional whose branches both lead from `A` to `B` and go on with `jp`. -/
theorem wp_if (c : Dev nD) {β : Type} (jp : PUnit → Prog (TpuEff nD τ sig (Elt F) Λ₀ .tc) β) {Q : β → sProp 𝕄}
    {P : Prop} {_ : Decidable P} (A B R : sProp 𝕄) {t : P → Prog (TpuEff nD τ sig (Elt F) Λ₀ .tc) β}
    {e : ¬P → Prog (TpuEff nD τ sig (Elt F) Λ₀ .tc) β}
    (hk : iprop(B ∗ R) ⊢ wp frame (wpE (defs₀ (F := F)) 𝒱₀ (c : Thread nD τ) none) Set.univ (jp ⟨⟩) Q)
    (ht : ∀ h, iprop(A ∗ (B -∗ wp frame (wpE (defs₀ (F := F)) 𝒱₀ (c : Thread nD τ) none) Set.univ (jp ⟨⟩) Q))
      ⊢ wp frame (wpE (defs₀ (F := F)) 𝒱₀ (c : Thread nD τ) none) Set.univ (t h) Q)
    (he : ∀ h, iprop(A ∗ (B -∗ wp frame (wpE (defs₀ (F := F)) 𝒱₀ (c : Thread nD τ) none) Set.univ (jp ⟨⟩) Q))
      ⊢ wp frame (wpE (defs₀ (F := F)) 𝒱₀ (c : Thread nD τ) none) Set.univ (e h) Q) :
    iprop(A ∗ R) ⊢ wp frame (wpE (defs₀ (F := F)) 𝒱₀ (c : Thread nD τ) none) Set.univ (if h : P then t h else e h) Q := by
  have h1 : iprop(A ∗ R) ⊢ iprop(A ∗ (B -∗ wp frame (wpE (defs₀ (F := F)) 𝒱₀ (c : Thread nD τ) none) Set.univ (jp ⟨⟩) Q)) := by
    iintro ⟨HA, HR⟩
    isplitl [HA]; · iexact HA
    iintro HB
    iapply hk
    isplitl [HB] <;> iassumption
  by_cases h : P
  · rw [dif_pos h]; exact h1.trans (ht h)
  · rw [dif_neg h]; exact h1.trans (he h)

theorem cond1_iff (c : Dev nD) : k0_cond1 c = 1#1 ↔ c = 0 := by revert c; decide +kernel
theorem cond2_iff (c : Dev nD) : k0_cond2 c = 1#1 ↔ c ≠ 0 := by revert c; decide +kernel
theorem chk6_of (c : Dev nD) {v : BitVec 32} (h : v.toNat ≤ 4096) : k0_chk6 c v := ⟨fun _ => win_fits rfl h, fun _ hinb => win_words rfl hinb⟩
theorem chk5_of (c : Dev nD) {v : BitVec 32} (h : v.toNat ≤ 4096) : k0_chk5 c v :=
  ⟨fun _ => win_fits rfl h, fun _ hinb => win_words rfl hinb, fun _ => win_fits rfl h, fun _ hinb => win_words rfl hinb⟩
theorem chk7_of (c : Dev nD) {v : BitVec 32} (h : v.toNat ≤ 4096) : k0_chk7 c v := ⟨fun _ => win_fits rfl h, fun _ hinb => win_words rfl hinb⟩
theorem takeSem0 : ((cc0_scratch3.slice (Rect.unit (s := S4) ![0] S1.size inb_S4_S1_0)).squeeze S_ squeezes_S1_S_).sem = recvS 0 := by decide +kernel

theorem cond3_iff (c : Dev nD) : k0_cond3 c = 1#1 ↔ c = 1 := by revert c; decide +kernel
theorem cond4_iff (c : Dev nD) : k0_cond4 c = 1#1 ↔ c ≠ 1 := by revert c; decide +kernel
theorem chk9_of (c : Dev nD) {v : BitVec 32} (h : v.toNat ≤ 4096) : k0_chk9 c v := ⟨fun _ => win_fits rfl h, fun _ hinb => win_words rfl hinb⟩
theorem chk8_of (c : Dev nD) {v : BitVec 32} (h : v.toNat ≤ 4096) : k0_chk8 c v :=
  ⟨fun _ => win_fits rfl h, fun _ hinb => win_words rfl hinb, fun _ => win_fits rfl h, fun _ hinb => win_words rfl hinb⟩
theorem chk10_of (c : Dev nD) {v : BitVec 32} (h : v.toNat ≤ 4096) : k0_chk10 c v := ⟨fun _ => win_fits rfl h, fun _ hinb => win_words rfl hinb⟩
theorem takeSem1 : ((cc0_scratch3.slice (Rect.unit (s := S4) ![1] S1.size inb_S4_S1_1)).squeeze S_ squeezes_S1_S_).sem = recvS 1 := by decide +kernel

theorem cond5_iff (c : Dev nD) : k0_cond5 c = 1#1 ↔ c = 2 := by revert c; decide +kernel
theorem cond6_iff (c : Dev nD) : k0_cond6 c = 1#1 ↔ c ≠ 2 := by revert c; decide +kernel
theorem chk12_of (c : Dev nD) {v : BitVec 32} (h : v.toNat ≤ 4096) : k0_chk12 c v := ⟨fun _ => win_fits rfl h, fun _ hinb => win_words rfl hinb⟩
theorem chk11_of (c : Dev nD) {v : BitVec 32} (h : v.toNat ≤ 4096) : k0_chk11 c v :=
  ⟨fun _ => win_fits rfl h, fun _ hinb => win_words rfl hinb, fun _ => win_fits rfl h, fun _ hinb => win_words rfl hinb⟩
theorem chk13_of (c : Dev nD) {v : BitVec 32} (h : v.toNat ≤ 4096) : k0_chk13 c v := ⟨fun _ => win_fits rfl h, fun _ hinb => win_words rfl hinb⟩
theorem takeSem2 : ((cc0_scratch3.slice (Rect.unit (s := S4) ![2] S1.size inb_S4_S1_2)).squeeze S_ squeezes_S1_S_).sem = recvS 2 := by decide +kernel

theorem cond7_iff (c : Dev nD) : k0_cond7 c = 1#1 ↔ c = 3 := by revert c; decide +kernel
theorem cond8_iff (c : Dev nD) : k0_cond8 c = 1#1 ↔ c ≠ 3 := by revert c; decide +kernel
theorem chk15_of (c : Dev nD) {v : BitVec 32} (h : v.toNat ≤ 4096) : k0_chk15 c v := ⟨fun _ => win_fits rfl h, fun _ hinb => win_words rfl hinb⟩
theorem chk14_of (c : Dev nD) {v : BitVec 32} (h : v.toNat ≤ 4096) : k0_chk14 c v :=
  ⟨fun _ => win_fits rfl h, fun _ hinb => win_words rfl hinb, fun _ => win_fits rfl h, fun _ hinb => win_words rfl hinb⟩
theorem chk16_of (c : Dev nD) {v : BitVec 32} (h : v.toNat ≤ 4096) : k0_chk16 c v := ⟨fun _ => win_fits rfl h, fun _ hinb => win_words rfl hinb⟩
theorem takeSem3 : ((cc0_scratch3.slice (Rect.unit (s := S4) ![3] S1.size inb_S4_S1_3)).squeeze S_ squeezes_S1_S_).sem = recvS 3 := by decide +kernel

theorem locSem : cc0_scratch4.sem = locS := by decide +kernel
theorem sentSem1 (c : Dev nD) : ((cc0_scratch2.slice (Rect.unit (s := S4) (k0_off35 c 1#32) S1.size (k0_off35_inb c 0))).squeeze S_ squeezes_S1_S_).sem = sendS (peer c 0) := by
  revert c; decide +kernel
theorem sentSem2 (c : Dev nD) : ((cc0_scratch2.slice (Rect.unit (s := S4) (k0_off35 c 2#32) S1.size (k0_off35_inb c 1))).squeeze S_ squeezes_S1_S_).sem = sendS (peer c 1) := by
  revert c; decide +kernel
theorem sentSem3 (c : Dev nD) : ((cc0_scratch2.slice (Rect.unit (s := S4) (k0_off35 c 3#32) S1.size (k0_off35_inb c 2))).squeeze S_ squeezes_S1_S_).sem = sendS (peer c 2) := by
  revert c; decide +kernel

set_option maxHeartbeats 8000000 in
theorem part3_run (K : GSem nD τ sig → ℕ) (c : Dev nD) (harg0 harg1 harg2 harg3 harg4 harg5 harg6) (v2 : BitVec 32)
    (hw) (b : BitVec 1) {f₀ : S5248x8x128.Idx → Elt F .bf16} (hf : Sorted I c 4096 f₀) (Q : PUnit → sProp 𝕄) (R : sProp 𝕄)
    (hQ : iprop((work I c f₀ 4 ∗ ((((emp ∗ left c 0) ∗ left c 1) ∗ left c 2) ∗ left c 3))
        ∗ ((atPos ER (sendCell c (peer c 0)) 1 ∅ 0 ∗ sendPay I c (peer c 0)) ∗ R)) ⊢ Q ⟨⟩) :
    iprop((work I c f₀ 0 ∗ emp) ∗ (iprop(env I K c ∗ need c 0) ∗ (iprop(env I K c ∗ need c 1) ∗ (iprop(env I K c ∗ need c 2) ∗ (iprop(env I K c ∗ need c 3)
        ∗ (iprop(env I K c ∗ cred (tallyAt (sendCell c (peer c 0)) () N) ∗ atPos ER (sendCell c (peer c 0)) 0 ∅ 0) ∗ R))))))
      ⊢ wp frame (wpE (defs₀ (F := F)) 𝒱₀ (c : Thread nD τ) none) Set.univ
        (k0_part3 xM harg0 lsM harg1 stM harg2 ofM harg3 oM harg4 xsM harg5 rbM harg6 cc0_scratch2 cc0_scratch3 cc0_scratch4
          c v2 (I.ST c (i4 (peer c 0))) hw b) Q := by
  rw [k0_part3_eq_skeleton]
  unfold k0_part3_skel
  extract_lets -underBinder jp0
  refine wp_if c jp0 iprop(work I c f₀ 0 ∗ iprop(emp)) iprop(work I c f₀ (if c = 0 then 1 else 0) ∗ iprop(emp)) _ ?_ (fun h => ?_) (fun h => ?_)
  rotate_left
  · clear_value jp0
    have hc := (cond1_iff c).mp h
    simp only [smemLoad, smemLoadElt, Prog.lift, Prog.bind_op, Prog.bind_ret, Prog.pure_eq_ret]
    rw [if_pos hc]
    subst hc
    unfold work
    iintro ⟨⟨⟨⟨%f, %hp, Ho⟩, Hx, Hst, Hof, Hl, HO⟩, Ha⟩, Hk⟩
    iapply (wp_load 𝒱₀ ((0 : Dev nD) : Thread nD τ) none Set.univ (m := stM) (Finset.subset_univ _)) $$ Hst
    iintro Hst
    rw [read_st (F := F) (I.ST 0) ![0] _ _ 0 rfl]
    iapply (wp_assume 𝒱₀ ((0 : Dev nD) : Thread nD τ) none Set.univ (chk6_of 0 (I.st_le 0 _)))
    iapply (wp_load 𝒱₀ ((0 : Dev nD) : Thread nD τ) none Set.univ (m := ofM) (Finset.subset_univ _)) $$ Hof
    iintro Hof
    rw [read_of (F := F) (I.OF 0) ![0] _ _ 0 rfl]
    iapply (wp_assume 𝒱₀ ((0 : Dev nD) : Thread nD τ) none Set.univ (chk5_of 0 (I.of_le 0 _)))
    ihave ⟨Hw, Hx⟩ := (split_win I 0 0 f₀) $$ Hx
    iapply (wp_put 0 (win_inb (I.of_le' 0 0)) (src := winM I 0 0) rfl rfl locSem (f := f)) $$ [Hw Ho Hl HO]
    · isplitl [Hw]; · iexact Hw
      isplitl [Ho]; · iexact Ho
      isplitl [Hl] <;> iassumption
    iintro ⟨Ho, Hw, Hl, HO⟩
    iapply Hk
    isplitr [Ha]; swap; · iexact Ha
    isplitl [Ho]
    · iexists _
      isplitr; swap; iexact Ho
      ipureintro
      exact Placed.step I (s := 0) hp _ (landed_of_sorted I hf _)
    isplitl [Hw Hx]
    · iapply (pointsTo_split_subset (Finset.subset_univ (winM I 0 0).view.set)).2
      isplitl [Hw]; · iexact Hw
      iexact Hx
    isplitl [Hst]; · iexact Hst
    isplitl [Hof]; · iexact Hof
    isplitl [Hl] <;> iassumption
  · clear_value jp0
    rw [if_neg (fun hc => h ((cond1_iff c).mpr hc))]
    iintro ⟨Ha, Hk⟩
    iapply Hk; iexact Ha
  refine sep_assoc.2.trans ?_
  show _ ⊢ wp _ _ _ (jp0 ⟨⟩) _
  dsimp -zeta only [jp0]
  clear jp0
  extract_lets -underBinder jp1
  refine wp_if c jp1 iprop(iprop(work I c f₀ (if c = 0 then 1 else 0) ∗ iprop(emp)) ∗ env I K c ∗ need c 0) iprop(work I c f₀ 1 ∗ iprop(iprop(emp) ∗ left c 0)) _ ?_ (fun h => ?_) (fun h => ?_)
  rotate_left
  · clear_value jp1
    have hc := (cond2_iff c).mp h
    simp only [smemLoad, smemLoadElt, Prog.lift, Prog.bind_op, Prog.bind_ret, Prog.pure_eq_ret]
    rw [if_neg hc]
    unfold work left need
    rw [if_neg hc.symm, if_neg hc.symm]
    iintro ⟨⟨⟨⟨⟨%f, %hp, Ho⟩, Hx, Hst, Hof, Hl, HO⟩, Ha⟩, He, Hat, Hc⟩, Hk⟩
    iapply (wp_arrive I K c 0 hc.symm (credit_slot 0) takeSem0) $$ [He Hc HO Hat]
    · isplitl [He]; · iexact He
      isplitl [Hc]; · iexact Hc
      isplitl [HO] <;> iassumption
    unfold recvPay
    iintro ⟨HO, Hat, ⟨%g, %hg, Hs⟩⟩
    iapply (wp_load 𝒱₀ (c : Thread nD τ) none Set.univ (m := ofM) (Finset.subset_univ _)) $$ Hof
    iintro Hof
    rw [read_of (F := F) (I.OF c) ![0] _ _ 0 rfl]
    iapply (wp_assume 𝒱₀ (c : Thread nD τ) none Set.univ (chk7_of c (I.of_le c _)))
    iapply (wp_put c (win_inb (I.of_le' c 0)) (src := slotM 0) rfl rfl locSem (f := f)) $$ [Hs Ho Hl HO]
    · isplitl [Hs]; · iexact Hs
      isplitl [Ho]; · iexact Ho
      isplitl [Hl] <;> iassumption
    iintro ⟨Ho, Hs, Hl, HO⟩
    iapply Hk
    isplitr [Ha Hat Hs]
    · isplitl [Ho]
      · iexists _
        isplitr; swap; iexact Ho
        ipureintro
        exact Placed.step I (s := 0) hp _ hg
      isplitl [Hx]; · iexact Hx
      isplitl [Hst]; · iexact Hst
      isplitl [Hof]; · iexact Hof
      isplitl [Hl] <;> iassumption
    isplitl [Ha]; · iexact Ha
    isplitl [Hat]; · iexact Hat
    iexists _; iexact Hs
  · clear_value jp1
    have hc : c = 0 := by
      by_contra hn
      exact h ((cond2_iff c).mpr hn)
    rw [if_pos hc]
    unfold left need
    rw [if_pos hc.symm, if_pos hc.symm]
    iintro ⟨⟨⟨Hw, Ha⟩, -, Hn⟩, Hk⟩
    iapply Hk
    isplitl [Hw]; · iexact Hw
    isplitl [Ha] <;> iassumption
  dsimp -zeta only [jp1]
  clear jp1
  extract_lets -underBinder jp2
  refine wp_if c jp2 iprop(work I c f₀ 1 ∗ iprop(iprop(emp) ∗ left c 0)) iprop(work I c f₀ (if c = 1 then 2 else 1) ∗ iprop(iprop(emp) ∗ left c 0)) _ ?_ (fun h => ?_) (fun h => ?_)
  rotate_left
  · clear_value jp2
    have hc := (cond3_iff c).mp h
    simp only [smemLoad, smemLoadElt, Prog.lift, Prog.bind_op, Prog.bind_ret, Prog.pure_eq_ret]
    rw [if_pos hc]
    subst hc
    unfold work
    iintro ⟨⟨⟨⟨%f, %hp, Ho⟩, Hx, Hst, Hof, Hl, HO⟩, Ha⟩, Hk⟩
    iapply (wp_load 𝒱₀ ((1 : Dev nD) : Thread nD τ) none Set.univ (m := stM) (Finset.subset_univ _)) $$ Hst
    iintro Hst
    rw [read_st (F := F) (I.ST 1) ![1] _ _ 1 rfl]
    iapply (wp_assume 𝒱₀ ((1 : Dev nD) : Thread nD τ) none Set.univ (chk9_of 1 (I.st_le 1 _)))
    iapply (wp_load 𝒱₀ ((1 : Dev nD) : Thread nD τ) none Set.univ (m := ofM) (Finset.subset_univ _)) $$ Hof
    iintro Hof
    rw [read_of (F := F) (I.OF 1) ![1] _ _ 1 rfl]
    iapply (wp_assume 𝒱₀ ((1 : Dev nD) : Thread nD τ) none Set.univ (chk8_of 1 (I.of_le 1 _)))
    ihave ⟨Hw, Hx⟩ := (split_win I 1 1 f₀) $$ Hx
    iapply (wp_put 1 (win_inb (I.of_le' 1 1)) (src := winM I 1 1) rfl rfl locSem (f := f)) $$ [Hw Ho Hl HO]
    · isplitl [Hw]; · iexact Hw
      isplitl [Ho]; · iexact Ho
      isplitl [Hl] <;> iassumption
    iintro ⟨Ho, Hw, Hl, HO⟩
    iapply Hk
    isplitr [Ha]; swap; · iexact Ha
    isplitl [Ho]
    · iexists _
      isplitr; swap; iexact Ho
      ipureintro
      exact Placed.step I (s := 1) hp _ (landed_of_sorted I hf _)
    isplitl [Hw Hx]
    · iapply (pointsTo_split_subset (Finset.subset_univ (winM I 1 1).view.set)).2
      isplitl [Hw]; · iexact Hw
      iexact Hx
    isplitl [Hst]; · iexact Hst
    isplitl [Hof]; · iexact Hof
    isplitl [Hl] <;> iassumption
  · clear_value jp2
    rw [if_neg (fun hc => h ((cond3_iff c).mpr hc))]
    iintro ⟨Ha, Hk⟩
    iapply Hk; iexact Ha
  refine sep_assoc.2.trans ?_
  show _ ⊢ wp _ _ _ (jp2 ⟨⟩) _
  dsimp -zeta only [jp2]
  clear jp2
  extract_lets -underBinder jp3
  refine wp_if c jp3 iprop(iprop(work I c f₀ (if c = 1 then 2 else 1) ∗ iprop(iprop(emp) ∗ left c 0)) ∗ env I K c ∗ need c 1) iprop(work I c f₀ 2 ∗ iprop(iprop(iprop(emp) ∗ left c 0) ∗ left c 1)) _ ?_ (fun h => ?_) (fun h => ?_)
  rotate_left
  · clear_value jp3
    have hc := (cond4_iff c).mp h
    simp only [smemLoad, smemLoadElt, Prog.lift, Prog.bind_op, Prog.bind_ret, Prog.pure_eq_ret]
    rw [if_neg hc]
    unfold work left need
    rw [if_neg hc.symm, if_neg hc.symm]
    iintro ⟨⟨⟨⟨⟨%f, %hp, Ho⟩, Hx, Hst, Hof, Hl, HO⟩, Ha⟩, He, Hat, Hc⟩, Hk⟩
    iapply (wp_arrive I K c 1 hc.symm (credit_slot 1) takeSem1) $$ [He Hc HO Hat]
    · isplitl [He]; · iexact He
      isplitl [Hc]; · iexact Hc
      isplitl [HO] <;> iassumption
    unfold recvPay
    iintro ⟨HO, Hat, ⟨%g, %hg, Hs⟩⟩
    iapply (wp_load 𝒱₀ (c : Thread nD τ) none Set.univ (m := ofM) (Finset.subset_univ _)) $$ Hof
    iintro Hof
    rw [read_of (F := F) (I.OF c) ![1] _ _ 1 rfl]
    iapply (wp_assume 𝒱₀ (c : Thread nD τ) none Set.univ (chk10_of c (I.of_le c _)))
    iapply (wp_put c (win_inb (I.of_le' c 1)) (src := slotM 1) rfl rfl locSem (f := f)) $$ [Hs Ho Hl HO]
    · isplitl [Hs]; · iexact Hs
      isplitl [Ho]; · iexact Ho
      isplitl [Hl] <;> iassumption
    iintro ⟨Ho, Hs, Hl, HO⟩
    iapply Hk
    isplitr [Ha Hat Hs]
    · isplitl [Ho]
      · iexists _
        isplitr; swap; iexact Ho
        ipureintro
        exact Placed.step I (s := 1) hp _ hg
      isplitl [Hx]; · iexact Hx
      isplitl [Hst]; · iexact Hst
      isplitl [Hof]; · iexact Hof
      isplitl [Hl] <;> iassumption
    isplitl [Ha]; · iexact Ha
    isplitl [Hat]; · iexact Hat
    iexists _; iexact Hs
  · clear_value jp3
    have hc : c = 1 := by
      by_contra hn
      exact h ((cond4_iff c).mpr hn)
    rw [if_pos hc]
    unfold left need
    rw [if_pos hc.symm, if_pos hc.symm]
    iintro ⟨⟨⟨Hw, Ha⟩, -, Hn⟩, Hk⟩
    iapply Hk
    isplitl [Hw]; · iexact Hw
    isplitl [Ha] <;> iassumption
  dsimp -zeta only [jp3]
  clear jp3
  extract_lets -underBinder jp4
  refine wp_if c jp4 iprop(work I c f₀ 2 ∗ iprop(iprop(iprop(emp) ∗ left c 0) ∗ left c 1)) iprop(work I c f₀ (if c = 2 then 3 else 2) ∗ iprop(iprop(iprop(emp) ∗ left c 0) ∗ left c 1)) _ ?_ (fun h => ?_) (fun h => ?_)
  rotate_left
  · clear_value jp4
    have hc := (cond5_iff c).mp h
    simp only [smemLoad, smemLoadElt, Prog.lift, Prog.bind_op, Prog.bind_ret, Prog.pure_eq_ret]
    rw [if_pos hc]
    subst hc
    unfold work
    iintro ⟨⟨⟨⟨%f, %hp, Ho⟩, Hx, Hst, Hof, Hl, HO⟩, Ha⟩, Hk⟩
    iapply (wp_load 𝒱₀ ((2 : Dev nD) : Thread nD τ) none Set.univ (m := stM) (Finset.subset_univ _)) $$ Hst
    iintro Hst
    rw [read_st (F := F) (I.ST 2) ![2] _ _ 2 rfl]
    iapply (wp_assume 𝒱₀ ((2 : Dev nD) : Thread nD τ) none Set.univ (chk12_of 2 (I.st_le 2 _)))
    iapply (wp_load 𝒱₀ ((2 : Dev nD) : Thread nD τ) none Set.univ (m := ofM) (Finset.subset_univ _)) $$ Hof
    iintro Hof
    rw [read_of (F := F) (I.OF 2) ![2] _ _ 2 rfl]
    iapply (wp_assume 𝒱₀ ((2 : Dev nD) : Thread nD τ) none Set.univ (chk11_of 2 (I.of_le 2 _)))
    ihave ⟨Hw, Hx⟩ := (split_win I 2 2 f₀) $$ Hx
    iapply (wp_put 2 (win_inb (I.of_le' 2 2)) (src := winM I 2 2) rfl rfl locSem (f := f)) $$ [Hw Ho Hl HO]
    · isplitl [Hw]; · iexact Hw
      isplitl [Ho]; · iexact Ho
      isplitl [Hl] <;> iassumption
    iintro ⟨Ho, Hw, Hl, HO⟩
    iapply Hk
    isplitr [Ha]; swap; · iexact Ha
    isplitl [Ho]
    · iexists _
      isplitr; swap; iexact Ho
      ipureintro
      exact Placed.step I (s := 2) hp _ (landed_of_sorted I hf _)
    isplitl [Hw Hx]
    · iapply (pointsTo_split_subset (Finset.subset_univ (winM I 2 2).view.set)).2
      isplitl [Hw]; · iexact Hw
      iexact Hx
    isplitl [Hst]; · iexact Hst
    isplitl [Hof]; · iexact Hof
    isplitl [Hl] <;> iassumption
  · clear_value jp4
    rw [if_neg (fun hc => h ((cond5_iff c).mpr hc))]
    iintro ⟨Ha, Hk⟩
    iapply Hk; iexact Ha
  refine sep_assoc.2.trans ?_
  show _ ⊢ wp _ _ _ (jp4 ⟨⟩) _
  dsimp -zeta only [jp4]
  clear jp4
  extract_lets -underBinder jp5
  refine wp_if c jp5 iprop(iprop(work I c f₀ (if c = 2 then 3 else 2) ∗ iprop(iprop(iprop(emp) ∗ left c 0) ∗ left c 1)) ∗ env I K c ∗ need c 2) iprop(work I c f₀ 3 ∗ iprop(iprop(iprop(iprop(emp) ∗ left c 0) ∗ left c 1) ∗ left c 2)) _ ?_ (fun h => ?_) (fun h => ?_)
  rotate_left
  · clear_value jp5
    have hc := (cond6_iff c).mp h
    simp only [smemLoad, smemLoadElt, Prog.lift, Prog.bind_op, Prog.bind_ret, Prog.pure_eq_ret]
    rw [if_neg hc]
    unfold work left need
    rw [if_neg hc.symm, if_neg hc.symm]
    iintro ⟨⟨⟨⟨⟨%f, %hp, Ho⟩, Hx, Hst, Hof, Hl, HO⟩, Ha⟩, He, Hat, Hc⟩, Hk⟩
    iapply (wp_arrive I K c 2 hc.symm (credit_slot 2) takeSem2) $$ [He Hc HO Hat]
    · isplitl [He]; · iexact He
      isplitl [Hc]; · iexact Hc
      isplitl [HO] <;> iassumption
    unfold recvPay
    iintro ⟨HO, Hat, ⟨%g, %hg, Hs⟩⟩
    iapply (wp_load 𝒱₀ (c : Thread nD τ) none Set.univ (m := ofM) (Finset.subset_univ _)) $$ Hof
    iintro Hof
    rw [read_of (F := F) (I.OF c) ![2] _ _ 2 rfl]
    iapply (wp_assume 𝒱₀ (c : Thread nD τ) none Set.univ (chk13_of c (I.of_le c _)))
    iapply (wp_put c (win_inb (I.of_le' c 2)) (src := slotM 2) rfl rfl locSem (f := f)) $$ [Hs Ho Hl HO]
    · isplitl [Hs]; · iexact Hs
      isplitl [Ho]; · iexact Ho
      isplitl [Hl] <;> iassumption
    iintro ⟨Ho, Hs, Hl, HO⟩
    iapply Hk
    isplitr [Ha Hat Hs]
    · isplitl [Ho]
      · iexists _
        isplitr; swap; iexact Ho
        ipureintro
        exact Placed.step I (s := 2) hp _ hg
      isplitl [Hx]; · iexact Hx
      isplitl [Hst]; · iexact Hst
      isplitl [Hof]; · iexact Hof
      isplitl [Hl] <;> iassumption
    isplitl [Ha]; · iexact Ha
    isplitl [Hat]; · iexact Hat
    iexists _; iexact Hs
  · clear_value jp5
    have hc : c = 2 := by
      by_contra hn
      exact h ((cond6_iff c).mpr hn)
    rw [if_pos hc]
    unfold left need
    rw [if_pos hc.symm, if_pos hc.symm]
    iintro ⟨⟨⟨Hw, Ha⟩, -, Hn⟩, Hk⟩
    iapply Hk
    isplitl [Hw]; · iexact Hw
    isplitl [Ha] <;> iassumption
  dsimp -zeta only [jp5]
  clear jp5
  extract_lets -underBinder jp6
  refine wp_if c jp6 iprop(work I c f₀ 3 ∗ iprop(iprop(iprop(iprop(emp) ∗ left c 0) ∗ left c 1) ∗ left c 2)) iprop(work I c f₀ (if c = 3 then 4 else 3) ∗ iprop(iprop(iprop(iprop(emp) ∗ left c 0) ∗ left c 1) ∗ left c 2)) _ ?_ (fun h => ?_) (fun h => ?_)
  rotate_left
  · clear_value jp6
    have hc := (cond7_iff c).mp h
    simp only [smemLoad, smemLoadElt, Prog.lift, Prog.bind_op, Prog.bind_ret, Prog.pure_eq_ret]
    rw [if_pos hc]
    subst hc
    unfold work
    iintro ⟨⟨⟨⟨%f, %hp, Ho⟩, Hx, Hst, Hof, Hl, HO⟩, Ha⟩, Hk⟩
    iapply (wp_load 𝒱₀ ((3 : Dev nD) : Thread nD τ) none Set.univ (m := stM) (Finset.subset_univ _)) $$ Hst
    iintro Hst
    rw [read_st (F := F) (I.ST 3) ![3] _ _ 3 rfl]
    iapply (wp_assume 𝒱₀ ((3 : Dev nD) : Thread nD τ) none Set.univ (chk15_of 3 (I.st_le 3 _)))
    iapply (wp_load 𝒱₀ ((3 : Dev nD) : Thread nD τ) none Set.univ (m := ofM) (Finset.subset_univ _)) $$ Hof
    iintro Hof
    rw [read_of (F := F) (I.OF 3) ![3] _ _ 3 rfl]
    iapply (wp_assume 𝒱₀ ((3 : Dev nD) : Thread nD τ) none Set.univ (chk14_of 3 (I.of_le 3 _)))
    ihave ⟨Hw, Hx⟩ := (split_win I 3 3 f₀) $$ Hx
    iapply (wp_put 3 (win_inb (I.of_le' 3 3)) (src := winM I 3 3) rfl rfl locSem (f := f)) $$ [Hw Ho Hl HO]
    · isplitl [Hw]; · iexact Hw
      isplitl [Ho]; · iexact Ho
      isplitl [Hl] <;> iassumption
    iintro ⟨Ho, Hw, Hl, HO⟩
    iapply Hk
    isplitr [Ha]; swap; · iexact Ha
    isplitl [Ho]
    · iexists _
      isplitr; swap; iexact Ho
      ipureintro
      exact Placed.step I (s := 3) hp _ (landed_of_sorted I hf _)
    isplitl [Hw Hx]
    · iapply (pointsTo_split_subset (Finset.subset_univ (winM I 3 3).view.set)).2
      isplitl [Hw]; · iexact Hw
      iexact Hx
    isplitl [Hst]; · iexact Hst
    isplitl [Hof]; · iexact Hof
    isplitl [Hl] <;> iassumption
  · clear_value jp6
    rw [if_neg (fun hc => h ((cond7_iff c).mpr hc))]
    iintro ⟨Ha, Hk⟩
    iapply Hk; iexact Ha
  refine sep_assoc.2.trans ?_
  show _ ⊢ wp _ _ _ (jp6 ⟨⟩) _
  dsimp -zeta only [jp6]
  clear jp6
  extract_lets -underBinder jp7
  refine wp_if c jp7 iprop(iprop(work I c f₀ (if c = 3 then 4 else 3) ∗ iprop(iprop(iprop(iprop(emp) ∗ left c 0) ∗ left c 1) ∗ left c 2)) ∗ env I K c ∗ need c 3) iprop(work I c f₀ 4 ∗ iprop(iprop(iprop(iprop(iprop(emp) ∗ left c 0) ∗ left c 1) ∗ left c 2) ∗ left c 3)) _ ?_ (fun h => ?_) (fun h => ?_)
  rotate_left
  · clear_value jp7
    have hc := (cond8_iff c).mp h
    simp only [smemLoad, smemLoadElt, Prog.lift, Prog.bind_op, Prog.bind_ret, Prog.pure_eq_ret]
    rw [if_neg hc]
    unfold work left need
    rw [if_neg hc.symm, if_neg hc.symm]
    iintro ⟨⟨⟨⟨⟨%f, %hp, Ho⟩, Hx, Hst, Hof, Hl, HO⟩, Ha⟩, He, Hat, Hc⟩, Hk⟩
    iapply (wp_arrive I K c 3 hc.symm (credit_slot 3) takeSem3) $$ [He Hc HO Hat]
    · isplitl [He]; · iexact He
      isplitl [Hc]; · iexact Hc
      isplitl [HO] <;> iassumption
    unfold recvPay
    iintro ⟨HO, Hat, ⟨%g, %hg, Hs⟩⟩
    iapply (wp_load 𝒱₀ (c : Thread nD τ) none Set.univ (m := ofM) (Finset.subset_univ _)) $$ Hof
    iintro Hof
    rw [read_of (F := F) (I.OF c) ![3] _ _ 3 rfl]
    iapply (wp_assume 𝒱₀ (c : Thread nD τ) none Set.univ (chk16_of c (I.of_le c _)))
    iapply (wp_put c (win_inb (I.of_le' c 3)) (src := slotM 3) rfl rfl locSem (f := f)) $$ [Hs Ho Hl HO]
    · isplitl [Hs]; · iexact Hs
      isplitl [Ho]; · iexact Ho
      isplitl [Hl] <;> iassumption
    iintro ⟨Ho, Hs, Hl, HO⟩
    iapply Hk
    isplitr [Ha Hat Hs]
    · isplitl [Ho]
      · iexists _
        isplitr; swap; iexact Ho
        ipureintro
        exact Placed.step I (s := 3) hp _ hg
      isplitl [Hx]; · iexact Hx
      isplitl [Hst]; · iexact Hst
      isplitl [Hof]; · iexact Hof
      isplitl [Hl] <;> iassumption
    isplitl [Ha]; · iexact Ha
    isplitl [Hat]; · iexact Hat
    iexists _; iexact Hs
  · clear_value jp7
    have hc : c = 3 := by
      by_contra hn
      exact h ((cond8_iff c).mpr hn)
    rw [if_pos hc]
    unfold left need
    rw [if_pos hc.symm, if_pos hc.symm]
    iintro ⟨⟨⟨Hw, Ha⟩, -, Hn⟩, Hk⟩
    iapply Hk
    isplitl [Hw]; · iexact Hw
    isplitl [Ha] <;> iassumption
  dsimp -zeta only [jp7]
  clear jp7
  simp only [Prog.lift, Prog.bind_op, Prog.bind_ret, Prog.pure_eq_ret]
  unfold work
  iintro ⟨⟨⟨Ho, Hx, Hst, Hof, Hl, HO⟩, Ha⟩, ⟨He, Hc, Hat⟩, HR⟩
  iapply (wp_sent I K c (peer c 0) (peer_ne c 0) (credit_xsWin _) (sentSem1 c)) $$ [He Hc HO Hat]
  · isplitl [He]; · iexact He
    isplitl [Hc]; · iexact Hc
    isplitl [HO] <;> iassumption
  iintro ⟨HO, Hat, Hp⟩
  rw [wp_ret]
  imodintro
  iapply hQ
  unfold work
  isplitr [Hat Hp HR]
  · isplitr [Ha]; swap; · iexact Ha
    isplitl [Ho]; · iexact Ho
    isplitl [Hx]; · iexact Hx
    isplitl [Hst]; · iexact Hst
    isplitl [Hof]; · iexact Hof
    isplitl [Hl] <;> iassumption
  isplitr [HR]; swap; · iexact HR
  isplitl [Hat] <;> iassumption

end Cert.Proof.Talk

end
-- ==== Proof.Body.lean ====
/-
  The kernel on one device: what it is given, what it gives back, and the run between.
-/
module

public import proofs.«01_k».proof.Proof.Slots
public import proofs.«01_k».proof.Proof.Pieces

@[expose] public section

noncomputable section

namespace Cert.Proof.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-- The tokens of the payments device `c` makes to and for `p`. -/
def toks (c p : Dev nD) : sProp 𝕄 :=
  iprop(dutyTok ER (barCell p) 0 c ∗ dutyTok ER (sendCell c p) 0 p ∗ dutyTok ER (recvCell p c) 0 c)

/-- Given to device `c`: the exchange's state, its credits, its inputs, and its buffers at any contents. -/
def talkPre (K : GSem nD τ sig → ℕ) (c : Dev nD) (W : Waits sig Unit) : sProp 𝕄 :=
  iprop(env I K c ∗ atPos ER (barCell c) 0 ∅ 0 ∗ (bigSep Finset.univ fun k : CK => atPos ER (scell c k) 0 ∅ 0)
    ∗ bigSep (Finset.univ.erase c) (toks c) ∗ cred (tallyAt (barCell c) () 3)
    ∗ (bigSep (Finset.univ.erase c) fun s => cred (tallyAt (recvCell c s) () N))
    ∗ pt c cc0_stg0_0 (I.X c) ∗ pt c cc0_stg1_0 (I.LS c) ∗ pt c cc0_stg2_0 (I.ST c) ∗ pt c cc0_stg3_0 (I.OF c)
    ∗ (∃ f, pt c cc0_stg4_0 f) ∗ (∃ f, pt c cc0_scratch0 f) ∗ (∃ f, pt c cc0_scratch1 f) ∗ semVal (locCell c) 0
    ∗ owes (c : Thread nD τ) (O₀ c) W)

/-- Given back: all counters at zero, the inputs, the result with every piece in, the scratch at any contents. -/
def talkPost (c : Dev nD) : sProp 𝕄 :=
  iprop(semVal (barCell c) 0 ∗ (bigSep Finset.univ fun k : CK => semVal (scell c k) 0) ∗ semVal (locCell c) 0
    ∗ pt c cc0_stg0_0 (I.X c) ∗ pt c cc0_stg1_0 (I.LS c) ∗ pt c cc0_stg2_0 (I.ST c) ∗ pt c cc0_stg3_0 (I.OF c)
    ∗ (∃ f, ⌜Placed I c 4 f⌝ ∗ pt c cc0_stg4_0 f) ∗ (∃ f, pt c cc0_scratch0 f) ∗ (∃ f, pt c cc0_scratch1 f) ∗ idle c)

/-- The round a counter of `c` is in at the end: its own number has none. -/
def lastR (c : Dev nD) : CK → ℕ | .inl r => if r = c then 0 else 1 | .inr s => if s = c then 0 else 1
theorem lastR_duties (c : Dev nD) (k : CK) : ∀ r, lastR c k ≤ r → (exRd I).duties (scell c k) r = ∅ := by
  intro r hr
  rcases Nat.eq_zero_or_pos r with rfl | h
  · cases k with
    | inl q =>
      have hq : q = c := by by_contra hn; unfold lastR at hr; simp only [if_neg hn] at hr; omega
      exact (duties_send I c q).trans (if_pos hq)
    | inr q =>
      have hq : q = c := by by_contra hn; unfold lastR at hr; simp only [if_neg hn] at hr; omega
      exact (duties_recv I c q).trans (if_pos hq)
  · exact duties_later I _ r h

theorem close_bar (K : GSem nD τ sig → ℕ) (c : Dev nD) :
    iprop(cellInv ER (exRd I) (K (barCell c)) (barCell c) ∗ atPos ER (barCell c) 1 ∅ 0) ⊢ (|={Set.univ}=> semVal (barCell c) 0 : sProp 𝕄) :=
  Rounds.cell_close ER (exRd I) (Set.mem_univ _) id (duties_later I _)
theorem close_scoped (K : GSem nD τ sig → ℕ) (c : Dev nD) :
    iprop(invs I K ∗ bigSep Finset.univ fun k : CK => atPos ER (scell c k) (lastR c k) ∅ 0)
      ⊢ (|={Set.univ}=> bigSep Finset.univ fun k : CK => semVal (scell c k) 0 : sProp 𝕄) := by
  refine BIBase.Entails.trans ?_ (Rounds.cells_close ER (exRd I) Finset.univ (scell c) (fun k => K (scell c k)) (fun _ _ => Set.mem_univ _) (fun _ _ => id)
    (lastR c) (fun k _ => lastR_duties I c k))
  exact bigSep_with_persistent fun k _ => sep_mono_left (inv_scell I K c k)

/-- The families of counters, one counter at a time. -/
theorem cks (c : Dev nD) (Φ : CK → sProp 𝕄) : bigSep Finset.univ Φ
    = iprop((Φ (.inl c) ∗ Φ (.inl (peer c 0)) ∗ Φ (.inl (peer c 1)) ∗ Φ (.inl (peer c 2)))
        ∗ (Φ (.inr c) ∗ Φ (.inr (peer c 0)) ∗ Φ (.inr (peer c 1)) ∗ Φ (.inr (peer c 2)))) := by
  rw [bigSep_univ_sum, fromMe c (fun r => Φ (.inl r)), fromMe c (fun r => Φ (.inr r))]
  rfl

theorem need_self (c : Dev nD) : (need c c : sProp 𝕄) = iprop(emp) := if_pos rfl
theorem need_peer (c : Dev nD) (o : Fin 3) : (need c (peer c o) : sProp 𝕄)
    = iprop(atPos ER (recvCell c (peer c o)) 0 ∅ 0 ∗ cred (tallyAt (recvCell c (peer c o)) () N)) := if_neg (peer_ne c o)
theorem left_self (c : Dev nD) : (left c c : sProp 𝕄) = iprop(emp) := if_pos rfl
theorem left_peer (c : Dev nD) (o : Fin 3) : (left c (peer c o) : sProp 𝕄)
    = iprop(atPos ER (recvCell c (peer c o)) 1 ∅ 0 ∗ ∃ f, slotPt c (peer c o) f) := if_neg (peer_ne c o)

theorem lastR_self_l (c : Dev nD) : lastR c (.inl c) = 0 := if_pos rfl
theorem lastR_self_r (c : Dev nD) : lastR c (.inr c) = 0 := if_pos rfl
theorem lastR_peer_l (c : Dev nD) (o : Fin 3) : lastR c (.inl (peer c o)) = 1 := if_neg (peer_ne c o)
theorem lastR_peer_r (c : Dev nD) (o : Fin 3) : lastR c (.inr (peer c o)) = 1 := if_neg (peer_ne c o)

set_option maxHeartbeats 4000000 in
theorem talkRun (K : GSem nD τ sig → ℕ) (c : Dev nD) (W : Waits sig Unit) (harg0 harg1 harg2 harg3 harg4 harg5 harg6) (Kt : PUnit → sProp 𝕄) :
    iprop(talkPre I K c W ∗ (talkPost I c -∗ Kt ⟨⟩))
      ⊢ wp frame (wpE (defs₀ (F := F)) 𝒱₀ (c : Thread nD τ) none) Set.univ
        (cc0__a2av_body xM harg0 lsM harg1 stM harg2 ofM harg3 oM harg4 xsM harg5 rbM harg6 cc0_scratch2 cc0_scratch3 cc0_scratch4) Kt := by
  rw [cc0__a2av_body_eq_skeleton]
  unfold cc0__a2av_body_skel talkPre
  simp only [Prog.lift, Prog.bind_op, Prog.bind_ret, Prog.pure_eq_ret]
  rw [others c (toks c), others c (fun s => cred (tallyAt (recvCell c s) () N)), cks c]
  iintro ⟨⟨#He, Hb, ⟨⟨Asc, As0, As1, As2⟩, ⟨Arc, Ar0, Ar1, Ar2⟩⟩, ⟨T0, T1, T2⟩, Cb, ⟨C0, C1, C2⟩, Hx, Hls, Hst, Hof, ⟨%fo, Ho⟩, ⟨%fx, Hxs⟩, ⟨%fr, Hrb⟩, Hl, HO⟩, Hk⟩
  unfold toks
  icases T0 with ⟨Tb0, Ts0, Tr0⟩
  icases T1 with ⟨Tb1, Ts1, Tr1⟩
  icases T2 with ⟨Tb2, Ts2, Tr2⟩
  ihave Hrb := ((rb_cut c fr).trans (Entails.of_eq (fromMe c (fun s => iprop(∃ f, slotPt c s f))))) $$ Hrb
  icases Hrb with ⟨Sc, S0, S1, S2⟩
  rw [wp_bind]
  iapply (part1_run I K c W harg0 harg1 harg2 harg3 harg4 harg5 harg6 _)
  isplitr; · iexact He
  isplitl [Hx Hls Hxs]
  · unfold gInv
    isplitl [Hx]; · iexact Hx
    isplitl [Hls]; · iexact Hls
    iexists fx
    isplitr; swap; · iexact Hxs
    ipureintro
    exact fun i h => absurd h (Nat.not_lt_zero _)
  isplitl [Hst]; · iexact Hst
  isplitl [Hb]; · iexact Hb
  isplitl [Tb0 S0 Tb1 S1 Tb2 S2]
  · rw [others]
    isplitl [Tb0 S0]; · isplitl [Tb0] <;> iassumption
    isplitl [Tb1 S1]; · isplitl [Tb1] <;> iassumption
    isplitl [Tb2] <;> iassumption
  isplitl [Cb]; · iexact Cb
  isplitl [HO]; · iexact HO
  iintro %v2 %h2 ⟨Hg, Hst, Hb, Hp, ⟨%W1, HO⟩⟩
  unfold gInv
  icases Hg with ⟨Hx, Hls, ⟨%f, %hf, Hxs⟩⟩
  ihave ⟨P0, P1, P2⟩ := (Entails.of_eq (others c (fun p => barPay p c))) $$ Hp
  iapply (Entails.of_eq (wp_bind _ _ _ _ _ _).symm)
  iapply (part2_run I K c W1 harg0 harg1 harg2 harg3 harg4 harg5 harg6 v2 h2 hf _)
  isplitr; · iexact He
  isplitl [Hxs]; · iexact Hxs
  isplitl [Hst]; · iexact Hst
  isplitl [P0 Ts0 Tr0 P1 Ts1 Tr1 P2 Ts2 Tr2]
  · rw [others]
    isplitl [P0 Ts0 Tr0]
    · isplitl [P0]; · iexact P0
      isplitl [Ts0] <;> iassumption
    isplitl [P1 Ts1 Tr1]
    · isplitl [P1]; · iexact P1
      isplitl [Ts1] <;> iassumption
    isplitl [P2]; · iexact P2
    isplitl [Ts2] <;> iassumption
  isplitl [HO]; · iexact HO
  iintro %h3 %h4 %b ⟨Hxs, Hst, HD, HO⟩
  ihave ⟨⟨R0, D0⟩, ⟨R1, D1⟩, ⟨R2, D2⟩⟩ := (Entails.of_eq (others c (fun p => iprop(restPt I c p f ∗ cred (tallyAt (sendCell c p) () N))))) $$ HD
  iapply (Entails.of_eq (wp_bind _ _ _ _ _ _).symm)
  have hneed := (inOrder (F := F) (need c)).symm.trans (fromMe c (need c))
  have hleft := (inOrder (F := F) (left c)).symm.trans (fromMe c (left c))
  rw [need_self, need_peer, need_peer, need_peer] at hneed
  rw [left_self, left_peer, left_peer, left_peer] at hleft
  ihave HN := (Entails.of_eq hneed.symm) $$ [Ar0 C0 Ar1 C1 Ar2 C2]
  · isplitr; · iempintro
    isplitl [Ar0 C0]
    · isplitl [Ar0]; · iexact Ar0
      iexact C0
    isplitl [Ar1 C1]
    · isplitl [Ar1]; · iexact Ar1
      iexact C1
    isplitl [Ar2]; · iexact Ar2
    iexact C2
  icases HN with ⟨N0, N1, N2, N3⟩
  iapply (part3_run I K c harg0 harg1 harg2 harg3 harg4 harg5 harg6 v2 h2 b hf _
    iprop(((work I c f 4 ∗ ((((emp ∗ left c 0) ∗ left c 1) ∗ left c 2) ∗ left c 3))
        ∗ (atPos ER (sendCell c (peer c 0)) 1 ∅ 0 ∗ sendPay I c (peer c 0))) -∗ _)
    (by
      iintro ⟨HA, HB, HW⟩
      iapply HW
      isplitl [HA] <;> iassumption))
  isplitl [Ho Hxs Hst Hof Hl HO]
  · isplitl [Ho Hxs Hst Hof Hl HO]; swap
    · iempintro
    unfold work
    isplitl [Ho]
    · iexists fo
      isplitr; swap; · iexact Ho
      ipureintro; exact Placed.zero I c fo
    isplitl [Hxs]; · iexact Hxs
    isplitl [Hst]; · iexact Hst
    isplitl [Hof]; · iexact Hof
    isplitl [Hl]; · iexact Hl
    unfold idle; iexact HO
  isplitl [N0]; · isplitr; · iexact He
                  iexact N0
  isplitl [N1]; · isplitr; · iexact He
                  iexact N1
  isplitl [N2]; · isplitr; · iexact He
                  iexact N2
  isplitl [N3]; · isplitr; · iexact He
                  iexact N3
  isplitl [D0 As0]
  · isplitr; · iexact He
    isplitl [D0]; · iexact D0
    iexact As0
  unfold work
  iintro ⟨⟨⟨Ho, Hxs, Hst, Hof, Hl, HO⟩, ⟨⟨⟨⟨-, L0⟩, L1⟩, L2⟩, L3⟩⟩, As0, W0⟩
  iapply (wp_sent I K c (peer c 1) (peer_ne c 1) (credit_xsWin _) (sentSem2 c)) $$ [D1 HO As1]
  · isplitr; · iexact He
    isplitl [D1]; · iexact D1
    isplitl [HO]; · iexact HO
    iexact As1
  iintro ⟨HO, As1, W1⟩
  iapply (wp_sent I K c (peer c 2) (peer_ne c 2) (credit_xsWin _) (sentSem3 c)) $$ [D2 HO As2]
  · isplitr; · iexact He
    isplitl [D2]; · iexact D2
    isplitl [HO]; · iexact HO
    iexact As2
  iintro ⟨HO, As2, W2⟩
  ihave HL := (Entails.of_eq hleft) $$ [L0 L1 L2 L3]
  · isplitl [L0]; · iexact L0
    isplitl [L1]; · iexact L1
    isplitl [L2] <;> iassumption
  icases HL with ⟨-, ⟨Ar0, S0⟩, ⟨Ar1, S1⟩, ⟨Ar2, S2⟩⟩
  ihave ⟨Hxs, X0⟩ := (rejoin I c (peer c 0) f) $$ [Hxs W0 R0]
  · isplitl [Hxs]; · iexact Hxs
    isplitl [W0] <;> iassumption
  ihave ⟨Hxs, X1⟩ := (rejoin I c (peer c 1) f) $$ [Hxs W1 R1]
  · isplitl [Hxs]; · iexact Hxs
    isplitl [W1] <;> iassumption
  ihave ⟨Hxs, X2⟩ := (rejoin I c (peer c 2) f) $$ [Hxs W2 R2]
  · isplitl [Hxs]; · iexact Hxs
    isplitl [W2] <;> iassumption
  unfold env
  icases He with ⟨#Hi, -, -, -⟩
  rw [wp_ret]
  imod (close_bar I K c) $$ [Hb] with Hb0
  · isplitr; · iapply (inv_bar I K c); iexact Hi
    iexact Hb
  imod (close_scoped I K c) $$ [Asc As0 As1 As2 Arc Ar0 Ar1 Ar2] with Hs0
  · isplitr; · iexact Hi
    rw [cks c (fun k => atPos ER (scell c k) (lastR c k) ∅ 0)]
    simp only [lastR_self_l, lastR_self_r, lastR_peer_l, lastR_peer_r]
    isplitl [Asc As0 As1 As2]
    · isplitl [Asc]; · iexact Asc
      isplitl [As0]; · iexact As0
      isplitl [As1]; · iexact As1
      iexact As2
    isplitl [Arc]; · iexact Arc
    isplitl [Ar0]; · iexact Ar0
    isplitl [Ar1]; · iexact Ar1
    iexact Ar2
  imodintro
  iapply Hk
  unfold talkPost
  isplitl [Hb0]; · iexact Hb0
  isplitl [Hs0]; · iexact Hs0
  isplitl [Hl]; · iexact Hl
  isplitl [Hx]; · iexact Hx
  isplitl [Hls]; · iexact Hls
  isplitl [Hst]; · iexact Hst
  isplitl [Hof]; · iexact Hof
  isplitl [Ho]; · iexact Ho
  isplitl [Hxs X0 X1 X2]
  · iexists f
    iapply (Entails.of_eq (shares (F := F) c f).symm)
    isplitl [Hxs]; · iexact Hxs
    isplitl [X0]; · iexact X0
    isplitl [X1] <;> iassumption
  isplitl [Sc S0 S1 S2]
  · iapply (rb_join c)
    rw [fromMe c (fun s => iprop(∃ f, slotPt c s f))]
    isplitl [Sc]; · iexact Sc
    isplitl [S0]; · iexact S0
    isplitl [S1] <;> iassumption
  iexact HO

end Cert.Proof.Talk

end
-- ==== Proof.Region.lean ====
/-
  The exchange as one region of the program: what goes in, what the body leaves, what comes out.
-/
module

public import proofs.«01_k».proof.Proof.Body
public import proofs.«01_k».proof.Proof.Gen.KernelIdeal.Regions
public import proofs.«01_k».proof.Proof.Gen.KernelIdeal.Points
public import Idealize.ShloMosaic.Lib.Rounds.Family
public import Idealize.ShloMosaic.Lib.Pipeline.RegionTalk
public import Idealize.ShloMosaic.Lib.Pipeline.DatRel
public import Idealize.ShloMosaic.Lib.Pipeline.ArrRel
public import Idealize.ShloMosaic.Lib.Pipeline.ValueKit

@[expose] public section

noncomputable section

namespace Cert.Proof.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

open Idealize.ShloMosaic.Pipeline (Dat RDat Seg HostSeg RegionSeg BodyObligationRel)

/-- A family of pairs is two families, -/
theorem unpair {ι : Type} [DecidableEq ι] {S : Finset ι} {Φ Ψ : ι → sProp 𝕄} :
    (bigSep S fun i => iprop(Φ i ∗ Ψ i) : sProp 𝕄) ⊢ iprop(bigSep S Φ ∗ bigSep S Ψ) := Entails.of_eq (bigSep_sep' _ _ _)
/-- and back. -/
theorem unite {ι : Type} [DecidableEq ι] {S : Finset ι} {Φ Ψ : ι → sProp 𝕄} :
    (iprop(bigSep S Φ ∗ bigSep S Ψ) : sProp 𝕄) ⊢ bigSep S fun i => iprop(Φ i ∗ Ψ i) := Entails.of_eq (bigSep_sep' _ _ _).symm

/-! ## What a device carries into the call -/

/-- The call's own counters: those of the exchange, and the one of the local copies. -/
def osem0 : CK ⊕ Unit → SemLoc sig | .inl k => csem k | .inr _ => .dma locS

theorem ownSems_eq (c : Dev nD) : (Pipeline.ownSems0 osem0 c : sProp 𝕄)
    = iprop((bigSep Finset.univ fun k : CK => semVal (scell c k) 0) ∗ semVal (locCell c) 0) := by
  unfold Pipeline.ownSems0
  rw [bigSep_univ_sum, show (Finset.univ : Finset Unit) = {()} from rfl, bigSep_singleton]
  rfl

/-- From the launch on: the cells' invariants, the position at the barrier, the rights to open the scoped counters,
    the tokens of the payments to make, and the credits for what is to come. -/
def start (c : Dev nD) : sProp 𝕄 :=
  iprop((∃ K, invs I K ∗ bars ∗ atPos ER (barCell c) 0 ∅ 0 ∗ (bigSep Finset.univ fun k : CK => openTok ER (scell c k))
      ∗ bigSep (Finset.univ.erase c) (toks c))
    ∗ cred (tallyAt (barCell c) () 3) ∗ bigSep (Finset.univ.erase c) fun s => cred (tallyAt (recvCell c s) () N))

/-- The same once the scoped counters are open. -/
def opened (c : Dev nD) : sProp 𝕄 :=
  iprop((∃ K, env I K c ∗ atPos ER (barCell c) 0 ∅ 0 ∗ (bigSep Finset.univ fun k : CK => atPos ER (scell c k) 0 ∅ 0)
      ∗ bigSep (Finset.univ.erase c) (toks c))
    ∗ cred (tallyAt (barCell c) () 3) ∗ (bigSep (Finset.univ.erase c) fun s => cred (tallyAt (recvCell c s) () N))
    ∗ semVal (locCell c) 0)

theorem open_cells (c : Dev nD) : iprop(start I c ∗ Pipeline.ownSems0 osem0 c ∗ levAts L lv) ⊢ (|={Set.univ}=> opened I c : sProp 𝕄) := by
  rw [ownSems_eq]
  unfold start opened
  iintro ⟨⟨⟨%K, #Hi, #Hb, Hat, Hop, Htok⟩, HcB, HcV⟩, ⟨Hs, Hl⟩, #Hlev⟩
  imod (Rounds.cells_open ER (exRd I) Finset.univ (scell c) (fun k => K (scell c k)) (Es := Set.univ) (fun k _ => Set.mem_univ _))
    $$ [Hop Hs] with Ho
  · isplitl [Hop]
    · iapply (bigSep_with_persistent (R := invs I K) (Φ := fun k : CK => openTok ER (scell c k)) (Ψ := fun k : CK => iprop(cellInv ER (exRd I) (K (scell c k)) (scell c k) ∗ openTok ER (scell c k))) fun k _ => by
        iintro ⟨#H1, H2⟩
        isplitr; · iapply (inv_scell I K c k); iexact H1
        iexact H2)
      isplitr; · iexact Hi
      iexact Hop
    iexact Hs
  ihave Ho' := unpair $$ Ho
  icases Ho' with ⟨Hats, #Hm⟩
  imodintro
  isplitr [HcB HcV Hl]
  · iexists K
    isplitr
    · unfold env
      isplitr; · iexact Hi
      isplitr; · iexact Hb
      isplitr; · unfold mine; iexact Hm
      iexact Hlev
    isplitl [Hat]; · iexact Hat
    isplitl [Hats]; · iexact Hats
    iexact Htok
  isplitl [HcB]; · iexact HcB
  isplitl [HcV]; · iexact HcV
  iexact Hl

/-- The two scratch buffers at some contents. -/
def scratch (c : Dev nD) : sProp 𝕄 := iprop((∃ f, pt c cc0_scratch0 f) ∗ (∃ f, pt c cc0_scratch1 f))

/-! ## The proof data -/

variable (V : Dev nD → Valuation τ sig (Elt F))

/-- The valuation before the call agrees with the data of the exchange. -/
structure Fits : Prop where
  x : ∀ c, V c (Proc.devRef .tc main_v37) = I.X c
  ls : ∀ c, V c (Proc.devRef .tc main_v36) = I.LS c
  st : ∀ c, V c (Proc.devRef .tc main_v32) = I.ST c
  of : ∀ c, V c (Proc.devRef .tc main_v35) = I.OF c

variable [∀ e, Nonempty (Elt F e)]

/-- What the call leaves in the staging buffers: the inputs as they were; the result is not named. -/
def left0 (c : Dev nD) : (w : Fin 5) → (win0 w).block.Idx → Elt F (win0 w).elt
  | 0 => I.X c | 1 => I.LS c | 2 => I.ST c | 3 => I.OF c | 4 => fun _ => Classical.arbitrary _

def dat0 (c : Dev nD) : Dat τ (Elt F) Unit ℕ UU ℕ cfg0 c where
  A w := V c (Proc.devRef .tc (Pipeline.arrRef spec0 w))
  after w _ := left0 I c w
  Φ t := if t.val = 0 then iprop(opened I c ∗ scratch c)
    else iprop(semVal (barCell c) 0 ∗ ((bigSep Finset.univ fun k : CK => semVal (scell c k) 0) ∗ semVal (locCell c) 0) ∗ scratch c)
  q _ := fullShare
  owed t := if t.val = 0 then O₀ c else 0

/-- Of the result: every row of the first 4096 is the row that belongs there. -/
def Rl0 (c : Dev nD) (w : Fin 5) (X : (win0 w).block.Idx → Elt F (win0 w).elt) : Prop :=
  match w, X with
  | 4, X => Placed I c 4 X
  | _, _ => True
def fgt0 (w : Fin 5) : Bool := decide (w = 4)

abbrev rdat0 (c : Dev nD) : RDat τ (Elt F) Unit ℕ UU ℕ cfg0 c := (dat0 I V c).toRRel fgt0 (fun w _ X => Rl0 I c w X)

theorem owed_first (c : Dev nD) : (dat0 I V c).owed (t0_0 : Fin cfg0.N).castSucc = O₀ c := by
  show (if (t0_0.castSucc : Fin (cfg0.N + 1)).val = 0 then O₀ c else 0) = O₀ c; exact if_pos rfl
theorem owed_zero (c : Dev nD) : (dat0 I V c).owed 0 = O₀ c := by
  show (if ((0 : Fin (cfg0.N + 1)).val = 0) then O₀ c else 0) = O₀ c; exact if_pos rfl
theorem owed_succ (c : Dev nD) : (dat0 I V c).owed (t0_0 : Fin cfg0.N).succ = 0 := by
  show (if (t0_0.succ : Fin (cfg0.N + 1)).val = 0 then O₀ c else 0) = 0; exact if_neg (by decide)
theorem owed_last (c : Dev nD) : (dat0 I V c).owed (Fin.last _) = 0 := by
  show (if (Fin.last cfg0.N).val = 0 then O₀ c else 0) = 0
  rw [Fin.val_last, if_neg (by rw [show cfg0.N = 1 from N_0]; decide)]

theorem owes_in {c : Dev nD} (t : Fin (cfg0.N + 1)) (O : CellTallies nD τ sig Unit) (h0 : (dat0 I V c).owed t = O) (W : Waits sig Unit) :
    (owes (c : Thread nD τ) O W : sProp 𝕄) ⊢ ((dat0 I V c).owesAt () t : sProp 𝕄) := by
  unfold Dat.owesAt Pipeline.owesWithin Dat.bound; rw [h0]
  iintro HO; iexists W; isplitr; · ipureintro; exact fun _ _ => Or.inl trivial
  iexact HO
theorem owes_out {c : Dev nD} (t : Fin (cfg0.N + 1)) (O : CellTallies nD τ sig Unit) (h0 : (dat0 I V c).owed t = O) :
    ((dat0 I V c).owesAt () t : sProp 𝕄) ⊢ iprop(∃ W, owes (c : Thread nD τ) O W) := by
  unfold Dat.owesAt Pipeline.owesWithin; rw [h0]
  iintro ⟨%W, -, HO⟩; iexists W; iexact HO

/-! ## The body obligation -/

/-- A whole staging buffer, owned. -/
theorem owns_pt (c : Dev nD) (b : Ref sig .tc) (X : b.ty.Contents (Elt F)) :
    (owns (c : Thread nD τ) (Memref.whole b) fullShare X : sProp 𝕄) = pt c b X := by
  have h₁ : (iprop(∃ f : Buf (Elt F) ((c : Thread nD τ).loc b), ⌜f = X⌝ ∗ ((c : Thread nD τ).loc b ↦{fullShare} f)) : sProp 𝕄) ⊢ pt c b X := by
    iintro ⟨%f, %h, H⟩; subst h; iexact H
  have h₂ : (pt c b X : sProp 𝕄) ⊢ iprop(∃ f : Buf (Elt F) ((c : Thread nD τ).loc b), ⌜f = X⌝ ∗ ((c : Thread nD τ).loc b ↦{fullShare} f)) := by
    iintro H; iexists X; isplitr; · ipureintro; rfl
    iexact H
  exact (owns_whole_eq _ _ _ _).trans (BI.equiv_iff.mp ⟨h₁, h₂⟩)

/-! The four inputs, as the body finds them. -/

theorem before_x (h : Fits I V) (c : Dev nD) (d) : (dat0 I V c).before (0 : Fin 5) t0_0 d = I.X c := by
  rw [(dat0 I V c).before_fetched 0 t0_0 (fetch0_0 t0_0) d, ← h.x c]
  funext y
  show V c (Proc.devRef .tc main_v37) (((cfg0.win 0).blk t0_0).view.emb y) = V c (Proc.devRef .tc main_v37) y
  refine congrArg _ (funext fun a => Fin.ext ?_)
  exact Pipeline.Window.rect_emb_val_of_index_zero (cfg0.win 0) t0_0 a (by revert a; decide) y
theorem before_ls (h : Fits I V) (c : Dev nD) (d) : (dat0 I V c).before (1 : Fin 5) t0_0 d = I.LS c := by
  rw [(dat0 I V c).before_fetched 1 t0_0 (fetch0_1 t0_0) d, ← h.ls c]
  funext y
  show V c (Proc.devRef .tc main_v36) (((cfg0.win 1).blk t0_0).view.emb y) = V c (Proc.devRef .tc main_v36) y
  refine congrArg _ (funext fun a => Fin.ext ?_)
  exact Pipeline.Window.rect_emb_val_of_index_zero (cfg0.win 1) t0_0 a (by revert a; decide) y
theorem before_st (h : Fits I V) (c : Dev nD) (d) : (dat0 I V c).before (2 : Fin 5) t0_0 d = I.ST c := by
  rw [(dat0 I V c).before_fetched 2 t0_0 (fetch0_2 t0_0) d, ← h.st c]
  funext y
  show V c (Proc.devRef .tc main_v32) (((cfg0.win 2).blk t0_0).view.emb y) = V c (Proc.devRef .tc main_v32) y
  refine congrArg _ (funext fun a => Fin.ext ?_)
  exact Pipeline.Window.rect_emb_val_of_index_zero (cfg0.win 2) t0_0 a (by revert a; decide) y
theorem before_of (h : Fits I V) (c : Dev nD) (d) : (dat0 I V c).before (3 : Fin 5) t0_0 d = I.OF c := by
  rw [(dat0 I V c).before_fetched 3 t0_0 (fetch0_3 t0_0) d, ← h.of c]
  funext y
  show V c (Proc.devRef .tc main_v35) (((cfg0.win 3).blk t0_0).view.emb y) = V c (Proc.devRef .tc main_v35) y
  refine congrArg _ (funext fun a => Fin.ext ?_)
  exact Pipeline.Window.rect_emb_val_of_index_zero (cfg0.win 3) t0_0 a (by revert a; decide) y

set_option maxHeartbeats 1000000 in
theorem body0 (h : Fits I V) (c : Dev nD) :
    BodyObligationRel (dat0 I V c) defs₀ 𝒱₀ () Set.univ fgt0 (fun w _ X => Rl0 I c w X) := fun t => by
  obtain rfl := fin_N0 t
  rw [bigSep_W0, bigSep_W0]
  show iprop((opened I c ∗ scratch c) ∗ (dat0 I V c).owesAt () (t0_0 : Fin cfg0.N).castSucc
      ∗ (∃ d, owns (c : Thread nD τ) (Memref.whole cc0_stg0_0) fullShare ((dat0 I V c).before (0 : Fin 5) t0_0 d))
      ∗ (∃ d, owns (c : Thread nD τ) (Memref.whole cc0_stg1_0) fullShare ((dat0 I V c).before (1 : Fin 5) t0_0 d))
      ∗ (∃ d, owns (c : Thread nD τ) (Memref.whole cc0_stg2_0) fullShare ((dat0 I V c).before (2 : Fin 5) t0_0 d))
      ∗ (∃ d, owns (c : Thread nD τ) (Memref.whole cc0_stg3_0) fullShare ((dat0 I V c).before (3 : Fin 5) t0_0 d))
      ∗ (∃ Y, ⌜(rdat0 I V c).Finds (4 : Fin 5) t0_0 Y⌝ ∗ owns (c : Thread nD τ) (Memref.whole cc0_stg4_0) fullShare Y))
    ⊢ wp frame (wpE (defs₀ (F := F)) 𝒱₀ (c : Thread nD τ) none) Set.univ (cc0__a2av_body xM (hstage0_0 0) lsM (hstage0_1 0) stM (hstage0_2 0) ofM (hstage0_3 0) oM (hstage0_4 0)
        xsM (Memref.isWhole_whole _) rbM (Memref.isWhole_whole _) cc0_scratch2 cc0_scratch3 cc0_scratch4) fun _ =>
      iprop((semVal (barCell c) 0 ∗ ((bigSep Finset.univ fun k : CK => semVal (scell c k) 0) ∗ semVal (locCell c) 0) ∗ scratch c)
        ∗ (dat0 I V c).owesAt () (t0_0 : Fin cfg0.N).succ
        ∗ owns (c : Thread nD τ) (Memref.whole cc0_stg0_0) fullShare (I.X c)
        ∗ owns (c : Thread nD τ) (Memref.whole cc0_stg1_0) fullShare (I.LS c)
        ∗ owns (c : Thread nD τ) (Memref.whole cc0_stg2_0) fullShare (I.ST c)
        ∗ owns (c : Thread nD τ) (Memref.whole cc0_stg3_0) fullShare (I.OF c)
        ∗ (∃ X, ⌜Placed I c 4 X⌝ ∗ owns (c : Thread nD τ) (Memref.whole cc0_stg4_0) fullShare X))
  simp only [before_x I V h c, before_ls I V h c, before_st I V h c, before_of I V h c, owns_pt]
  unfold opened scratch
  iintro ⟨⟨⟨⟨%K, He, Hat, Hats, Htok⟩, HcB, HcV, Hl⟩, Hxs, Hrb⟩, HO, ⟨%_, Hx⟩, ⟨%_, Hls⟩, ⟨%_, Hst⟩, ⟨%_, Hof⟩, ⟨%Y, -, Ho⟩⟩
  ihave HO' := (owes_out I V _ (O₀ c) (owed_first I V c)) $$ HO
  icases HO' with ⟨%W, HO⟩
  iapply (talkRun I K c W _ _ _ _ _ _ _ _)
  isplitr []
  · unfold talkPre
    isplitl [He]; · iexact He
    isplitl [Hat]; · iexact Hat
    isplitl [Hats]; · iexact Hats
    isplitl [Htok]; · iexact Htok
    isplitl [HcB]; · iexact HcB
    isplitl [HcV]; · iexact HcV
    isplitl [Hx]; · iexact Hx
    isplitl [Hls]; · iexact Hls
    isplitl [Hst]; · iexact Hst
    isplitl [Hof]; · iexact Hof
    isplitl [Ho]; · iexists Y; iexact Ho
    isplitl [Hxs]; · iexact Hxs
    isplitl [Hrb]; · iexact Hrb
    isplitl [Hl]; · iexact Hl
    iexact HO
  unfold talkPost idle
  iintro ⟨Hb, Hs, Hl, Hx, Hls, Hst, Hof, ⟨%f, %hf, Ho⟩, Hxs, Hrb, ⟨%W', HO⟩⟩
  isplitl [Hb Hs Hl Hxs Hrb]
  · isplitl [Hb]; · iexact Hb
    isplitl [Hs Hl]
    · isplitl [Hs]; · iexact Hs
      iexact Hl
    isplitl [Hxs]; · iexact Hxs
    iexact Hrb
  isplitl [HO]; · iapply (owes_in I V _ 0 (owed_succ I V c) W'); iexact HO
  isplitl [Hx]; · iexact Hx
  isplitl [Hls]; · iexact Hls
  isplitl [Hst]; · iexact Hst
  isplitl [Hof]; · iexact Hof
  iexists f
  isplitr; · ipureintro; exact hf
  iexact Ho

/-! ## What the arrays hold afterwards -/

/-- The valuation after the call, with the result's contents put in. -/
def withOut (c : Dev nD) (f : S5248x8x128.Idx → Elt F .bf16) : Valuation τ sig (Elt F) :=
  Function.update (V c) (Proc.devRef .tc main_v38) f

theorem whole4 : (cfg0.win 4).WholeAt t0_0 := by decide +kernel

theorem arr_out (c : Dev nD) {G : Buf (Elt F) (((cfg0.win 4).arr.view.loc (c : Thread nD τ)))}
    (hG : (rdat0 I V c).ArrAt (4 : Fin 5) cfg0.N G) : Placed I c 4 (show S5248x8x128.Idx → Elt F .bf16 from G) := by
  obtain ⟨X, hX, hA⟩ := Pipeline.RDat.ArrAt.emb_eq_of_wholeAt (rd := rdat0 I V c) (w := (4 : Fin cfg0.W)) (t₀ := t0_0) hG whole4
  have hP : Placed I c 4 X := (dat0 I V c).toRRel_leaves (fgt := fgt0) (Rl := fun w _ X => Rl0 I c w X) (w := (4 : Fin 5)) (by decide) hX
  have e : (show S5248x8x128.Idx → Elt F .bf16 from G) = X := funext fun j => hA j
  rw [e]; exact hP

theorem arr_in (c : Dev nD) (w : Fin 5) (hw : w ≠ 4) {G : Buf (Elt F) (((cfg0.win w).arr.view.loc (c : Thread nD τ)))}
    (hG : (rdat0 I V c).ArrAt w cfg0.N G) : G = V c (Proc.devRef .tc (Pipeline.arrRef spec0 w)) := by
  have hin : (cfg0.win w).isOut = false := (by decide : ∀ w : Fin 5, w ≠ 4 → (cfg0.win w).isOut = false) w hw
  rw [(rdat0 I V c).ArrAt_in w hin cfg0.N] at hG
  exact hG

theorem arr_all (c : Dev nD) {G : (w : Fin 5) → Buf (Elt F) (((cfg0.win w).arr.view.loc (c : Thread nD τ)))}
    (hG : ∀ w, (rdat0 I V c).ArrAt w cfg0.N (G w)) (w : Fin 5) :
    G w = withOut V c (G 4) (Proc.devRef .tc (Pipeline.arrRef spec0 w)) := by
  unfold withOut
  by_cases hw : w = 4
  · subst hw; exact (Function.update_self (Proc.devRef .tc main_v38 : DevRef τ sig) (G 4) (V c)).symm
  · rw [arr_in I V c w hw (hG w)]
    exact (Function.update_of_ne (by revert w; decide) _ _).symm

/-! ## The region -/

abbrev adm0 : (p : Fin 1) → (pcfgs (F := F) p).Adm := fun p => (cfgs p).toPCfg_adm
def pdats : (p : Fin 1) → (c : Dev nD) → Dat τ (Elt F) Unit ℕ UU ℕ (Pipeline.pin (pcfgs (F := F)) adm0 p) c := fun _ c => dat0 I V c
def rdats : (p : Fin 1) → (c : Dev nD) → RDat τ (Elt F) Unit ℕ UU ℕ (Pipeline.pin (pcfgs (F := F)) adm0 p) c := fun _ c => rdat0 I V c

theorem O₀_pos (c : Dev nD) {g : GSem nD τ sig} {u : Unit} (h : 0 < O₀ c g u) : u ∈ L g ∧ 0 < lv g u := by
  unfold O₀ owedB1 owedB2 at h
  simp only [Pi.add_apply, Finsupp.add_apply] at h
  have key : ∀ {a b : ℕ}, 0 < a + b → 0 < a ∨ 0 < b := fun h => by omega
  have bar : ∀ p : Dev nD, g = barCell p → u ∈ L g ∧ 0 < lv g u := fun p e => by
    subst e; exact ⟨by rw [L_tc]; exact Finset.mem_singleton_self _, by cases u; rw [lv_bar]; decide⟩
  rcases key h with h | h
  · rcases key h with h | h
    · rcases key h with h | h
      · obtain ⟨p, rfl⟩ := owed0_pos c h
        exact ⟨by rw [L_tc]; exact Finset.mem_singleton_self _, by cases u; rw [lv_recv]; decide⟩
      · exact bar _ (tallyAt_pos h)
    · exact bar _ (tallyAt_pos h)
  · exact bar _ (tallyAt_pos h)

/-- The levels of the staging counters are below everything owed. -/
theorem stage_level (c : Dev nD) (w : Fin 5) (s : Fin (spec0 w).nbuf) : lv ((c : Thread nD τ), .dma ((spec0 w).sem s)) () = 0 := by
  have : ∀ (w : Fin 5) (s : Fin (spec0 w).nbuf), kind ((spec0 w).sem s) = none := by decide
  dsimp only [lv]; rw [this w s]

theorem waits0 (c : Dev nD) : (levAts L lv : sProp 𝕄) ⊢ Pipeline.RDat.cellsWaits (Pipeline.pin (pcfgs (F := F)) adm0) (rdats I V) () 0 c :=
  Pipeline.RDat.cellsWaits_intro (Pipeline.pin (pcfgs (F := F)) adm0) (rdats I V) () 0 c fun w s t =>
    MayOwe.of_cut 0 (fun q hq => by rw [Finset.mem_singleton.mp hq, L_tc]; exact Finset.mem_singleton_self _)
      (fun g u hg => by
        have e : (dat0 I V c).owed t = if t.val = 0 then O₀ c else 0 := rfl
        replace hg : 0 < (dat0 I V c).owed t g u := hg
        rw [e] at hg
        split at hg
        · exact (O₀_pos c hg).1
        · exact absurd hg (Nat.lt_irrefl 0))
      (fun q hq => by rw [Finset.mem_singleton.mp hq]; exact le_of_eq (stage_level c w s))
      (fun g u hg => by
        have e : (dat0 I V c).owed t = if t.val = 0 then O₀ c else 0 := rfl
        replace hg : 0 < (dat0 I V c).owed t g u := hg
        rw [e] at hg
        split at hg
        · exact (O₀_pos c hg).2
        · exact absurd hg (Nat.lt_irrefl 0))

theorem share0 (c : Dev nD) (w : Fin 5) : (dat0 I V c).share w = fullShare := by
  unfold Dat.share; split <;> rfl
theorem arrs_sub : Pipeline.arrRefs (τ := τ) spec0 ⊆ Pipeline.ucRefs τ sig := Pipeline.arrRefs_sub_ucRefs spec0 (by decide)

/-- The thread states around the call: every buffer of the program, with what rides beside. -/
def before0 (c : Dev nD) : sProp 𝕄 := iprop(start I c ∗ ∃ W, owes (c : Thread nD τ) (O₀ c) W)
def after0 (c : Dev nD) : sProp 𝕄 := iprop(semVal (barCell c) 0 ∗ ∃ W, owes (c : Thread nD τ) (0 : CellTallies nD τ sig Unit) W)
/-- The results that may come out. -/
abbrev Outcome (c : Dev nD) : Type := {f : S5248x8x128.Idx → Elt F .bf16 // Placed I c 4 f}

set_option backward.isDefEq.respectTransparency.types false in
def region (h : Fits I V) : Pipeline.RDat.RegionSeg (pcfgs (F := F)) adm0 (rdats I V) () defs₀ 𝒱₀ L lv 0 where
  win := (launch0.toP (Val := Elt F)).to₀.win
  block_pos := block_pos0
  stage_whole := stage_whole0
  K := CK ⊕ Unit
  osem := osem0
  ho := (by decide : Pipeline.OwnSemFacts spec0 osem0)
  hbody c := (body0 I V h c).toRRel
  hwaits c := waits0 I V c
  pre c := iprop(StableHlo.held (c : Thread nD τ) (Pipeline.ucRefs τ sig) (V c) ∗ before0 I c)
  post c := iprop((∃ γ : Outcome I c, StableHlo.held (c : Thread nD τ) (Pipeline.ucRefs τ sig) (withOut V c γ.1)) ∗ after0 c)
  X c := opened I c
  Y c := semVal (barCell c) 0
  Z c := StableHlo.held (c : Thread nD τ) (Pipeline.ucRefs τ sig \ Pipeline.arrRefs spec0) (V c)
  hentry c := by
    rw [Pipeline.prefHeld_of_none _ rfl, StableHlo.held_sub_split (c.tc : Thread nD τ) arrs_sub (V c)]
    have ha : (StableHlo.held (c : Thread nD τ) (Pipeline.arrRefs spec0) (V c) : sProp 𝕄) ⊢ (rdats I V 0 c).arrays (rdats I V 0 c).A :=
      Entails.of_eq (Pipeline.arrays_held (pcfgs (F := F)) adm0 (pdats I V) 0 launch0.toP c (share0 I V c) (dat0 I V c).A (V c) (fun _ => rfl)).symm
    unfold before0
    iintro ⟨⟨⟨Ha, Hr⟩, Hst, ⟨%W, HO⟩⟩, Hos, #Hlev⟩
    imod (open_cells I c) $$ [Hst Hos] with HX
    · isplitl [Hst]; · iexact Hst
      isplitl [Hos]; · iexact Hos
      iexact Hlev
    imodintro
    isplitl [Ha]; · iapply ha $$ Ha
    isplitr; · iempintro
    isplitl [HO]; · iapply (owes_in I V 0 (O₀ c) (owed_zero I V c) W); iexact HO
    isplitl [HX]; · iexact HX
    iexact Hr
  hin c := by
    show iprop(opened I c ∗ Pipeline.prefHeld (pcfgs (F := F) 0).pre c (fun _ => fullShare) (adm0 (F := F) 0).1 ∗ Pipeline.scopedRest spec0 c)
      ⊢ iprop(opened I c ∗ scratch c)
    rw [scopedRest0_eq]
    unfold scratch
    iintro ⟨Ho, -, Hs⟩
    isplitl [Ho]; · iexact Ho
    iexact Hs
  hout c := by
    show iprop(semVal (barCell c) 0 ∗ ((bigSep Finset.univ fun k : CK => semVal (scell c k) 0) ∗ semVal (locCell c) 0) ∗ scratch c)
      ⊢ iprop(semVal (barCell c) 0 ∗ Pipeline.ownSems0 osem0 c ∗ Pipeline.scopedRest spec0 c)
    rw [scopedRest0_eq, ownSems_eq]
    unfold scratch
    iintro ⟨Hb, Hs, Hc⟩
    isplitl [Hb]; · iexact Hb
    isplitl [Hs]; · iexact Hs
    iexact Hc
  hexit c := by
    have hgo : (rdats I V 0 c).arraysAt (Pipeline.pin (pcfgs (F := F)) adm0 0).N
        ⊢ (iprop(∃ γ : Outcome I c, StableHlo.held (c : Thread nD τ) (Pipeline.arrRefs spec0) (withOut V c γ.1)) : sProp 𝕄) := by
      refine (bigSep_exists_pi Finset.univ (fun w F => iprop(⌜(rdat0 I V c).ArrAt w cfg0.N F⌝
        ∗ ((cfg0.win w).arr.view.loc (c : Thread nD τ) ↦[(cfg0.win w).arr.view.set]{(rdat0 I V c).share w} F)))).trans ?_
      iintro ⟨%G, H⟩
      ihave H' := (bigSep_pure_sep Finset.univ (fun w => (rdat0 I V c).ArrAt w cfg0.N (G w)) _) $$ H
      icases H' with ⟨%hG, H⟩
      iexists ⟨G 4, arr_out I V c (hG 4 (Finset.mem_univ _))⟩
      have hh : (bigSep Finset.univ fun w : Fin cfg0.W =>
          ((cfg0.win w).arr.view.loc (c : Thread nD τ) ↦[(cfg0.win w).arr.view.set]{(rdat0 I V c).share w} G w : sProp 𝕄))
          ⊢ StableHlo.held (c : Thread nD τ) (Pipeline.arrRefs spec0) (withOut V c (G 4)) :=
        Entails.of_eq (Pipeline.arrays_held (pcfgs (F := F)) adm0 (pdats I V) 0 launch0.toP c (share0 I V c) G (withOut V c (G 4))
          (arr_all I V c fun w => hG w (Finset.mem_univ _)))
      iapply hh $$ H
    unfold after0
    iintro ⟨Ha, HO, Hb, Hr⟩
    ihave Ha' := hgo $$ Ha
    icases Ha' with ⟨%γ, Ha⟩
    imodintro
    isplitr [HO Hb]
    · iexists γ
      iapply (Entails.of_eq (StableHlo.held_sub_split (c.tc : Thread nD τ) arrs_sub (withOut V c γ.1)).symm)
      isplitl [Ha]; · iexact Ha
      iapply (Entails.of_eq (StableHlo.held_congr (c.tc : Thread nD τ) (V := V c) (V' := withOut V c γ.1) fun b hb => by
        unfold withOut
        refine (Function.update_of_ne ?_ _ _).symm
        rintro rfl
        exact (Finset.mem_sdiff.mp hb).2 (by decide)))
      iexact Hr
    isplitl [Hb]; · iexact Hb
    iapply (owes_out I V (Fin.last _) 0 (owed_last I V c)); iexact HO

end Cert.Proof.Talk

end
-- ==== Proof.Run.lean ====
/-
  The launch: the ghost state is made and dealt out, the program's items are run one after the other.
-/
module

public import proofs.«01_k».proof.Proof.Region
public import Idealize.ShloMosaic.Lib.Pipeline.RegionsOwned

@[expose] public section

noncomputable section

namespace Cert.Proof.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

open Idealize.ShloMosaic.Pipeline (Dat RDat HostSeg)

/-! ## The cells and the tokens -/

theorem csem_inj : Function.Injective csem := by decide
theorem csem_ne_bar : ∀ k : CK, csem k ≠ .reg barS := by decide

def barEmb : Dev nD ↪ GSem nD τ sig := ⟨fun c => barCell c, fun _ _ h => congrArg (fun g : GSem nD τ sig => g.1.1) h⟩
def scEmb : Dev nD × CK ↪ GSem nD τ sig :=
  ⟨fun p => scell p.1 p.2, fun _ _ h => Prod.ext (congrArg (fun g : GSem nD τ sig => g.1.1) h) (csem_inj (congrArg Prod.snd h))⟩
/-- The barrier cells run from the launch on; the scoped ones wait until the call opens them. -/
abbrev barCells : Finset (GSem nD τ sig) := Finset.univ.map barEmb
abbrev scCells : Finset (GSem nD τ sig) := Finset.univ.map scEmb

theorem cells_disjoint : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact csem_ne_bar p.2 (congrArg Prod.snd h)

/-- The payments of device `c` that concern its peer number `o`: its unit to the peer's barrier, the window given back
    to its own send counter, the piece to the peer's receive counter. -/
def payOf (c : Dev nD) (o : Fin 3) : Fin 3 → GSem nD τ sig × ℕ × Dev nD
  | 0 => (barCell (peer c o), 0, c)
  | 1 => (sendCell c (peer c o), 0, peer c o)
  | 2 => (recvCell (peer c o) c, 0, c)

theorem payOf_inj : Function.Injective fun x : Dev nD × Fin 3 × Fin 3 => payOf x.1 x.2.1 x.2.2 := by
  have sem : ∀ (x y : Dev nD × Fin 3 × Fin 3), (payOf x.1 x.2.1 x.2.2).1.1.1 = (payOf y.1 y.2.1 y.2.2).1.1.1 →
      (payOf x.1 x.2.1 x.2.2).1.2 = (payOf y.1 y.2.1 y.2.2).1.2 → (payOf x.1 x.2.1 x.2.2).2.2 = (payOf y.1 y.2.1 y.2.2).2.2 → x = y := by
    decide +kernel
  intro x y h
  exact sem x y (congrArg (fun t : GSem nD τ sig × ℕ × Dev nD => t.1.1.1) h) (congrArg (fun t : GSem nD τ sig × ℕ × Dev nD => t.1.2) h)
    (congrArg (fun t : GSem nD τ sig × ℕ × Dev nD => t.2.2) h)
def payToks : Finset (GSem nD τ sig × ℕ × Dev nD) := Finset.univ.map ⟨_, payOf_inj⟩

theorem fin3 (Φ : Fin 3 → sProp 𝕄) : bigSep Finset.univ Φ = iprop(Φ 0 ∗ Φ 1 ∗ Φ 2) :=
  bigSep_univ_eq_bigSepL [(0 : Fin 3), 1, 2] (by decide) (by decide) Φ

theorem toks_eq : bigSep payToks (fun x => (dutyTok ER x.1 x.2.1 x.2.2 : sProp 𝕄))
    = bigSep Finset.univ fun c : Dev nD => bigSep (Finset.univ.erase c) (toks (F := F) c) := by
  unfold payToks
  rw [bigSep_map, bigSep_univ_prod]
  refine bigSep_congr fun c _ => ?_
  rw [bigSep_univ_prod, fin3, others c]
  simp only [fin3]
  rfl

/-! ## The credits -/

theorem O₀_bar (d c : Dev nD) : O₀ d (barCell c) () = if d = c then 0 else 1 := by
  have hr : ∀ p s : Dev nD, (barCell c : GSem nD τ sig) ≠ recvCell p s := fun p s h => absurd (congrArg Prod.snd h) (by simp)
  have hb : ∀ p : Dev nD, (barCell c : GSem nD τ sig) = barCell p ↔ c = p := fun p => ⟨fun h => congrArg (fun g : GSem nD τ sig => g.1.1) h, fun h => by rw [h]⟩
  unfold O₀ owedB1 owedB2 owed0 owed1 owed2 owed3
  simp only [Pi.add_apply, Finsupp.add_apply, tallyAt_apply, hr, hb, _root_.false_and, if_false, _root_.and_true, Pi.zero_apply, Finsupp.zero_apply]
  revert d c; decide
theorem recvS_inj : Function.Injective recvS := by decide
theorem O₀_recv (d c s : Dev nD) : O₀ d (recvCell c s) () = if d = s ∧ s ≠ c then N else 0 := by
  have hb : ∀ p : Dev nD, (recvCell c s : GSem nD τ sig) ≠ barCell p := fun p h => absurd (congrArg Prod.snd h) (by simp)
  have hr : ∀ p d : Dev nD, (recvCell c s : GSem nD τ sig) = recvCell p d ↔ c = p ∧ s = d := fun p d =>
    ⟨fun h => ⟨congrArg (fun g : GSem nD τ sig => g.1.1) h, recvS_inj (SemLoc.dma.inj (congrArg Prod.snd h))⟩, fun h => by rw [h.1, h.2]⟩
  unfold O₀ owedB1 owedB2 owed0 owed1 owed2 owed3
  simp only [Pi.add_apply, Finsupp.add_apply, tallyAt_apply, hr, hb, _root_.false_and, if_false, _root_.and_true, Pi.zero_apply, Finsupp.zero_apply]
  generalize (N : ℕ) = n
  have key : ∀ d c s : Dev nD, (if c = peer d 2 ∧ s = d then 1 else 0) + (if c = peer d 1 ∧ s = d then 1 else 0) + (if c = peer d 0 ∧ s = d then 1 else 0)
      = if d = s ∧ s ≠ c then 1 else 0 := by decide
  have := congrArg (· * n) (key d c s)
  simpa only [add_mul, ite_mul, one_mul, zero_mul, zero_add, add_zero] using this

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c]
  revert c; decide
theorem credit_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => O₀_recv d c s]
  simp only [h, ne_eq, not_false_eq_true, and_true]
  rw [Finset.sum_ite_eq' Finset.univ s fun _ => N, if_pos (Finset.mem_univ _)]

def recvEmb : Dev nD ↪ SemLoc sig := ⟨fun s => .dma (recvS s), by decide⟩

theorem creds (c : Dev nD) : (Pipeline.launchCred O₀ c : sProp 𝕄)
    ⊢ iprop(cred (tallyAt (barCell c) () 3) ∗ bigSep (Finset.univ.erase c) fun s => cred (tallyAt (recvCell c s) () N)) := by
  unfold Pipeline.launchCred
  rw [bigSep_univ_at _ (SemLoc.reg barS), credit_bar]
  refine sep_mono_right ?_
  have hsub : (Finset.univ.erase c).map recvEmb ⊆ (Finset.univ.erase (SemLoc.reg barS) : Finset (SemLoc sig)) := fun x hx => by
    obtain ⟨s, -, rfl⟩ := Finset.mem_map.mp hx
    exact Finset.mem_erase.mpr ⟨by intro h; exact absurd h (by simp [recvEmb]), Finset.mem_univ _⟩
  refine (bigSep_subset hsub).trans ?_
  rw [bigSep_map]
  exact bigSep_mono fun s hs => by
    show (cred (tallyOn (recvCell c s) (launchCredit (Pipeline.owing O₀) 0 (recvCell c s))) : sProp 𝕄) ⊢ _
    rw [credit_recv c s (Finset.ne_of_mem_erase hs)]

/-! ## The launch element -/

def u₀ : UU :=
  (initOf (Pipeline.cells (Pipeline.pin (pcfgs (F := F)) adm0) cellOf_inj) (Pipeline.launchToks (Pipeline.pin (pcfgs (F := F)) adm0) cellOf_inj),
    (launchOf barCells scCells payToks, 1))

/-- A resource kept by device `c₀`. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [fromMe c₀]
  unfold onDev
  rw [if_pos rfl, if_neg (peer_ne c₀ 0), if_neg (peer_ne c₀ 1), if_neg (peer_ne c₀ 2)]
  have h₁ : (iprop(X ∗ emp ∗ emp ∗ emp) : sProp 𝕄) ⊢ X := by iintro ⟨H, -, -, -⟩; iexact H
  have h₂ : (X : sProp 𝕄) ⊢ iprop(X ∗ emp ∗ emp ∗ emp) := by
    iintro H
    isplitl [H]; · iexact H
    isplitr; · iempintro
    isplitr; · iempintro
    iempintro
  exact BI.equiv_iff.mp ⟨h₁, h₂⟩
def G₀ : Dev nD → sProp 𝕄 := onDev 0 (BI.own (ER (launchOf barCells scCells payToks)))

theorem fund : (ownU (u₀ (F := F)) : sProp 𝕄)
    ⊢ |={Set.univ}=> iprop(BI.own (EP (initOf (Pipeline.cells (Pipeline.pin (pcfgs (F := F)) adm0) cellOf_inj) (Pipeline.launchToks (Pipeline.pin (pcfgs (F := F)) adm0) cellOf_inj)))
      ∗ bigSep Finset.univ G₀) := by
  unfold u₀ G₀
  rw [bigSep_onDev]
  iintro Hu
  ihave H := (ownU_pair _ _) $$ Hu
  icases H with ⟨HP, HX⟩
  imodintro
  isplitl [HP]; · iexact HP
  unfold ER
  iexact HX

/-! ## The start -/

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

/-- What a device keeps of the ghost state. -/
def own₀ (c : Dev nD) : sProp 𝕄 :=
  iprop(atPos ER (barCell c) 0 ∅ 0 ∗ (bigSep Finset.univ fun k : CK => openTok ER (scell c k)) ∗ bigSep (Finset.univ.erase c) (toks c))

theorem start_intro (κ : GSem nD τ sig → ℕ) (c : Dev nD) :
    iprop((invs I κ ∗ bars) ∗ (own₀ c ∗ (cred (tallyAt (barCell c) () 3) ∗ bigSep (Finset.univ.erase c) fun s => cred (tallyAt (recvCell c s) () N))
        ∗ owes (c : Thread nD τ) (O₀ c) ∅))
      ⊢ (before0 I c : sProp 𝕄) := by
  unfold own₀ before0 start
  iintro ⟨⟨#Hi, #Hb⟩, ⟨Hat, Hop, Ht⟩, ⟨HcB, HcV⟩, HO⟩
  isplitr [HO]
  · isplitl [Hat Hop Ht]
    · iexists κ
      isplitr; · iexact Hi
      isplitr; · iexact Hb
      isplitl [Hat]; · iexact Hat
      isplitl [Hop]; · iexact Hop
      iexact Ht
    isplitl [HcB]; · iexact HcB
    iexact HcV
  iexists ∅; iexact HO

variable (ρ : Dev nD → PrngReg)

theorem make_start :
    iprop((bigSep Finset.univ fun c : Dev nD => iprop(unscopedSems0 c ∗ owes (c : Thread nD τ) (O₀ c) ∅ ∗ Pipeline.launchCred O₀ c ∗ prngReg c (ρ c) ∗ G₀ c)) ∗ levAts L lv)
      ⊢ (|={Set.univ}=> bigSep Finset.univ (before0 I) : sProp 𝕄) := by
  have hcore (c : Dev nD) : iprop(unscopedSems0 c ∗ owes (c : Thread nD τ) (O₀ c) ∅ ∗ Pipeline.launchCred O₀ c ∗ prngReg c (ρ c) ∗ G₀ c)
      ⊢ (iprop(((cred (tallyAt (barCell c) () 3) ∗ bigSep (Finset.univ.erase c) fun s => cred (tallyAt (recvCell c s) () N))
          ∗ owes (c : Thread nD τ) (O₀ c) ∅) ∗ (semVal (barCell c) 0 ∗ G₀ c)) : sProp 𝕄) := by
    rw [unscopedSems_eq]
    iintro ⟨Hus, HO, Hcr, -, HG⟩
    ihave Hc := (creds (F := F) c) $$ Hcr
    isplitl [Hc HO]
    · isplitl [Hc]; · iexact Hc
      iexact HO
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bars :=
    Entails.of_eq (bigSep_map (s := Finset.univ) barEmb (Φ := fun g : GSem nD τ sig => (reached ER g 0 : sProp 𝕄)))
  have hop : bigSep scCells (fun g => (openTok ER g : sProp 𝕄))
      ⊢ bigSep Finset.univ (fun c : Dev nD => bigSep Finset.univ fun k : CK => openTok ER (scell c k)) :=
    Entails.of_eq (by rw [bigSep_map, bigSep_univ_prod]; rfl)
  have hinv (κ : GSem nD τ sig → ℕ) : bigSep (barCells ∪ scCells) (fun g => (cellInv ER (exRd I) (κ g) g : sProp 𝕄)) ⊢ invs I κ :=
    Entails.of_eq (by rw [bigSep_union cells_disjoint, bigSep_map, bigSep_map]; rfl)
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G₀ c))
      ⊢ (bigSep Finset.univ fun c : Dev nD => iprop(((cred (tallyAt (barCell c) () 3) ∗ bigSep (Finset.univ.erase c) fun s => cred (tallyAt (recvCell c s) () N))
          ∗ owes (c : Thread nD τ) (O₀ c) ∅) ∗ (semVal (barCell c) 0 ∗ G₀ c)) : sProp 𝕄) from bigSep_mono fun c _ => hcore c) $$ H
  ihave H2 := unpair $$ H'; icases H2 with ⟨HB, H3⟩
  ihave H4 := unpair $$ H3; icases H4 with ⟨Hv, HG⟩
  ihave Hu := (show bigSep Finset.univ (G₀ (F := F)) ⊢ BI.own (ER (launchOf barCells scCells payToks)) from
    Entails.of_eq (bigSep_onDev (F := F) 0 (BI.own (ER (launchOf barCells scCells payToks))))) $$ HG
  imod (Rounds.fund_launch ER (exRd I) cells_disjoint (fun g _ h => h) payToks) $$ [Hv Hu] with ⟨%κ, -, #Hinv, #Hr, Hat, Hopen, Htok⟩
  · isplitl [Hv]
    · iapply hv $$ Hv
    · iexact Hu
  imodintro
  iapply (bigSep_with_persistent (R := iprop(invs I κ ∗ bars)) (Φ := fun c : Dev nD => iprop(own₀ c
    ∗ (cred (tallyAt (barCell c) () 3) ∗ bigSep (Finset.univ.erase c) fun s => cred (tallyAt (recvCell c s) () N))
    ∗ owes (c : Thread nD τ) (O₀ c) ∅)) fun c _ => start_intro I κ c)
  isplitr
  · isplitr; · iapply (hinv κ); iexact Hinv
    iapply hre; iexact Hr
  iapply unite
  isplitr [HB]
  · unfold own₀
    iapply unite; isplitl [Hat]; · iapply hat $$ Hat
    iapply unite; isplitl [Hopen]; · iapply hop $$ Hopen
    iapply (Entails.of_eq (toks_eq (F := F))) $$ Htok
  · iexact HB

/-! ## The program -/

variable (m : (ℓ : Loc nD τ sig) → Buf (Elt F) ℓ) [∀ e, Nonempty (Elt F e)]

/-- What rides beside the buffers before the call and after it. -/
def side : Fin 2 → Dev nD → sProp 𝕄 | 0 => before0 I | 1 => after0

/-- What follows the call, from whichever result came out. -/
def tail0 : HostSeg (Ix := Unit) (Name := ℕ) (U := UU) (Lvl := ℕ) (pcfgs (F := F)) defs₀ 𝒱₀ L lv :=
  HostSeg.ofOpsEx _ _ _ _ _ (Γ := Outcome I) (Pipeline.ucRefs τ sig) hostOps1
    (fun op h => Pipeline.sub_ucRefs op ((List.forall_iff_forall_mem.mp hostOps1_sub) op h))
    (fun op h => (List.forall_iff_forall_mem.mp hostOps1_fresh) op h) (fun c γ => withOut (V7 m) c γ.1) after0

def items (h : Fits I (V7 m)) (c : Dev nD) : List (RDat.Seg (pcfgs (F := F)) adm0 (rdats I (V7 m)) () defs₀ 𝒱₀ L lv) :=
  [.host (seg0 m 𝒱₀ L lv (side I) c), .host (seg1 m 𝒱₀ L lv (side I)), .host (seg2 m 𝒱₀ L lv (side I)), .host (seg3 m 𝒱₀ L lv (side I)),
    .host (seg4 m 𝒱₀ L lv (side I)), .host (seg5 m 𝒱₀ L lv (side I)), .host (seg6 m 𝒱₀ L lv (side I)),
    .region (region I (V7 m) h), .host (tail0 I m)]

theorem pipes_items (h : Fits I (V7 m)) (c : Dev nD) : (RDat.Seg.pipes (items I m h c)).Nodup := by
  simp only [items, RDat.Seg.pipes_host, RDat.Seg.pipes_region, RDat.Seg.pipes_nil]; decide

/-- The last valuation. -/
def last (c : Dev nD) (f : S5248x8x128.Idx → Elt F .bf16) : Valuation τ sig (Elt F) := StableHlo.after hostOps1 (withOut (V7 m) c f)

theorem last_arg0 (c : Dev nD) (f) : last m c f (Proc.devRef .tc main_arg0) = m ((c : Thread nD τ).loc main_arg0) :=
  V9_main_arg0 m (fun _ r c' => Function.update (β := fun r : Ref sig .tc => Buf (Elt F) ((c' : Thread nD τ).loc r)) (fun r => V7 m c' (Proc.devRef .tc r)) main_v38 f r) c
theorem last_arg1 (c : Dev nD) (f) : last m c f (Proc.devRef .tc main_arg1) = m ((c : Thread nD τ).loc main_arg1) :=
  V9_main_arg1 m (fun _ r c' => Function.update (β := fun r : Ref sig .tc => Buf (Elt F) ((c' : Thread nD τ).loc r)) (fun r => V7 m c' (Proc.devRef .tc r)) main_v38 f r) c

/-- What a device ends with. -/
def end0 (c : Dev nD) : sProp 𝕄 :=
  iprop((∃ γ : Outcome I c, StableHlo.held (c : Thread nD τ) (Pipeline.ucRefs τ sig) (last m c γ.1)) ∗ semVal (barCell c) 0)

theorem mem_uc (b : Ref sig .tc) (h : b.isScoped = false) : Proc.devRef .tc b ∈ Pipeline.ucRefs τ sig :=
  Finset.mem_filter.mpr ⟨StableHlo.devRef_mem_tcRefs b, by rw [show (Proc.devRef .tc b : DevRef τ sig).isScoped = b.isScoped from rfl, h]; decide⟩

set_option backward.isDefEq.respectTransparency.types false in
set_option maxHeartbeats 1000000 in
/-- From any memory with zero counters every weakly fair execution on the four devices ends; the arguments are
    unchanged, the result is what the last host operations make of some outcome of the exchange, and every counter
    is at zero. -/
theorem run_main (h : Fits I (V7 m)) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ ∃ f : S5248x8x128.Idx → Elt F .bf16, Placed I c 4 f ∧ r.2.mem ((c : Thread nD τ).loc main_v41) = last m c f (Proc.devRef .tc main_v41))
      ∧ r.2.sem = fun _ => 0) :=
  Pipeline.RDat.θ_run_regions_kit_dev_sems (pcfgs (F := F)) adm0 (rdats I (V7 m)) () cellOf_inj EP defs₀ 𝒱₀ L lv m ρ main (items I m h)
    (fun c Q => by
      rewrite [main_chain c, RDat.Seg.run_eq_chain,
        show (items I m h c).map RDat.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1 ] from rfl]
      dsimp (config := { failIfUnchanged := false }) only
      exact .rfl)
    (pipes_items I m h) O₀ L_of_ne G₀ u₀ fund
    (T₀ := fun c => iprop(StableHlo.held (c : Thread nD τ) (Pipeline.ucRefs τ sig) (V0 m c) ∗ before0 I c))
    (Tₙ := end0 I m)
    (hch := fun c => by
      refine ⟨.rfl, .rfl, .rfl, .rfl, .rfl, .rfl, .rfl, .rfl, .rfl, ?_⟩
      show iprop((∃ γ : Outcome I c, StableHlo.held (c : Thread nD τ) (Pipeline.ucRefs τ sig) (last m c γ.1)) ∗ after0 c)
        ⊢ iprop(end0 I m c ∗ ∃ W, owes (c : Thread nD τ) (0 : CellTallies nD τ sig Unit) W)
      unfold after0 end0
      iintro ⟨Hh, Hb, HO⟩
      isplitr [HO]
      · isplitl [Hh]; · iexact Hh
        iexact Hb
      iexact HO)
    (hinit := by
      have hsplit : (bigSep Finset.univ fun c : Dev nD => iprop(unscopedBufs c (fun b => m ((c.tc : Thread nD τ).loc b)) ∗ unscopedSems0 c
            ∗ owes (c.tc : Thread nD τ) (O₀ c) ∅ ∗ Pipeline.launchCred O₀ c ∗ prngReg c (ρ c) ∗ G₀ c))
          ⊢ (iprop((bigSep Finset.univ fun c : Dev nD => StableHlo.held (c : Thread nD τ) (Pipeline.ucRefs τ sig) (V0 m c))
              ∗ bigSep Finset.univ fun c : Dev nD => iprop(unscopedSems0 c ∗ owes (c : Thread nD τ) (O₀ c) ∅ ∗ Pipeline.launchCred O₀ c ∗ prngReg c (ρ c) ∗ G₀ c))
              : sProp 𝕄) := by
        rw [← bigSep_sep']
        exact bigSep_mono fun c _ => by rw [← Pipeline.unscopedBufs_held (Ix := Unit) (Name := ℕ) (U := UU) (Lvl := ℕ) c (V0 m c)]; exact BI.Entails.refl _
      iintro ⟨H, Hla⟩
      ihave H' := hsplit $$ H
      icases H' with ⟨Hh, Hr⟩
      imod (make_start I ρ) $$ [Hr Hla] with HE
      · isplitl [Hr]; · iexact Hr
        iexact Hla
      imodintro
      iapply unite
      isplitl [Hh]; · iexact Hh
      iexact HE)
    (QY := fun c s => (s.mem ((c : Thread nD τ).loc main_arg0) = m ((c : Thread nD τ).loc main_arg0)
        ∧ s.mem ((c : Thread nD τ).loc main_arg1) = m ((c : Thread nD τ).loc main_arg1)
        ∧ ∃ f : S5248x8x128.Idx → Elt F .bf16, Placed I c 4 f ∧ s.mem ((c : Thread nD τ).loc main_v41) = last m c f (Proc.devRef .tc main_v41))
      ∧ s.sem (barCell c) = 0)
    (hfin := fun c s' => by
      unfold end0 StableHlo.held
      iintro ⟨⟨⟨%γ, Hh⟩, Hb⟩, HSI⟩
      icombine HSI Hb gives %hb
      ihave Hr := (pointsTo_read_all (Pipeline.ucRefs τ sig) (fun b => ((c : Thread nD τ).1, b)) (last m c γ.1) s') $$ [Hh HSI]
      · isplitl [Hh] <;> iassumption
      icases Hr with ⟨%hr, HSI⟩
      imodintro
      isplitr
      · ipureintro
        exact ⟨⟨(hr (Proc.devRef .tc main_arg0) (mem_uc main_arg0 rfl)).trans (last_arg0 m c γ.1),
          (hr (Proc.devRef .tc main_arg1) (mem_uc main_arg1 rfl)).trans (last_arg1 m c γ.1),
          γ.1, γ.2, hr (Proc.devRef .tc main_v41) (mem_uc main_v41 rfl)⟩, by simpa using hb⟩
      iexact HSI)
    (hQ := fun s h hs => ⟨fun c => (h c).1, sem_eq_zero hs fun c sm hsm => by
      obtain rfl := unscoped_eq sm hsm
      exact (h c).2⟩)

end Cert.Proof.Talk

end
-- ==== Proof.Precond.lean ====
/-
  The precondition, as numbers: how many rows of each block are bound for each rank.
-/
module

public import proofs.«01_k».proof.Proof.Words
public import proofs.«01_k».proof.Defs

@[expose] public section

noncomputable section

namespace Cert.Proof.Precond

open Idealize.ShloMosaic
open Idealize.ShloMosaic.Routing Idealize.ShloMosaic.ValueIdx
open Idealize.ShloMosaic.StableHlo.Predicate (cmpi_eq_iff sle_iff_toNat)
open Cert.Proof.Order Cert.Proof.Words

variable {F : FTy → Type} [FloatOps F]

theorem and_bits : ∀ a b : BitVec 1, a &&& b = 1#1 → a = 1#1 ∧ b = 1#1 := by decide

theorem word_toNat {n : ℕ} (h : n < 2 ^ 32) : (BitVec.ofNat 32 n).toNat = n := by
  rw [BitVec.toNat_ofNat]; exact Nat.mod_eq_of_lt h

/-- The precondition says that every rank gets 4096 rows and no block holds more than 1152 rows of one rank. -/
theorem of_fits [Cert.Pre_fits_Kernel.Facts] (x : (shape2 4096 1024).Idx → F .bf16) (D : IVec (shape1 16384) 32)
    (h : Cert.Pre_fits_Kernel.fn (F := F) x D = fun _ => 1#1) :
    Order.Even (dest D) ∧ ∀ s r : Fin 4, cnt (dest D) s.val r.val ≤ 1152 := by
  have key : ∀ s r : Fin 4, cnt (dest D) s.val r.val ≤ 1152 ∧ off (dest D) r.val 4 = 4096 := fun s r => by
    have hc := cnt_le (dest D) s.val r.val
    obtain ⟨h1, h2⟩ := and_bits _ _ (congrFun h (ix2 s r))
    constructor
    · have h1' : IntOp.cmpi .sle (table D _ _ _ _ _ _ _ _ (ix2 s r)) (1152#32) = 1#1 := h1
      rw [table_at] at h1'
      have := (sle_iff_toNat (by rw [word_toNat] <;> omega) (by decide)).mp h1'
      rw [word_toNat (by omega)] at this
      exact this
    · rw [bcCols] at h2
      have h2' : IntOp.cmpi .eq (Host.reduce IntOp.addi (table D _ _ _ _ _ _ _ _) (constantI shape0 32 0#32) _ _ (ix1 r)) (4096#32) = 1#1 := h2
      rw [column_at, cmpi_eq_iff] at h2'
      have e := congrArg BitVec.toNat h2'
      have ho : off (dest D) r.val 4 ≤ 16384 := by
        have := cnt_le (dest D)
        simp only [off, List.range_succ, List.range_zero, List.map_append, List.sum_append, List.map_cons, List.map_nil, List.sum_cons, List.sum_nil,
          List.nil_append]
        have a := this 0 r.val; have b := this 1 r.val; have c := this 2 r.val; have d := this 3 r.val
        omega
      rw [word_toNat (by omega)] at e
      exact e
  exact ⟨fun r hr => (key 0 ⟨r, hr⟩).2, fun s r => (key s r).1⟩

end Cert.Proof.Precond

end
-- ==== Proof.Given.lean ====
/-
  What the host operations hand the kernel, under the precondition: every window lies inside its array.
-/
module

public import proofs.«01_k».proof.Proof.Host
public import proofs.«01_k».proof.Proof.Run
public import proofs.«01_k».proof.Proof.Precond

@[expose] public section

noncomputable section

namespace Cert.Proof.Given

open Cert.KernelIdeal Cert.KernelIdeal.Gen
open Idealize.ShloMosaic hiding ix1 ix2 ix3 eq_ix1 eq_ix2 eq_ix3
open Idealize.ShloMosaic.TcCoe
open Idealize.ShloMosaic.Routing Idealize.ShloMosaic.ValueIdx
open Cert.Proof.Order Cert.Proof.Words Cert.Proof.Talk Cert.Proof.Precond

variable {F : FTy → Type} [FloatOps F]

variable (m : (ℓ : Loc nD τ sig) → Buf (Elt F) ℓ)

/-- The precondition as numbers, on every device. -/
def Good : Prop := ∀ c : Dev nD, Order.Even (dest (Host.D m c)) ∧ ∀ s r : Fin 4, cnt (dest (Host.D m c)) s.val r.val ≤ 1152

variable {m}

theorem order_toNat (h : Good m) (c : Dev nD) (k : Fin 4096) :
    (V7 m c (Proc.devRef .tc main_v36) (ix1 k)).toNat
      = (sortedFrom (fun a b : Fin 4096 => decide (dest (Host.D m c) (4096 * c.val + a.val) < dest (Host.D m c) (4096 * c.val + b.val))) k).val := by
  rw [Host.v36 m c (key_lt _ (h c).1) k]
  exact word_toNat (lt_trans (Fin.isLt _) (by decide))
theorem start_toNat (c : Dev nD) (r : Fin 4) :
    (V7 m c (Proc.devRef .tc main_v32) (ix1 r)).toNat = start (dest (Host.D m c)) c.val r.val := by
  rw [Host.v32 m c r]
  exact word_toNat (lt_of_le_of_lt (start_le _ _ _) (by decide))
theorem off_toNat (h : Good m) (c : Dev nD) (s : Fin 4) :
    (V7 m c (Proc.devRef .tc main_v35) (ix1 s)).toNat = off (dest (Host.D m c)) c.val s.val := by
  rw [Host.v35 m c s]
  exact word_toNat (lt_of_le_of_lt (off_le _ (h c).1 _ _ c.isLt s.isLt.le) (by decide))

/-- What buffers of contents `V` hand the kernel. -/
def given (V : Dev nD → Valuation τ sig (Elt F)) (hl : ∀ c (k : Fin 4096), (V c (Proc.devRef .tc main_v36) (ix1 k)).toNat < 4096)
    (hs : ∀ c (r : Fin 4), (V c (Proc.devRef .tc main_v32) (ix1 r)).toNat ≤ 4096)
    (ho : ∀ c (r : Fin 4), (V c (Proc.devRef .tc main_v35) (ix1 r)).toNat ≤ 4096) : Inp F where
  X c := V c (Proc.devRef .tc main_v37)
  LS c := V c (Proc.devRef .tc main_v36)
  ST c := V c (Proc.devRef .tc main_v32)
  OF c := V c (Proc.devRef .tc main_v35)
  ls_lt c i := by rw [eq_ix1 i]; exact hl c (i 0)
  st_le c i := by rw [eq_ix1 i]; exact hs c (i 0)
  of_le c i := by rw [eq_ix1 i]; exact ho c (i 0)

theorem given_fits (V : Dev nD → Valuation τ sig (Elt F)) (hl hs ho) : Fits (given V hl hs ho) V where
  x _ := rfl
  ls _ := rfl
  st _ := rfl
  of _ := rfl

/-- What the host operations hand the kernel. -/
def inp (h : Good m) : Inp F := given (V7 m)
  (fun c k => lt_of_eq_of_lt (order_toNat h c k) (Fin.isLt _))
  (fun c r => le_of_eq_of_le (start_toNat c r) (start_le _ _ _))
  (fun c s => le_of_eq_of_le (off_toNat h c s) (off_le _ (h c).1 _ _ c.isLt s.isLt.le))

variable (h : Good m)

theorem fits : Fits (inp h) (V7 m) := given_fits ..

end Cert.Proof.Given

end
-- ==== Proof.Value.lean ====
/-
  The value of the result: what the exchange leaves in the result of each device is the device's part of the rows
  sorted by destination.
-/
module

public import proofs.«01_k».proof.Proof.Given

@[expose] public section

noncomputable section

namespace Cert.Proof.Value

open Cert.KernelIdeal Cert.KernelIdeal.Gen
open Idealize.ShloMosaic hiding ix1 ix2 ix3 eq_ix1 eq_ix2 eq_ix3
open Idealize.ShloMosaic.TcCoe
open Idealize.ShloMosaic.Routing Idealize.ShloMosaic.ValueIdx
open Cert.Proof.Order Cert.Proof.Words Cert.Proof.Talk Cert.Proof.Given

variable {F : FTy → Type} [FloatOps F] {m : (ℓ : Loc nD τ sig) → Buf (Elt F) ℓ} (h : Good m)

theorem ix_four (r : Fin 4) : i4 r = ix1 r := by
  funext a
  match a with
  | ⟨0, _⟩ => rfl

theorem st_eq (s r : Fin 4) : (inp h).st s r = start (dest (Host.D m s)) s.val r.val := by
  unfold Inp.st
  rw [ix_four]
  exact start_toNat s r
theorem of_eq (c s : Fin 4) : (inp h).of c s = off (dest (Host.D m c)) c.val s.val := by
  unfold Inp.of
  rw [ix_four]
  exact off_toNat h c s

/-- The gathered row `k` of a device is the row of its argument that the sort of its own destinations puts there. -/
theorem srt_at (s : Dev nD) (i : S5248x8x128.Idx) (k : Fin 4096) (hk : (i 0).val = k.val) (j : Fin 4096)
    (hj : (sortedFrom (fun a b : Fin 4096 => decide (dest (Host.D m s) (4096 * s.val + a.val) < dest (Host.D m s) (4096 * s.val + b.val))) k) = j)
    (y : Fin 1024) (hy : y.val = (i 1).val * 128 + (i 2).val) :
    (inp h).srt s i = (m ((s : Thread nD τ).loc main_arg0) : (shape2 4096 1024).Idx → F .bf16) (ix2 j y) := by
  have e : (inp h).src s i = ix3 (n1 := 8) (n2 := 128) j (i 1) (i 2) := by
    funext a
    match a with
    | ⟨0, _⟩ =>
      refine Fin.ext ?_
      show (V7 m s (Proc.devRef .tc main_v36) (i4096 (i 0).val)).toNat = j.val
      have : i4096 (i 0).val = ix1 k := by
        funext a
        match a with
        | ⟨0, _⟩ => exact Fin.ext ((congrArg (· % 4096) hk).trans (Nat.mod_eq_of_lt k.isLt))
      rw [this, order_toNat h, hj]
    | ⟨1, _⟩ => rfl
    | ⟨2, _⟩ => rfl
  show V7 m s (Proc.devRef .tc main_v37) ((inp h).src s i) = _
  rw [e]
  refine (congrFun (Host.v37 m s) _).trans ?_
  refine shapeCast_apply _ shapeCasts_S4096x1024_S4096x8x128 _ _ ?_
  rw [Shape.rowMajor_val_three, Shape.rowMajor_val_two]
  show j.val * 1024 + y.val = (j.val * 8 + (i 1).val) * 128 + (i 2).val
  omega

/-! ## The result -/

variable [∀ e, Nonempty (Elt F e)]

/-- The result of device `c` at row `q`: some row `j` of some device `s`, the one that the stable sort of the whole puts
    there. -/
theorem out_at (hD : ∀ c, Host.D m c = Host.D m 0) (c : Dev nD) (f : S5248x8x128.Idx → Elt F .bf16) (hf : Placed (inp h) c 4 f)
    (q : Fin 4096) (y : Fin 1024) :
    ∃ (s : Dev nD) (j : Fin 4096),
      (sortedFrom (fun a b : Fin 16384 => decide (dest (Host.D m 0) a.val < dest (Host.D m 0) b.val)) ⟨4096 * c.val + q.val, by
        have h : c.val < 4 := c.isLt
        omega⟩).val = 4096 * s.val + j.val
      ∧ (last m c f (Proc.devRef .tc main_v41) : (shape2 4096 1024).Idx → F .f32) (ix2 q y)
          = FloatOps.extf .f32 bitsLt_bf16_f32 ((m ((s : Thread nD τ).loc main_arg0) : (shape2 4096 1024).Idx → F .bf16) (ix2 j y)) := by
  have hc : c.val < 4 := c.isLt
  obtain ⟨s, j, k, hs, hj, hw, hq, hk, hlt, hl⟩ := found (dest (Host.D m 0)) (h 0).1 c.val q.val hc q.isLt
  refine ⟨⟨s, hs⟩, ⟨j, hj⟩, hw, ?_⟩
  have hk' : k < 1152 := lt_of_lt_of_le hk ((h 0).2 ⟨s, hs⟩ c)
  have hy := y.isLt
  -- the element of the result, through the last host operations
  have e1 : (last m c f (Proc.devRef .tc main_v41) : (shape2 4096 1024).Idx → F .f32) (ix2 q y)
      = FloatOps.extf .f32 bitsLt_bf16_f32 (f (ix3 ⟨q.val, by omega⟩ ⟨y.val / 128, by omega⟩ ⟨y.val % 128, by omega⟩)) := by
    refine (congrFun (Host.result (withOut (V7 m) c f)) (ix2 q y)).trans ?_
    show FloatOps.extf .f32 _ _ = _
    refine congrArg (FloatOps.extf .f32 bitsLt_bf16_f32) ?_
    refine (shapeCast_apply _ shapeCasts_S4096x8x128_S4096x1024 _ (ix3 q ⟨y.val / 128, by omega⟩ ⟨y.val % 128, by omega⟩) ?_).trans ?_
    · rw [Shape.rowMajor_val_three, Shape.rowMajor_val_two]
      show (q.val * 8 + y.val / 128) * 128 + y.val % 128 = q.val * 1024 + y.val
      omega
    · unfold extractStridedSlice
      have : withOut (V7 m) c f (Proc.devRef .tc main_v38) = f := Function.update_self ..
      rw [this]
      refine congrArg f (funext fun a => Fin.ext ?_)
      match a with
      | ⟨0, _⟩ => exact Nat.zero_add _
      | ⟨1, _⟩ => exact Nat.zero_add _
      | ⟨2, _⟩ => exact Nat.zero_add _
  -- the element inside the piece from `s`
  let i : S1152x8x128.Idx := ix3 ⟨k, hk'⟩ ⟨y.val / 128, by omega⟩ ⟨y.val % 128, by omega⟩
  have hst : (inp h).st ⟨s, hs⟩ c = start (dest (Host.D m 0)) s c.val := by rw [st_eq, hD]
  have hof : ∀ s' : Fin 4, (inp h).of c s' = off (dest (Host.D m 0)) c.val s'.val := fun s' => by rw [of_eq, hD]
  have hp := hf ⟨s, hs⟩ hs i (by rw [hst]; exact hlt) (fun s' hs' _ => by
    rw [hof, hof]
    have h1 : s + 1 ≤ s'.val := hs'
    have h2 := off_mono (dest (Host.D m 0)) c.val h1
    rw [off_succ] at h2
    show off _ c.val s + k < _
    omega)
  have hi : row ((inp h).of c ⟨s, hs⟩) i = ix3 ⟨q.val, by omega⟩ ⟨y.val / 128, by omega⟩ ⟨y.val % 128, by omega⟩ := by
    funext a
    match a with
    | ⟨0, _⟩ =>
      refine Fin.ext ?_
      show ((inp h).of c ⟨s, hs⟩ + k) % 5248 = q.val
      rw [hof]
      show (off _ c.val s + k) % 5248 = q.val
      rw [← hq]
      exact Nat.mod_eq_of_lt (by omega)
    | ⟨1, _⟩ => rfl
    | ⟨2, _⟩ => rfl
  rw [e1, ← hi, hp]
  refine congrArg (FloatOps.extf .f32 bitsLt_bf16_f32) ?_
  refine srt_at h ⟨s, hs⟩ _ ⟨start (dest (Host.D m 0)) s c.val + k, hlt⟩ ?_ ⟨j, hj⟩ (Fin.ext ?_) y ?_
  · show ((inp h).st ⟨s, hs⟩ c + k) % 5248 = _
    rw [hst]
    exact Nat.mod_eq_of_lt (by omega)
  · rw [hD]; exact hl
  · show y.val = y.val / 128 * 128 + y.val % 128
    omega

end Cert.Proof.Value

end
-- ==== Proof.Whole.lean ====
/-
  The reference's value at an index: its row `p` is the row of the argument that the stable sort of all the destinations
  puts there.
-/
module

public import proofs.«01_k».proof.Proof.Words
public import proofs.«01_k».proof.Proof.Gen.ReferenceIdeal.Run

@[expose] public section

noncomputable section

namespace Cert.Proof.Whole

open Cert.ReferenceIdeal Cert.ReferenceIdeal.Gen
open Idealize.ShloMosaic
open Idealize.ShloMosaic.Routing Idealize.ShloMosaic.ValueIdx
open Idealize.ShloMosaic.StableHlo.Predicate (toInt_ofNat_small)
open Cert.Proof.Order Cert.Proof.Words

variable {F : FTy → Type} [FloatOps F]

/-- Where the sort takes each row from. -/
abbrev order (D : IVec (shape1 16384) 32) : IVec (shape1 16384) 32 :=
  (Host.sort2 S16384 0 comparator_i32_i32_d0 D (iotaInDim S16384 32 0)).2

/-- The reference's result as a function of its arguments. -/
abbrev value (x : (shape2 16384 1024).Idx → F .bf16) (D : IVec (shape1 16384) 32) : (shape2 16384 1024).Idx → F .f32 :=
  extf .f32 (Host.gather gather_S16384x1024_S16384x1_S16384x1024_1_0_n_n_0_1_11024 x
    (broadcastInDim S16384x1 ![0] bcast_S16384_S16384x1_0
      (select (cmpi .slt (order D) (broadcastInDim S16384 ![] bcast_S_S16384 (constantI S_ 32 0#32)))
        (addi (order D) (broadcastInDim S16384 ![] bcast_S_S16384 (constantI S_ 32 16384#32))) (order D)))) bitsLt_bf16_f32

theorem value_at (x : (shape2 16384 1024).Idx → F .bf16) (D : IVec (shape1 16384) 32) (hD : ∀ b, b < 16384 → dest D b < 4)
    (p b : Fin 16384) (hb : sortedFrom (fun a b : Fin 16384 => decide (dest D a.val < dest D b.val)) p = b) (y : Fin 1024) :
    value x D (ix2 p y) = FloatOps.extf .f32 bitsLt_bf16_f32 (x (ix2 b y)) := by
  have ho : order D (ix1 p) = BitVec.ofNat 32 b.val := by
    rw [← hb]
    exact argsort_at (n := 16384) D (dest D) (fun i => (dest_val D i).symm) (fun i => lt_trans (hD _ i.isLt) (by decide))
      comparator_i32_i32_d0 (fun _ _ => rfl) p
  show FloatOps.extf .f32 _ _ = _
  refine congrArg (FloatOps.extf .f32 bitsLt_bf16_f32) ?_
  refine gather_row _ rfl rfl rfl rfl rfl x _ p y b ?_ (by decide)
  refine (bcCol _ _ p).trans ?_
  refine Eq.trans ?_ ho
  have h0 : (broadcastInDim S16384 ![] bcast_S_S16384 (constantI S_ 32 0#32) : IVec S16384 32) = constantI S16384 32 0#32 := rfl
  rw [h0]
  refine select_slt_zero_of_nonneg _ _ _ _ ?_
  rw [ho, toInt_ofNat_small _ (lt_trans b.isLt (by decide))]
  exact Int.natCast_nonneg _

end Cert.Proof.Whole

end
-- ==== Proof.Same.lean ====
/-
  `Kernel` and `KernelIdeal` have the same text, so a run of the one is a run of the other.
-/
module

public import proofs.«01_k».proof.Proof.Gen.Kernel.Launch
public import proofs.«01_k».proof.Proof.Given

@[expose] public section

noncomputable section

namespace Cert.Proof.Talk

open Idealize.ShloMosaic
open Idealize.SL.Sem

variable {F : FTy → Type} [FloatOps F]

/-! ## The body, part by part -/

theorem part1_same : Cert.Kernel.k0_part1 (F := F) = Cert.KernelIdeal.k0_part1 := rfl
theorem part2_same : Cert.Kernel.k0_part2 (F := F) = Cert.KernelIdeal.k0_part2 := rfl
set_option maxHeartbeats 4000000 in
theorem part3_same : Cert.Kernel.k0_part3 (F := F) = Cert.KernelIdeal.k0_part3 := rfl

theorem body_same : Cert.Kernel.cc0__a2av_body (F := F) = Cert.KernelIdeal.cc0__a2av_body := by
  unfold Cert.Kernel.cc0__a2av_body Cert.KernelIdeal.cc0__a2av_body
  rw [part1_same, part2_same, part3_same]
  rfl

theorem bodies_same : Cert.Kernel.defs₀ (F := F) = Cert.KernelIdeal.defs₀ := by
  unfold Cert.Kernel.defs₀ Cert.KernelIdeal.defs₀
  rw [body_same]
  refine congrArg Defs.onTc ?_
  funext l a
  match l with
  | ⟨0, _⟩ => rfl

theorem defs_same : Cert.Kernel.defs (F := F) = Cert.KernelIdeal.defs := congrArg (Pipeline.defs Cert.Kernel.pcfgs) bodies_same

/-! ## The host code, operation by operation -/

theorem host_same (c : Dev Cert.Kernel.nD) : Cert.Kernel.Gen.hostOps0 (F := F) c = Cert.KernelIdeal.Gen.hostOps0 c := by
  unfold Cert.Kernel.Gen.hostOps0 Cert.KernelIdeal.Gen.hostOps0
  repeat (refine congrArg₂ List.cons ?_ ?_; rfl)
  rfl

theorem main_same : Cert.Kernel.main (F := F) = Cert.KernelIdeal.main := by
  funext c
  rw [Cert.Kernel.Gen.main_chain, Cert.KernelIdeal.Gen.main_chain, host_same]
  rfl

/-! ## The run -/

/-- The run of `KernelIdeal`, told of `Kernel`. -/
theorem run_kernel (m : (ℓ : Loc Cert.Kernel.nD Cert.Kernel.τ Cert.Kernel.sig) → Buf (Elt F) ℓ) [∀ e, Nonempty (Elt F e)]
    (ρ : Dev Cert.Kernel.nD → PrngReg) (h : Given.Good (F := F) m) :
    θ_run Cert.Kernel.defs (onTc (τ := Cert.Kernel.τ) (Cert.Kernel.main (F := F))) ⟨m, fun _ => 0, ρ⟩
      (fun r => (∀ c : Dev Cert.Kernel.nD, r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_arg1)
          = m ((c.tc : Thread Cert.Kernel.nD Cert.Kernel.τ).loc Cert.Kernel.main_arg1))
        ∧ r.2.sem = fun _ => 0) := by
  rw [defs_same, main_same]
  exact (θ_run Cert.KernelIdeal.defs _ _).mono (fun _ hr => ⟨fun c => ⟨(hr.1 c).1, (hr.1 c).2.1⟩, hr.2⟩)
    (run_main (F := F) (Given.inp h) ρ m (Given.fits h))

end Cert.Proof.Talk

end
-- ==== Proof.Ring.Proto.lean ====
/-
  The ring that brings the destinations of all rows to every device, as a protocol between four devices.

  Device `c` tells its left neighbour that three slots of its buffer are free, tells its right neighbour that it has
  started, and waits until both neighbours have said the same. It puts its own block into slot `c` and then, three
  times, sends on to its right neighbour the block it got last.

  * The barrier counter of `c` takes one unit from each neighbour. The unit of the right neighbour hands over the three
    slots of the right neighbour's buffer that are not its own.
  * The receive counter number `h` of `c` is paid by the copy number `h` of the left neighbour. The payment is the slot
    that has landed.
  * The send counter number `h` of `c` is paid by the copy number `h` of `c`. The payment is the slot the copy read.
-/
module

public import proofs.«01_k».proof.Defs
public import proofs.«01_k».proof.Proof.Gen.GatherIdeal
public import proofs.«01_k».proof.Proof.Gen.GatherIdeal.Skeleton
public import proofs.«01_k».proof.Proof.Gen.GatherIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Rounds.Family
public import Idealize.ShloMosaic.Lib.ViewIndex
public import Idealize.ShloMosaic.Lib.Pipeline.ValueKit.Geometry
public import Idealize.ShloMosaic.Lib.Tactic

@[expose] public section

noncomputable section

namespace Cert.Proof.RingTalk

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The right neighbour, and the left one. -/
def rt (c : Dev nD) : Dev nD := ⟨(c.val + 1) % 4, Nat.mod_lt _ (by decide)⟩
def lf (c : Dev nD) : Dev nD := ⟨(c.val + 3) % 4, Nat.mod_lt _ (by decide)⟩
/-- The slot that `c` sends on at hop `h`, and the one it gets. -/
def sn (c : Dev nD) (h : Fin 3) : Dev nD := ⟨(c.val + 4 - h.val) % 4, Nat.mod_lt _ (by decide)⟩
def gt (c : Dev nD) (h : Fin 3) : Dev nD := ⟨(c.val + 3 - h.val) % 4, Nat.mod_lt _ (by decide)⟩

theorem gt_rt (c : Dev nD) (h : Fin 3) : gt (rt c) h = sn c h := by revert c h; decide
theorem sn_zero (c : Dev nD) : sn c 0 = c := by revert c; decide
theorem sn_one (c : Dev nD) : sn c 1 = gt c 0 := by revert c; decide
theorem sn_two (c : Dev nD) : sn c 2 = gt c 1 := by revert c; decide
theorem rt_lf (c : Dev nD) : rt (lf c) = c := by revert c; decide
theorem lf_rt (c : Dev nD) : lf (rt c) = c := by revert c; decide
theorem lf_ne_rt (c : Dev nD) : lf c ≠ rt c := by revert c; decide

/-! ## The blocks -/

/-- The place inside a block of a place of the gathered array. -/
def inner (i : S4x32x128.Idx) : S32x128.Idx := fun a => match a with
  | ⟨0, _⟩ => i 1
  | ⟨1, _⟩ => i 2
  | ⟨_ + 2, h⟩ => absurd h (Nat.not_lt.2 (Nat.le_add_left _ _))

/-- Each device's block. -/
abbrev Blocks (F : FTy → Type) : Type := Dev nD → S32x128.Idx → Elt F .i32

variable (D : Blocks F)

/-- The gathered array: block `s` is the block of device `s`. -/
def full (i : S4x32x128.Idx) : Elt F .i32 := D (i 0) (inner i)

/-! ## The buffers and the slots -/

abbrev dM : Memref sig .tc .vmem S32x128 .i32 := Memref.whole cc0_stg0_0
abbrev aM : Memref sig .tc .vmem S4x32x128 .i32 := Memref.whole cc0_stg1_0

theorem slot_inb (s : Fin 4) : ∀ a, (![s.val, 0, 0] : Fin 3 → ℕ) a + S1x32x128.size a ≤ S4x32x128.size a := by
  intro a
  match a with
  | ⟨0, _⟩ => show s.val + 1 ≤ 4; omega
  | ⟨1, _⟩ => show 0 + 32 ≤ 32; omega
  | ⟨2, _⟩ => show 0 + 128 ≤ 128; omega

/-- Slot `s` of the gathered array. -/
abbrev slotM (s : Fin 4) : Memref sig .tc .vmem S32x128 .i32 :=
  (aM.slice (Rect.unit (s := S4x32x128) ![s.val, 0, 0] S1x32x128.size (slot_inb s)) (fun _ => rfl)).squeeze S32x128
    squeezes_S1x32x128_S32x128

theorem slot_eq (s : Fin 4) {off : Fin 3 → ℕ} (h : off = ![s.val, 0, 0]) (inb) :
    (aM.slice (Rect.unit (s := S4x32x128) off S1x32x128.size inb) (fun _ => rfl)).squeeze S32x128
      squeezes_S1x32x128_S32x128 = slotM s := by
  subst h; rfl

abbrev slotSet (s : Fin 4) : Finset S4x32x128.Idx := (slotM s).view.set

theorem mem_slot (s : Fin 4) (i : S4x32x128.Idx) : i ∈ slotSet s ↔ (i 0).val = s.val := by
  have h0 : slotSet s = (Rect.unit (s := S4x32x128) ![s.val, 0, 0] S1x32x128.size (slot_inb s)).set := by
    show (((aM.slice (Rect.unit (s := S4x32x128) ![s.val, 0, 0] S1x32x128.size (slot_inb s)) (fun _ => rfl)).view).reshape _ _).set = _
    rw [View.set_reshape]
    exact View.set_slice_whole cc0_stg1_0 _
  rw [h0]
  refine Rect.mem_set_unit.trans ⟨fun h => ?_, fun h a => ?_⟩
  · have h1 := h 0
    have h2 : s.val ≤ (i 0).val ∧ (i 0).val < s.val + 1 := h1
    omega
  · match a with
    | ⟨0, _⟩ => exact ⟨le_of_eq h.symm, by show (i 0).val < s.val + 1; omega⟩
    | ⟨1, _⟩ => exact ⟨Nat.zero_le _, by show (i 1).val < 0 + 32; have := (i 1).isLt; rw [Nat.zero_add]; exact this⟩
    | ⟨2, _⟩ => exact ⟨Nat.zero_le _, by show (i 2).val < 0 + 128; have := (i 2).isLt; rw [Nat.zero_add]; exact this⟩

theorem slots_disjoint : ∀ s ∈ (Finset.univ : Finset (Fin 4)), ∀ s' ∈ (Finset.univ : Finset (Fin 4)), s ≠ s' → Disjoint (slotSet s) (slotSet s') := by
  intro s _ s' _ hne
  rw [Finset.disjoint_left]
  intro i h1 h2
  exact hne (Fin.ext (((mem_slot s i).mp h1).symm.trans ((mem_slot s' i).mp h2)))
theorem slots_cover : (Finset.univ : Finset (Fin 4)).biUnion slotSet = Finset.univ := by
  ext i
  simp only [Finset.mem_biUnion, Finset.mem_univ, true_and, iff_true]
  exact ⟨i 0, (mem_slot _ i).mpr rfl⟩

/-- Where a place of a slot lies in the array. -/
theorem slot_emb (s : Fin 4) (j : S32x128.Idx) : ((slotM s).view.emb j : S4x32x128.Idx) 0 = s ∧ inner ((slotM s).view.emb j) = j := by
  have e : (Shape.reshapeEquiv squeezes_S1x32x128_S32x128.numel_eq j : S1x32x128.Idx) = Fin.cons (⟨0, Nat.one_pos⟩ : Fin 1) j := by
    apply Shape.reshapeEquiv_eq_of_rowMajor
    show (Shape.rowMajorPi (Matrix.vecCons 1 ![32, 128]) (Fin.cons (⟨0, Nat.one_pos⟩ : Fin 1) j)).val = (Shape.rowMajorPi ![32, 128] j).val
    rw [Shape.rowMajorPi_succ_val]
    show 0 * _ + (Shape.rowMajorPi ![32, 128] j).val = (Shape.rowMajorPi ![32, 128] j).val
    simp
  have h : ∀ a : Fin 3, (((slotM s).view.emb j : S4x32x128.Idx) a).val = (![s.val, 0, 0] : Fin 3 → ℕ) a + ((Fin.cons (⟨0, Nat.one_pos⟩ : Fin 1) j : S1x32x128.Idx) a).val := by
    intro a
    rw [← e]
    exact ValueKit.rect_emb_unit_val (s := S4x32x128) ![s.val, 0, 0] S1x32x128.size (slot_inb s) _ a
  refine ⟨Fin.ext ((h 0).trans (Nat.add_zero _)), funext fun a => ?_⟩
  match a with
  | ⟨0, _⟩ => exact Fin.ext ((h 1).trans (Nat.zero_add _))
  | ⟨1, _⟩ => exact Fin.ext ((h 2).trans (Nat.zero_add _))

/-- A device's block written into its slot is that part of the gathered array, -/
theorem put_full (s : Fin 4) (f : S4x32x128.Idx → Elt F .i32) :
    ∀ i ∈ slotSet s, (slotM s).view.write (Elt F) f (D s) Finset.univ i = full D i := by
  intro i hi
  obtain ⟨j, -, rfl⟩ := Finset.mem_map.mp hi
  refine (View.write_emb_of_mem _ _ (Finset.mem_univ _)).trans ?_
  obtain ⟨h0, h1⟩ := slot_emb s j
  show D s j = D ((slotM s).view.emb j 0) (inner ((slotM s).view.emb j))
  rw [h0, h1]
/-- and so is a slot of the gathered array written into the same slot. -/
theorem copy_full (s : Fin 4) (f : S4x32x128.Idx → Elt F .i32) :
    ∀ i ∈ slotSet s, (slotM s).view.write (Elt F) f ((slotM s).view.read (Elt F) (full D)) Finset.univ i = full D i := by
  intro i hi
  obtain ⟨j, -, rfl⟩ := Finset.mem_map.mp hi
  exact View.write_emb_of_mem _ _ (Finset.mem_univ _)

/-! ## The resource algebra -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-- A whole buffer of device `c` at contents `f`. -/
abbrev pt (c : Dev nD) (b : Ref sig .tc) (f : Buf (Elt F) ((c : Thread nD τ).loc b)) : sProp 𝕄 :=
  ((c : Thread nD τ).loc b) ↦{fullShare} f

/-! ## The cells -/

abbrev barS : Sem sig := barrier0
/-- The send semaphore number `h`, the receive semaphore number `h`, the semaphore of the local copy. -/
def sendS (h : Fin 3) : DmaSem sig := ⟨2 + h.val, by have := h.isLt; show 2 + h.val < 9; omega⟩
def recvS (h : Fin 3) : DmaSem sig := ⟨5 + h.val, by have := h.isLt; show 5 + h.val < 9; omega⟩
def locS : DmaSem sig := ⟨8, by decide⟩

abbrev barCell (c : Dev nD) : GSem nD τ sig := ((c : Thread nD τ), .reg barS)
abbrev sendCell (c : Dev nD) (h : Fin 3) : GSem nD τ sig := ((c : Thread nD τ), .dma (sendS h))
abbrev recvCell (c : Dev nD) (h : Fin 3) : GSem nD τ sig := ((c : Thread nD τ), .dma (recvS h))
abbrev locCell (c : Dev nD) : GSem nD τ sig := ((c : Thread nD τ), .dma locS)

/-- What a DMA semaphore is for: sending at a hop (`inl`), receiving at one (`inr`), or neither. -/
def kind (n : DmaSem sig) : Option (Fin 3 ⊕ Fin 3) :=
  match n with
  | ⟨2, _⟩ => some (.inl 0) | ⟨3, _⟩ => some (.inl 1) | ⟨4, _⟩ => some (.inl 2)
  | ⟨5, _⟩ => some (.inr 0) | ⟨6, _⟩ => some (.inr 1) | ⟨7, _⟩ => some (.inr 2)
  | _ => none
theorem kind_send (h : Fin 3) : kind (sendS h) = some (.inl h) := by revert h; decide
theorem kind_recv (h : Fin 3) : kind (recvS h) = some (.inr h) := by revert h; decide
theorem kind_loc : kind locS = none := by decide

/-- The units one block brings to a counter. -/
abbrev N : ℕ := (slotM 0).view.dmaCredit
theorem N_pos : 0 < N := View.dmaCredit_pos _ (by decide)
theorem amount_slot (s : Fin 4) (sR : DmaSem sig) : (slotM s).view.amount (.dma sR) = N := rfl
theorem credit_slot (s : Fin 4) : (slotM s).view.dmaCredit = N := rfl

/-! ## The points-tos -/

abbrev slotPt (c : Dev nD) (s : Fin 4) (f : Buf (Elt F) ((slotM s).view.loc (c : Thread nD τ))) : sProp 𝕄 :=
  (slotM s).view.loc (c : Thread nD τ) ↦[(slotM s).view.set]{fullShare} f

/-! ## The schedule -/

/-- Room on `p` for the block it gets at hop `h`: the slot, and that the counter is open. -/
def room (p : Dev nD) (h : Fin 3) : sProp 𝕄 := iprop((∃ f, slotPt p (gt p h) f) ∗ reached ER (recvCell p h) 0)
/-- Paid to the barrier of `c` by `p`: from the right neighbour, room for the three blocks. -/
def barPay (p c : Dev nD) : sProp 𝕄 := if p = rt c then bigSep Finset.univ (room p) else iprop(emp)
/-- Paid to receive counter `h` of `c`: the slot, with the block that belongs there. -/
def recvPay (c : Dev nD) (h : Fin 3) : sProp 𝕄 := slotPt c (gt c h) (full D)
/-- Paid to send counter `h` of `c`: the slot read. -/
def sendPay (c : Dev nD) (h : Fin 3) : sProp 𝕄 := slotPt c (sn c h) (full D)

def exRd : Rounds.Schedule (GSem nD τ sig) (Dev nD) 𝕄 where
  duties g r := if r = 0 ∧ g.1.2 = .tc then
      match g.2 with
      | .reg _ => {lf g.1.1, rt g.1.1}
      | .dma n => match kind n with
        | some (.inl _) => {g.1.1}
        | some (.inr _) => {lf g.1.1}
        | none => ∅
    else ∅
  unitless _ := False
  amount g _ _ := match g.2 with | .reg _ => 1 | .dma _ => N
  payload g _ d := match g.2 with
    | .reg _ => barPay d g.1.1
    | .dma n => match kind n with
      | some (.inl h) => sendPay D g.1.1 h
      | some (.inr h) => recvPay D g.1.1 h
      | none => iprop(emp)
  amount_pos g _ _ _ := by
    cases h : g.2 with
    | reg s => simp only [h]; exact Nat.one_pos
    | dma s => simp only [h]; exact N_pos

instance slotPt_storable (c : Dev nD) (s : Fin 4) (f) : BI.Storable (upEmb : UEmb _ 𝕄) (slotPt c s f : sProp 𝕄) := by
  unfold slotPt; infer_instance
set_option synthInstance.maxHeartbeats 400000 in
instance room_storable (p : Dev nD) (h : Fin 3) : BI.Storable (upEmb : UEmb _ 𝕄) (room p h : sProp 𝕄) := by
  unfold room; infer_instance
set_option synthInstance.maxHeartbeats 400000 in
instance barPay_storable (p c : Dev nD) : BI.Storable (upEmb : UEmb _ 𝕄) (barPay p c : sProp 𝕄) := by
  unfold barPay; split <;> infer_instance
instance recvPay_storable (c : Dev nD) (h : Fin 3) : BI.Storable (upEmb : UEmb _ 𝕄) (recvPay D c h) := by
  unfold recvPay; infer_instance
instance sendPay_storable (c : Dev nD) (h : Fin 3) : BI.Storable (upEmb : UEmb _ 𝕄) (sendPay D c h) := by
  unfold sendPay; infer_instance
instance exRd_payload_storable (g : GSem nD τ sig) (r : ℕ) (d : Dev nD) :
    BI.Storable (upEmb : UEmb _ 𝕄) ((exRd D).payload g r d) := by
  show BI.Storable upEmb (match g.2 with
    | .reg _ => barPay d g.1.1
    | .dma n => match kind n with
      | some (.inl h) => sendPay D g.1.1 h
      | some (.inr h) => recvPay D g.1.1 h
      | none => iprop(emp))
  (repeat' split) <;> infer_instance

section Sched

variable (c p : Dev nD) (h : Fin 3)

theorem duties_bar : (exRd D).duties (barCell c) 0 = {lf c, rt c} := by
  dsimp only [exRd]; exact if_pos ⟨rfl, rfl⟩
theorem duties_send : (exRd D).duties (sendCell c h) 0 = {c} := by
  dsimp only [exRd]; rw [if_pos ⟨rfl, rfl⟩, kind_send]
theorem duties_recv : (exRd D).duties (recvCell c h) 0 = {lf c} := by
  dsimp only [exRd]; rw [if_pos ⟨rfl, rfl⟩, kind_recv]
theorem duties_later (g : GSem nD τ sig) : ∀ r, 1 ≤ r → (exRd D).duties g r = ∅ :=
  fun r hr => by dsimp only [exRd]; rw [if_neg (fun h => by omega)]

theorem amount_bar (u : Dev nD) : (exRd D).amount (barCell c) 0 u = 1 := rfl
theorem amount_send (u : Dev nD) : (exRd D).amount (sendCell c h) 0 u = N := rfl
theorem amount_recv (u : Dev nD) : (exRd D).amount (recvCell c h) 0 u = N := rfl

theorem expect_bar : (exRd D).expect (barCell c) 0 = 2 := by
  unfold Schedule.expect Schedule.amountOf
  rw [duties_bar, Finset.sum_congr rfl (fun u _ => amount_bar D c u), Finset.sum_const, Finset.card_pair (lf_ne_rt c)]
  rfl
theorem expect_send : (exRd D).expect (sendCell c h) 0 = N := by
  unfold Schedule.expect Schedule.amountOf; rw [duties_send, Finset.sum_singleton, amount_send]
theorem expect_recv : (exRd D).expect (recvCell c h) 0 = N := by
  unfold Schedule.expect Schedule.amountOf; rw [duties_recv, Finset.sum_singleton, amount_recv]

theorem payload_bar : (exRd D).payload (barCell c) 0 p = barPay p c := rfl
theorem payload_send (u : Dev nD) : (exRd D).payload (sendCell c h) 0 u = sendPay D c h := by
  dsimp only [exRd]; rw [kind_send]
theorem payload_recv (u : Dev nD) : (exRd D).payload (recvCell c h) 0 u = recvPay D c h := by
  dsimp only [exRd]; rw [kind_recv]

theorem rest_bar : bigSep ((exRd D).duties (barCell c) 0 \ ∅) (fun u => (exRd D).payload (barCell c) 0 u)
    ⊢ bigSep Finset.univ (room (F := F) (rt c)) := by
  rw [Finset.sdiff_empty, duties_bar]
  refine (bigSep_elim (show rt c ∈ ({lf c, rt c} : Finset (Dev nD)) from Finset.mem_insert_of_mem (Finset.mem_singleton_self _))).trans ?_
  rw [payload_bar]
  unfold barPay
  rw [if_pos rfl]
  exact BI.Entails.refl _
theorem rest_send : bigSep ((exRd D).duties (sendCell c h) 0 \ ∅) (fun u => (exRd D).payload (sendCell c h) 0 u) = sendPay D c h := by
  rw [Finset.sdiff_empty, duties_send, bigSep_singleton, payload_send]
theorem rest_recv : bigSep ((exRd D).duties (recvCell c h) 0 \ ∅) (fun u => (exRd D).payload (recvCell c h) 0 u) = recvPay D c h := by
  rw [Finset.sdiff_empty, duties_recv, bigSep_singleton, payload_recv]

end Sched

/-! ## What each device owes at the start, and the levels -/

/-- The payments device `c` still owes before each of its hops and signals. -/
def owed3 (_ : Dev nD) : CellTallies nD τ sig Unit := 0
def owed2 (c : Dev nD) : CellTallies nD τ sig Unit := owed3 c + tallyAt (recvCell (rt c) 2) () N
def owed1 (c : Dev nD) : CellTallies nD τ sig Unit := owed2 c + tallyAt (recvCell (rt c) 1) () N
def owed0 (c : Dev nD) : CellTallies nD τ sig Unit := owed1 c + tallyAt (recvCell (rt c) 0) () N
def owedB (c : Dev nD) : CellTallies nD τ sig Unit := owed0 c + tallyAt (barCell (rt c)) () 1
/-- Everything owed at the start: a unit to each neighbour's barrier, three blocks to the right neighbour. -/
def O₀ (c : Dev nD) : CellTallies nD τ sig Unit := owedB c + tallyAt (barCell (lf c)) () 1

def L (g : GSem nD τ sig) : Finset Unit := if g.1.2 = .tc then {()} else ∅
/-- Barriers at 1, receive counter `h` at 2 + `h`, the rest at 0. -/
def lv (g : GSem nD τ sig) (_ : Unit) : ℕ := match g.2 with
  | .reg _ => 1
  | .dma n => match kind n with | some (.inr h) => 2 + h.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (h : Fin 3) : lv (recvCell c h) () = 2 + h.val := by dsimp only [lv]; rw [kind_recv]
theorem lv_send (c : Dev nD) (h : Fin 3) : lv (sendCell c h) () = 0 := by dsimp only [lv]; rw [kind_send]
theorem lv_loc (c : Dev nD) : lv (locCell c) () = 0 := by dsimp only [lv]; rw [kind_loc]

theorem tallyAt_pos {g g' : GSem nD τ sig} {u u' : Unit} {n : ℕ} (h : 0 < (tallyAt g' u' n : CellTallies nD τ sig Unit) g u) : g = g' := by
  rw [tallyAt_apply] at h
  by_cases e : g = g' ∧ u = u'
  · exact e.1
  · rw [if_neg e] at h; exact absurd h (Nat.lt_irrefl 0)

/-- A debt that only holds blocks of hop `k` and later. -/
def From (c : Dev nD) (k : ℕ) (O : CellTallies nD τ sig Unit) : Prop :=
  ∀ (g : GSem nD τ sig) (u : Unit), 0 < O g u → ∃ h : Fin 3, k ≤ h.val ∧ g = recvCell (rt c) h

theorem from_add (c : Dev nD) (k : ℕ) {O : CellTallies nD τ sig Unit} (h : Fin 3) (hk : k ≤ h.val) (hO : From c k O) :
    From c k (O + tallyAt (recvCell (rt c) h) () N) := by
  intro g u hg
  simp only [Pi.add_apply, Finsupp.add_apply] at hg
  rcases Nat.eq_zero_or_pos (O g u) with e | e
  · rw [e, Nat.zero_add] at hg
    exact ⟨h, hk, tallyAt_pos hg⟩
  · exact hO g u e
theorem From.weaken {c : Dev nD} {k k' : ℕ} {O : CellTallies nD τ sig Unit} (hO : From c k O) (h : k' ≤ k) : From c k' O :=
  fun g u hg => let ⟨i, hi, e⟩ := hO g u hg; ⟨i, h.trans hi, e⟩

theorem from3 (c : Dev nD) : From c 3 (owed3 c) := fun _ _ h => absurd h (Nat.lt_irrefl 0)
theorem from2 (c : Dev nD) : From c 2 (owed2 c) := from_add c 2 2 (le_refl _) ((from3 c).weaken (by decide))
theorem from1 (c : Dev nD) : From c 1 (owed1 c) := from_add c 1 1 (le_refl _) ((from2 c).weaken (by decide))
theorem from0 (c : Dev nD) : From c 0 (owed0 c) := from_add c 0 0 (le_refl _) ((from1 c).weaken (by decide))

/-- A device may wait on a counter of its own that lies below what it owes. -/
theorem mayWait (c : Dev nD) (sm : SemLoc sig) (k : ℕ) {O : CellTallies nD τ sig Unit} (hO : From c k O)
    (hl : lv ((c : Thread nD τ), sm) () < 2 + k) :
    (levAts L lv : sProp 𝕄) ⊢ MayWait (c : Thread nD τ) sm () O :=
  MayOwe.of_cut (L := L) (lev := lv) (1 + k) (fun p hp => by rw [Finset.mem_singleton.mp hp, L_tc]; exact Finset.mem_singleton_self _)
    (fun g u hg => by obtain ⟨h, -, rfl⟩ := hO g u hg; rw [L_tc]; exact Finset.mem_singleton_self _)
    (fun p hp => by rw [Finset.mem_singleton.mp hp]; show lv ((c : Thread nD τ), sm) () ≤ 1 + k; omega)
    (fun g u hg => by obtain ⟨h, hk, rfl⟩ := hO g u hg; cases u; rw [lv_recv]; omega)

end Cert.Proof.RingTalk

end
-- ==== Proof.Ring.Steps.lean ====
/-
  The steps of the ring on one device: telling a neighbour, hearing both, the local copy, starting a hop, and waiting
  for its two ends.
-/
module

public import proofs.«01_k».proof.Proof.Ring.Proto
public import Idealize.ShloMosaic.Lib.Transfers

@[expose] public section

noncomputable section

namespace Cert.Proof.RingTalk

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Blocks F)

/-! ## Families -/

theorem fin3 (Φ : Fin 3 → sProp 𝕄) : bigSep Finset.univ Φ = iprop(Φ 0 ∗ Φ 1 ∗ Φ 2) :=
  bigSep_univ_eq_bigSepL [(0 : Fin 3), 1, 2] (by decide) (by decide) Φ
/-- All four slots: the device's own, and the three it gets. -/
theorem slots4 (c : Dev nD) (Φ : Dev nD → sProp 𝕄) :
    bigSep Finset.univ Φ = iprop(Φ c ∗ Φ (gt c 0) ∗ Φ (gt c 1) ∗ Φ (gt c 2)) :=
  bigSep_univ_eq_bigSepL [c, gt c 0, gt c 1, gt c 2] (by revert c; decide) (by revert c; decide) Φ
/-- One member of a family. -/
theorem famAt {ι : Type} [Fintype ι] [DecidableEq ι] (Φ : ι → sProp 𝕄) (i : ι) : (bigSep Finset.univ Φ : sProp 𝕄) ⊢ Φ i :=
  bigSep_elim (Finset.mem_univ i)

/-! ## The counters a device owns, and what everybody may know -/

/-- A device's scoped counters of the ring: send counters, then receive counters. -/
abbrev CK : Type := Fin 3 ⊕ Fin 3
def csem : CK → SemLoc sig | .inl h => .dma (sendS h) | .inr h => .dma (recvS h)
abbrev scell (c : Dev nD) (k : CK) : GSem nD τ sig := ((c : Thread nD τ), csem k)

/-- The invariants of all cells. -/
def invs (K : GSem nD τ sig → ℕ) : sProp 𝕄 :=
  iprop((bigSep Finset.univ fun d : Dev nD => cellInv ER (exRd D) (K (barCell d)) (barCell d))
    ∗ bigSep Finset.univ fun p : Dev nD × CK => cellInv ER (exRd D) (K (scell p.1 p.2)) (scell p.1 p.2))
instance invs_persistent (K : GSem nD τ sig → ℕ) : BI.Persistent (invs D K) := by unfold invs; infer_instance

theorem inv_bar (K : GSem nD τ sig → ℕ) (d : Dev nD) : invs D K ⊢ cellInv ER (exRd D) (K (barCell d)) (barCell d) := by
  unfold invs
  iintro ⟨H, -⟩
  iapply (famAt (fun d : Dev nD => cellInv ER (exRd D) (K (barCell d)) (barCell d)) d) $$ H
theorem inv_scell (K : GSem nD τ sig → ℕ) (d : Dev nD) (k : CK) : invs D K ⊢ cellInv ER (exRd D) (K (scell d k)) (scell d k) := by
  unfold invs
  iintro ⟨-, H⟩
  iapply (famAt (fun p : Dev nD × CK => cellInv ER (exRd D) (K (scell p.1 p.2)) (scell p.1 p.2)) (d, k)) $$ H

/-- Round 0 of every barrier is reached. -/
def bars : sProp 𝕄 := bigSep Finset.univ fun d : Dev nD => reached ER (barCell d) 0
instance bars_persistent : BI.Persistent (bars (F := F)) := by unfold bars; infer_instance
theorem bars_at (d : Dev nD) : (bars : sProp 𝕄) ⊢ reached ER (barCell d) 0 := by
  unfold bars
  iintro H
  iapply (famAt (fun d : Dev nD => (reached ER (barCell d) 0 : sProp 𝕄)) d) $$ H
/-- Round 0 of every scoped counter of `c` is reached. -/
def mine (c : Dev nD) : sProp 𝕄 := bigSep Finset.univ fun k : CK => reached ER (scell c k) 0
instance mine_persistent (c : Dev nD) : BI.Persistent (mine (F := F) c) := by unfold mine; infer_instance
theorem mine_at (c : Dev nD) (k : CK) : (mine c : sProp 𝕄) ⊢ reached ER (scell c k) 0 := by
  unfold mine
  iintro H
  iapply (famAt (fun k : CK => (reached ER (scell c k) 0 : sProp 𝕄)) k) $$ H

/-- What device `c` knows throughout. -/
def env (K : GSem nD τ sig → ℕ) (c : Dev nD) : sProp 𝕄 := iprop(invs D K ∗ bars ∗ mine c ∗ levAts L lv)
instance env_persistent (K : GSem nD τ sig → ℕ) (c : Dev nD) : BI.Persistent (env D K c) := by unfold env; infer_instance

/-- What a device still has to pay, whatever it has waited for. -/
def still (c : Dev nD) (O : CellTallies nD τ sig Unit) : sProp 𝕄 := iprop(∃ W, owes (c : Thread nD τ) O W)

/-! ## The steps -/

/-- A unit to the barrier of a neighbour. -/
theorem wp_tell (K : GSem nD τ sig → ℕ) (c p : Dev nD) (hp : c = lf p ∨ c = rt p) (O' : CellTallies nD τ sig Unit) {β : Type} (n : ℕ) (hn : n = 1)
    {k : PUnit → Prog (TpuEff nD τ sig (Elt F) Λ₀ .tc) β} {Q : β → sProp 𝕄} :
    iprop(env D K c ∗ barPay c p ∗ dutyTok ER (barCell p) 0 c ∗ still c (O' + tallyAt (barCell p) () 1))
      ⊢ iprop((still c O' -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc p) barS n) k) Q) := by
  subst hn
  have hd : c ∈ (exRd D).duties (barCell p) 0 := by
    rw [duties_bar, Finset.mem_insert, Finset.mem_singleton]; exact hp
  unfold still
  iintro ⟨#He, Hs, Ht, ⟨%W, HO⟩⟩ Hk
  unfold env
  icases He with ⟨#Hi, #Hb, #Hm, -⟩
  iapply (Rounds.wp_signal 𝒱₀ ER (exRd D) (c : Thread nD τ) none (dst := (p : Thread nD τ)) (κ := K (barCell p)) (d := c)
      hd (amount_bar D p c) () O' rfl) $$ [Hs Ht HO]
  · isplitr; · iapply (inv_bar D K p); iexact Hi
    isplitl [HO]; · iexact HO
    isplitl [Ht]; · iexact Ht
    isplitl [Hs]
    · rw [payload_bar]; iexact Hs
    · iapply (bars_at p); iexact Hb
  iintro HO
  iapply Hk
  iexists W; iexact HO

/-- Waiting for both neighbours: room on the right one. -/
theorem wp_hear (K : GSem nD τ sig → ℕ) (c : Dev nD) {β : Type} (n : ℕ) (hn : n = 2)
    {k : PUnit → Prog (TpuEff nD τ sig (Elt F) Λ₀ .tc) β} {Q : β → sProp 𝕄} :
    iprop(env D K c ∗ cred (tallyAt (barCell c) () 2) ∗ still c (owed0 c) ∗ atPos ER (barCell c) 0 ∅ 0)
      ⊢ iprop(((still c (owed0 c) ∗ atPos ER (barCell c) 1 ∅ 0 ∗ bigSep Finset.univ (room (rt c)))
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS n) k) Q) := by
  subst hn
  unfold still
  iintro ⟨#He, Hc, ⟨%W, HO⟩, Hat⟩ Hk
  iapply (Rounds.wp_wait_rest_token 𝒱₀ ER (exRd D) (c : Thread nD τ) none (κ := K (barCell c))
      (wpE_semWait_eq 𝒱₀ (c : Thread nD τ) none Set.univ) (Set.mem_univ _) () (O := owed0 c) (W := W) (R := 0) (m := 0) (T := ∅)
      (by rw [expect_bar])) $$ [Hc HO Hat]
  · isplitr
    · unfold env
      icases He with ⟨#Hi, -⟩
      iapply (inv_bar D K c); iexact Hi
    isplitl [Hc]; · iexact Hc
    isplitl [HO]; · iexact HO
    isplitr
    · unfold env
      icases He with ⟨-, -, -, #Hl⟩
      iapply (mayWait c (.reg barS) 0 (from0 c) (by rw [lv_bar]; decide)); iexact Hl
    iexact Hat
  iintro ⟨HO, Hat, -, Hpay⟩
  iapply Hk
  isplitl [HO]; · iexists _; iexact HO
  isplitl [Hat]; · iexact Hat
  iapply (rest_bar D c) $$ Hpay

/-- The device's own block into its own slot, and the wait for it. -/
theorem wp_own (K : GSem nD τ sig → ℕ) (c : Dev nD) {srcw dst dstw : Memref sig .tc .vmem S32x128 .i32} (hdstE : dst = slotM c) (hdstwE : dstw = slotM c)
    {lS : DmaSem sig} (hl : lS = locS)
    {hsrc : (dM).view.WordExact} {hdst : dst.view.WordExact} {hsem : DmaTarget.Typed (nD := nD) .vmem (.dma lS) (DmaTarget.here (p := (.tc : Proc τ)) dst)}
    {hsrcw : srcw.view.WordExact} {hdstw : dstw.view.WordExact}
    {β : Type} {k : PUnit → Prog (TpuEff nD τ sig (Elt F) Λ₀ .tc) β} {Q : β → sProp 𝕄} :
    iprop(env D K c ∗ pt c cc0_stg0_0 (D c) ∗ (∃ f, slotPt c c f) ∗ semVal (locCell c) 0 ∗ still c (owed0 c))
      ⊢ iprop(((pt c cc0_stg0_0 (D c) ∗ slotPt c c (full D) ∗ semVal (locCell c) 0 ∗ still c (owed0 c))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma dM (.here dst) (.dma lS) hsrc hdst hsem) (fun _ => .op (.waitDma2 lS srcw dstw hsrcw hdstw) k)) Q) := by
  subst hdstE hdstwE hl
  unfold still
  iintro ⟨#He, Hs, ⟨%f, Ho⟩, Hl, ⟨%W, HO⟩⟩ Hk
  have key := Transfers.wp_dmaLocal (defs := defs₀ (F := F)) (countersEmb (U := UU)) 𝒱₀ (c : Thread nD τ) none (src := dM) (dst := slotM c) (via := .same)
    (sm := .dma locS) (hsrc := hsrc) (hdst := hdst) (hsem := hsem) (k := fun _ => .op (.waitDma2 locS srcw (slotM c) hsrcw hdstw) k) (Q := Q)
    (q := fullShare) (fs := D c) (Sd := slotSet c) (fd := f) () N (amount_slot c _) N_pos (Finset.Subset.refl _)
  have hset : (dM : Memref sig .tc .vmem S32x128 .i32).view.set = Finset.univ := View.set_whole _
  rw [hset] at key
  iapply key $$ [Hs Ho Hl]
  · isplitl [Hs]; · iexact Hs
    isplitl [Ho] <;> iassumption
  iintro Hf
  iapply (Transfers.wp_waitLocalO (countersEmb (U := UU)) 𝒱₀ (c : Thread nD τ) none () (credit_slot c)) $$ [Hf HO]
  · isplitl [Hf]; · iexact Hf
    isplitl [HO]; · iexact HO
    unfold env
    icases He with ⟨-, -, -, #Hlv⟩
    iapply (mayWait c (.dma locS) 0 (from0 c) (by rw [lv_loc]; decide)); iexact Hlv
  iintro ⟨⟨Ho, Hs⟩, Hl, HO⟩
  iapply Hk
  isplitl [Hs]; · iexact Hs
  isplitl [Ho]
  · iapply (Entails.of_eq (pointsTo_congr (put_full D c f))) $$ Ho
  isplitl [Hl]; · iexact Hl
  iexists _; iexact HO

theorem landed_pay (c : Dev nD) (h : Fin 3) (g : Buf (Elt F) ((slotM (sn c h)).view.loc (rt c : Thread nD τ))) :
    ((slotM (sn c h)).view.loc (rt c : Thread nD τ) ↦[(slotM (sn c h)).view.set]{fullShare}
        ((slotM (sn c h)).view.write (Elt F) g ((slotM (sn c h)).view.read (Elt F) (full D)) Finset.univ) : sProp 𝕄)
      ⊢ (exRd D).payload (recvCell (rt c) h) 0 c := by
  rw [payload_recv]
  unfold recvPay
  rw [gt_rt]
  exact Entails.of_eq (pointsTo_congr (copy_full D (sn c h) g))

/-- Starting hop `h`. -/
theorem wp_hop (K : GSem nD τ sig → ℕ) (c q : Dev nD) (hq : q = rt c) (h : Fin 3) (O' : CellTallies nD τ sig Unit)
    {src dst : Memref sig .tc .vmem S32x128 .i32} (hsrcE : src = slotM (sn c h)) (hdstE : dst = slotM (sn c h))
    {sS sR : DmaSem sig} (hS : sS = sendS h) (hR : sR = recvS h) {hsc : dst.view.ref.isScScratch = false}
    {hsrc : src.view.WordExact} {hdst : dst.view.WordExact} {hsem : DmaTarget.Typed .vmem (.dma sR) (.remote (Dev.tc q) dst (.dma sS) hsc)}
    {β : Type} {k : PUnit → Prog (TpuEff nD τ sig (Elt F) Λ₀ .tc) β} {Q : β → sProp 𝕄} :
    iprop(env D K c ∗ slotPt c (sn c h) (full D) ∗ room (rt c) h ∗ dutyTok ER (sendCell c h) 0 c ∗ dutyTok ER (recvCell (rt c) h) 0 c
        ∗ still c (O' + tallyAt (recvCell (rt c) h) () N))
      ⊢ iprop(((cred (tallyAt (sendCell c h) () N) ∗ still c O')
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc q) dst (.dma sS) hsc) (.dma sR) hsrc hdst hsem) k) Q) := by
  subst hq hsrcE hdstE hS hR
  unfold room env still
  rw [gt_rt]
  iintro ⟨⟨#Hi, #Hb, #Hm, -⟩, Hw, ⟨⟨%g, Hs⟩, #Hr⟩, Ht1, Ht2, ⟨%W, HO⟩⟩ Hk
  have h1 : c ∈ (exRd D).duties (sendCell c h) 0 := by rw [duties_send]; exact Finset.mem_singleton_self _
  have h2 : c ∈ (exRd D).duties (recvCell (rt c) h) 0 := by rw [duties_recv, lf_rt]; exact Finset.mem_singleton_self _
  have h3 := landed_pay D c h g
  have h4 : (slotPt c (sn c h) (full D) : sProp 𝕄) ⊢ (exRd D).payload (sendCell c h) 0 c := by
    rw [payload_send]; unfold sendPay; iintro H; iexact H
  have key := Rounds.wp_send_pointsTo (Γ := .empty) (defs := defs₀ (F := F)) (k := k) (Q := Q) (W := W) (src := slotM (sn c h)) (dst := slotM (sn c h))
      (sS := .dma (sendS h)) (sem := .dma (recvS h)) (hsrc := hsrc) (hdst := hdst) (hsem := hsem) 𝒱₀ ER (exRd D) (c : Thread nD τ) none
      (c' := (rt c : Thread nD τ)) (κ₁ := K (sendCell c h)) (κ₂ := K (recvCell (rt c) h)) (r₁ := 0) (r₂ := 0) (d₁ := c) (d₂ := c) (q := fullShare) (fs := full D) (fd := g)
      h1 h2 () () N (amount_slot (sn c h) _) (amount_send D c h c) (amount_recv D (rt c) h c) (O₀ := O' + tallyAt (recvCell (rt c) h) () N) O' rfl
      h4 h3 (Es := Set.univ) (by routes)
  iapply key $$ [Hw Hs Ht1 Ht2 HO]
  · isplitr; · iapply (inv_scell D K c (.inl h)); iexact Hi
    isplitr; · iapply (inv_scell D K (rt c) (.inr h)); iexact Hi
    isplitl [Hw]; · iexact Hw
    isplitl [Hs]; · iexact Hs
    isplitl [HO]; · iexact HO
    isplitl [Ht1]; · iexact Ht1
    isplitr; · iapply (mine_at c (.inl h)); iexact Hm
    isplitl [Ht2]; · iexact Ht2
    iexact Hr
  iintro ⟨Hc, HO⟩
  iapply Hk
  isplitl [Hc]; · iexact Hc
  iexists W; iexact HO

/-- Waiting for the block of hop `h`. -/
theorem wp_arrive (K : GSem nD τ sig → ℕ) (c : Dev nD) (h : Fin 3) {O : CellTallies nD τ sig Unit} (hO : From c (h.val + 1) O)
    {srcw dstw : Memref sig .tc .vmem S32x128 .i32}
    (hd : dstw.view.dmaCredit = N) {sR : DmaSem sig} (hR : sR = recvS h) {hsrcw : srcw.view.WordExact} {hdstw : dstw.view.WordExact}
    {β : Type} {k : PUnit → Prog (TpuEff nD τ sig (Elt F) Λ₀ .tc) β} {Q : β → sProp 𝕄} :
    iprop(env D K c ∗ cred (tallyAt (recvCell c h) () N) ∗ still c O ∗ atPos ER (recvCell c h) 0 ∅ 0)
      ⊢ iprop(((still c O ∗ atPos ER (recvCell c h) 1 ∅ 0 ∗ slotPt c (gt c h) (full D)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR srcw dstw hsrcw hdstw) k) Q) := by
  subst hR
  unfold still env
  iintro ⟨⟨#Hi, -, -, #Hl⟩, Hc, ⟨%W, HO⟩, Hat⟩ Hk
  iapply (Rounds.wp_wait_rest_token 𝒱₀ ER (exRd D) (c : Thread nD τ) none (κ := K (recvCell c h))
      (wpE_waitDma2_eq 𝒱₀ (c : Thread nD τ) none Set.univ) (Set.mem_univ _) () (O := O) (W := W) (R := 0) (m := 0) (T := ∅)
      ((Nat.zero_add _).trans (hd.trans (expect_recv D c h).symm))) $$ [Hc HO Hat]
  · isplitr; · iapply (inv_scell D K c (.inr h)); iexact Hi
    isplitl [Hc]; · rw [hd]; iexact Hc
    isplitl [HO]; · iexact HO
    isplitr
    · iapply (mayWait c (.dma (recvS h)) (h.val + 1) hO (by rw [lv_recv]; omega)); iexact Hl
    iexact Hat
  iintro ⟨HO, Hat, -, Hpay⟩
  iapply Hk
  isplitl [HO]; · iexists _; iexact HO
  isplitl [Hat]; · iexact Hat
  ihave Hp : recvPay D c h $$ [Hpay]
  · iapply (Entails.of_eq (rest_recv D c h)) $$ Hpay
  unfold recvPay
  iexact Hp

/-- Waiting for the copy of hop `h` to be over. -/
theorem wp_sent (K : GSem nD τ sig → ℕ) (c : Dev nD) (h : Fin 3) {O : CellTallies nD τ sig Unit} (hO : From c (h.val + 1) O)
    {srcw dstw : Memref sig .tc .vmem S32x128 .i32}
    (hd : dstw.view.dmaCredit = N) {sS : DmaSem sig} (hS : sS = sendS h) {hsrcw : srcw.view.WordExact} {hdstw : dstw.view.WordExact}
    {β : Type} {k : PUnit → Prog (TpuEff nD τ sig (Elt F) Λ₀ .tc) β} {Q : β → sProp 𝕄} :
    iprop(env D K c ∗ cred (tallyAt (sendCell c h) () N) ∗ still c O ∗ atPos ER (sendCell c h) 0 ∅ 0)
      ⊢ iprop(((still c O ∗ atPos ER (sendCell c h) 1 ∅ 0 ∗ slotPt c (sn c h) (full D)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS srcw dstw hsrcw hdstw) k) Q) := by
  subst hS
  unfold still env
  iintro ⟨⟨#Hi, -, -, #Hl⟩, Hc, ⟨%W, HO⟩, Hat⟩ Hk
  iapply (Rounds.wp_wait_rest_token 𝒱₀ ER (exRd D) (c : Thread nD τ) none (κ := K (sendCell c h))
      (wpE_waitDma2_eq 𝒱₀ (c : Thread nD τ) none Set.univ) (Set.mem_univ _) () (O := O) (W := W) (R := 0) (m := 0) (T := ∅)
      ((Nat.zero_add _).trans (hd.trans (expect_send D c h).symm))) $$ [Hc HO Hat]
  · isplitr; · iapply (inv_scell D K c (.inl h)); iexact Hi
    isplitl [Hc]; · rw [hd]; iexact Hc
    isplitl [HO]; · iexact HO
    isplitr
    · iapply (mayWait c (.dma (sendS h)) (h.val + 1) hO (by rw [lv_send]; omega)); iexact Hl
    iexact Hat
  iintro ⟨HO, Hat, -, Hpay⟩
  iapply Hk
  isplitl [HO]; · iexists _; iexact HO
  isplitl [Hat]; · iexact Hat
  ihave Hp : sendPay D c h $$ [Hpay]
  · iapply (Entails.of_eq (rest_send D c h)) $$ Hpay
  unfold sendPay
  iexact Hp

end Cert.Proof.RingTalk

end
-- ==== Proof.Ring.Body.lean ====
/-
  The ring on one device: what it is given, what it gives back, and the run between.
-/
module

public import proofs.«01_k».proof.Proof.Ring.Steps

@[expose] public section

noncomputable section

namespace Cert.Proof.RingTalk

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Blocks F)

/-! ## The devices, the slots and the counters the text names -/

theorem dev1 (c : Dev nD) : (⟨k0_dev1 c, k0_dev1_lt c⟩ : Dev nD) = lf c := by revert c; decide +kernel
theorem dev2 (c : Dev nD) : (⟨k0_dev2 c, k0_dev2_lt c⟩ : Dev nD) = rt c := by revert c; decide +kernel
theorem dev3 (c : Dev nD) : (⟨k0_dev3 c, k0_dev3_lt c⟩ : Dev nD) = rt c := by revert c; decide +kernel
theorem dev4 (c : Dev nD) : (⟨k0_dev4 c, k0_dev4_lt c⟩ : Dev nD) = rt c := by revert c; decide +kernel
theorem dev5 (c : Dev nD) : (⟨k0_dev5 c, k0_dev5_lt c⟩ : Dev nD) = rt c := by revert c; decide +kernel
theorem off1 (c : Dev nD) : k0_off1 c = ![c.val, 0, 0] := by revert c; decide +kernel
theorem off2 (c : Dev nD) (h : Fin 3) : k0_off2 c (BitVec.ofNat 32 h.val) = ![(sn c h).val, 0, 0] := by revert c h; decide +kernel
theorem slotA (c : Dev nD) (inb) : (aM.slice (Rect.unit (s := S4x32x128) (k0_off2 c 0#32) S1x32x128.size inb) (fun _ => rfl)).squeeze S32x128
    squeezes_S1x32x128_S32x128 = slotM (sn c 0) := slot_eq _ (off2 c 0) inb
theorem slotB (c : Dev nD) (inb) : (aM.slice (Rect.unit (s := S4x32x128) (k0_off2 c 1#32) S1x32x128.size inb) (fun _ => rfl)).squeeze S32x128
    squeezes_S1x32x128_S32x128 = slotM (sn c 1) := slot_eq _ (off2 c 1) inb
theorem slotC (c : Dev nD) (inb) : (aM.slice (Rect.unit (s := S4x32x128) (k0_off2 c 2#32) S1x32x128.size inb) (fun _ => rfl)).squeeze S32x128
    squeezes_S1x32x128_S32x128 = slotM (sn c 2) := slot_eq _ (off2 c 2) inb
theorem sent0 : ((cc0_scratch0.slice (Rect.unit (s := S3) ![0] S1.size inb_S3_S1_0)).squeeze S_ squeezes_S1_S_).sem = sendS 0 := by decide +kernel
theorem sent1 : ((cc0_scratch0.slice (Rect.unit (s := S3) ![1] S1.size inb_S3_S1_1)).squeeze S_ squeezes_S1_S_).sem = sendS 1 := by decide +kernel
theorem sent2 : ((cc0_scratch0.slice (Rect.unit (s := S3) ![2] S1.size inb_S3_S1_2)).squeeze S_ squeezes_S1_S_).sem = sendS 2 := by decide +kernel
theorem got0 : ((cc0_scratch1.slice (Rect.unit (s := S3) ![0] S1.size inb_S3_S1_0)).squeeze S_ squeezes_S1_S_).sem = recvS 0 := by decide +kernel
theorem got1 : ((cc0_scratch1.slice (Rect.unit (s := S3) ![1] S1.size inb_S3_S1_1)).squeeze S_ squeezes_S1_S_).sem = recvS 1 := by decide +kernel
theorem got2 : ((cc0_scratch1.slice (Rect.unit (s := S3) ![2] S1.size inb_S3_S1_2)).squeeze S_ squeezes_S1_S_).sem = recvS 2 := by decide +kernel
theorem locEq : (cc0_scratch2 : DmaSems sig S_).sem = locS := by decide +kernel

/-! ## One hop -/

/-- The tokens of the payments device `c` makes with hop `h`. -/
def hopToks (c : Dev nD) (h : Fin 3) : sProp 𝕄 := iprop(dutyTok ER (sendCell c h) 0 c ∗ dutyTok ER (recvCell (rt c) h) 0 c)
/-- Needed for hop `h`, besides room at the neighbour and the block to send. -/
def hopPre (c : Dev nD) (h : Fin 3) : sProp 𝕄 :=
  iprop(hopToks c h ∗ atPos ER (sendCell c h) 0 ∅ 0 ∗ atPos ER (recvCell c h) 0 ∅ 0 ∗ cred (tallyAt (recvCell c h) () N))
def hopPost (c : Dev nD) (h : Fin 3) : sProp 𝕄 := iprop(atPos ER (sendCell c h) 1 ∅ 0 ∗ atPos ER (recvCell c h) 1 ∅ 0)

/-- Hop `h`: send on, wait until the block is sent, wait for the next one. -/
theorem wp_step (K : GSem nD τ sig → ℕ) (c q : Dev nD) (hq : q = rt c) (h : Fin 3) {O' : CellTallies nD τ sig Unit} (hO : From c (h.val + 1) O')
    {src dst : Memref sig .tc .vmem S32x128 .i32} (hsrcE : src = slotM (sn c h)) (hdstE : dst = slotM (sn c h))
    {sS sR sS' sR' : DmaSem sig} (hS : sS = sendS h) (hR : sR = recvS h) (hS' : sS' = sendS h) (hR' : sR' = recvS h) {hsc : dst.view.ref.isScScratch = false}
    {hsrc : src.view.WordExact} {hdst : dst.view.WordExact} {hsem : DmaTarget.Typed .vmem (.dma sR) (.remote (Dev.tc q) dst (.dma sS) hsc)}
    {a b a' b' : Memref sig .tc .vmem S32x128 .i32} (hb : b = slotM (sn c h)) (hb' : b' = slotM (sn c h))
    {ha : a.view.WordExact} {hbw : b.view.WordExact} {ha' : a'.view.WordExact} {hbw' : b'.view.WordExact}
    {β : Type} {k : PUnit → Prog (TpuEff nD τ sig (Elt F) Λ₀ .tc) β} {Q : β → sProp 𝕄} :
    iprop(env D K c ∗ slotPt c (sn c h) (full D) ∗ room (rt c) h ∗ hopPre c h ∗ still c (O' + tallyAt (recvCell (rt c) h) () N))
      ⊢ iprop(((slotPt c (sn c h) (full D) ∗ slotPt c (gt c h) (full D) ∗ hopPost c h ∗ still c O')
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc q) dst (.dma sS) hsc) (.dma sR) hsrc hdst hsem)
            (fun _ => .op (.waitDma2 sS' a b ha hbw) (fun _ => .op (.waitDma2 sR' a' b' ha' hbw') k))) Q) := by
  unfold hopPre hopToks
  iintro ⟨#He, Hw, Hr, ⟨⟨Ht1, Ht2⟩, As, Ar, Cr⟩, HO⟩ Hk
  iapply (wp_hop D K c q hq h O' hsrcE hdstE hS hR) $$ [Hw Hr Ht1 Ht2 HO]
  · isplitr; · iexact He
    isplitl [Hw]; · iexact Hw
    isplitl [Hr]; · iexact Hr
    isplitl [Ht1]; · iexact Ht1
    isplitl [Ht2] <;> iassumption
  iintro ⟨Cs, HO⟩
  iapply (wp_sent D K c h hO (hb ▸ credit_slot _) hS') $$ [Cs HO As]
  · isplitr; · iexact He
    isplitl [Cs]; · iexact Cs
    isplitl [HO] <;> iassumption
  iintro ⟨HO, As, Hw⟩
  iapply (wp_arrive D K c h hO (hb' ▸ credit_slot _) hR') $$ [Cr HO Ar]
  · isplitr; · iexact He
    isplitl [Cr]; · iexact Cr
    isplitl [HO] <;> iassumption
  iintro ⟨HO, Ar, Hg⟩
  iapply Hk
  isplitl [Hw]; · iexact Hw
  isplitl [Hg]; · iexact Hg
  unfold hopPost
  isplitl [As Ar]
  · isplitl [As] <;> iassumption
  iexact HO

/-! ## The gathered array as its slots -/

theorem cut (c : Dev nD) (f) : (pt c cc0_stg1_0 f : sProp 𝕄) = bigSep Finset.univ fun s : Dev nD => slotPt c s f := by
  have h := pointsTo_biUnion (Ix := Unit) (Val := Elt F) (Name := ℕ) (U := UU) (Lvl := ℕ) (ℓ := (c : Thread nD τ).loc cc0_stg1_0) (q := fullShare) (f := f)
    (Finset.univ : Finset (Fin 4)) slotSet slots_disjoint
  rw [slots_cover] at h
  exact h

/-! ## The whole run -/

/-- The tokens of all payments device `c` makes. -/
def toks (c : Dev nD) : sProp 𝕄 :=
  iprop(dutyTok ER (barCell (lf c)) 0 c ∗ dutyTok ER (barCell (rt c)) 0 c ∗ bigSep Finset.univ (hopToks c))

/-- Given to device `c`: the ring's state, its credits, its block, and the array at any contents. -/
def talkPre (K : GSem nD τ sig → ℕ) (c : Dev nD) : sProp 𝕄 :=
  iprop(env D K c ∗ atPos ER (barCell c) 0 ∅ 0 ∗ (bigSep Finset.univ fun k : CK => atPos ER (scell c k) 0 ∅ 0)
    ∗ toks c ∗ cred (tallyAt (barCell c) () 2) ∗ (bigSep Finset.univ fun h => cred (tallyAt (recvCell c h) () N))
    ∗ pt c cc0_stg0_0 (D c) ∗ (∃ f, pt c cc0_stg1_0 f) ∗ semVal (locCell c) 0 ∗ still c (O₀ c))

/-- Given back: all counters at zero, the block, the gathered array. -/
def talkPost (c : Dev nD) : sProp 𝕄 :=
  iprop(semVal (barCell c) 0 ∗ (bigSep Finset.univ fun k : CK => semVal (scell c k) 0) ∗ semVal (locCell c) 0
    ∗ pt c cc0_stg0_0 (D c) ∗ pt c cc0_stg1_0 (full D) ∗ still c 0)

theorem close_bar (K : GSem nD τ sig → ℕ) (c : Dev nD) :
    iprop(cellInv ER (exRd D) (K (barCell c)) (barCell c) ∗ atPos ER (barCell c) 1 ∅ 0) ⊢ (|={Set.univ}=> semVal (barCell c) 0 : sProp 𝕄) :=
  Rounds.cell_close ER (exRd D) (Set.mem_univ _) id (duties_later D _)
theorem close_scoped (K : GSem nD τ sig → ℕ) (c : Dev nD) :
    iprop(invs D K ∗ bigSep Finset.univ fun k : CK => atPos ER (scell c k) 1 ∅ 0)
      ⊢ (|={Set.univ}=> bigSep Finset.univ fun k : CK => semVal (scell c k) 0 : sProp 𝕄) := by
  refine BIBase.Entails.trans ?_ (Rounds.cells_close ER (exRd D) Finset.univ (scell c) (fun k => K (scell c k)) (fun _ _ => Set.mem_univ _) (fun _ _ => id)
    (fun _ => 1) (fun k _ => duties_later D _))
  exact bigSep_with_persistent fun k _ => sep_mono_left (inv_scell D K c k)

theorem cks (Φ : CK → sProp 𝕄) : bigSep Finset.univ Φ
    = iprop((Φ (.inl 0) ∗ Φ (.inl 1) ∗ Φ (.inl 2)) ∗ (Φ (.inr 0) ∗ Φ (.inr 1) ∗ Φ (.inr 2))) := by
  rw [bigSep_univ_sum, fin3 (fun h => Φ (.inl h)), fin3 (fun h => Φ (.inr h))]
  rfl

/-- What goes to the left neighbour: room for its three blocks. -/
theorem pay_left (c : Dev nD) : iprop(mine (F := F) c ∗ (∃ f, slotPt c (gt c 0) f) ∗ (∃ f, slotPt c (gt c 1) f) ∗ (∃ f, slotPt c (gt c 2) f)) ⊢ (barPay c (lf c) : sProp 𝕄) := by
  unfold barPay
  rw [if_pos (rt_lf c).symm, fin3]
  unfold room
  iintro ⟨#Hm, H0, H1, H2⟩
  isplitl [H0]
  · isplitl [H0]; · iexact H0
    iapply (mine_at c (.inr 0)); iexact Hm
  isplitl [H1]
  · isplitl [H1]; · iexact H1
    iapply (mine_at c (.inr 1)); iexact Hm
  isplitl [H2]; · iexact H2
  iapply (mine_at c (.inr 2)); iexact Hm
/-- Nothing goes to the right one. -/
theorem pay_right (c : Dev nD) : (barPay c (rt c) : sProp 𝕄) = iprop(emp) := if_neg (by revert c; decide)

set_option maxHeartbeats 1000000 in
theorem talkRun (K : GSem nD τ sig → ℕ) (c : Dev nD) (harg0 harg1) (Kt : PUnit → sProp 𝕄) :
    iprop(talkPre D K c ∗ (talkPost D c -∗ Kt ⟨⟩))
      ⊢ wp frame (wpE (defs₀ (F := F)) 𝒱₀ (c : Thread nD τ) none) Set.univ
        (cc0__dest_gather_body dM harg0 aM harg1 cc0_scratch0 cc0_scratch1 cc0_scratch2) Kt := by
  rw [cc0__dest_gather_body_eq_skeleton]
  unfold cc0__dest_gather_body_skel
  rw [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId, dev1, dev2]
  unfold talkPre toks
  rw [cks, fin3, fin3]
  iintro ⟨⟨#He, Hb, ⟨⟨As0, As1, As2⟩, ⟨Ar0, Ar1, Ar2⟩⟩, ⟨Tl, Tr, ⟨T0, T1, T2⟩⟩, Cb, ⟨C0, C1, C2⟩, Hd, ⟨%f, Ha⟩, Hl, HO⟩, Hk⟩
  ihave Ha := (Entails.of_eq ((cut c f).trans (slots4 c (fun s => slotPt c s f)))) $$ Ha
  icases Ha with ⟨Sc, S0, S1, S2⟩
  unfold O₀
  iapply (wp_tell D K c (lf c) (Or.inr (rt_lf c).symm) (owedB c) _ rfl) $$ [S0 S1 S2 Tl HO]
  · isplitr; · iexact He
    isplitl [S0 S1 S2]
    · iapply (pay_left c)
      unfold env
      icases He with ⟨-, -, #Hm, -⟩
      isplitr; · iexact Hm
      isplitl [S0]; · iexists f; iexact S0
      isplitl [S1]; · iexists f; iexact S1
      iexists f; iexact S2
    isplitl [Tl] <;> iassumption
  iintro HO
  unfold owedB
  iapply (wp_tell D K c (rt c) (Or.inl (lf_rt c).symm) (owed0 c) _ rfl) $$ [Tr HO]
  · isplitr; · iexact He
    isplitr; · rw [pay_right]; iempintro
    isplitl [Tr] <;> iassumption
  iintro HO
  iapply (wp_hear D K c _ rfl) $$ [Cb HO Hb]
  · isplitr; · iexact He
    isplitl [Cb]; · iexact Cb
    isplitl [HO] <;> iassumption
  iintro ⟨HO, Hb, Hr⟩
  ihave Hr := (Entails.of_eq (fin3 (room (F := F) (rt c)))) $$ Hr
  icases Hr with ⟨R0, R1, R2⟩
  iapply (wp_own D K c (slot_eq c (off1 c) _) (slot_eq c (off1 c) _) locEq) $$ [Hd Sc Hl HO]
  · isplitr; · iexact He
    isplitl [Hd]; · iexact Hd
    isplitl [Sc]; · iexists f; iexact Sc
    isplitl [Hl] <;> iassumption
  iintro ⟨Hd, Sc, Hl, HO⟩
  unfold owed0
  iapply (wp_step D K c _ (dev3 c) 0 (from1 c) (slotA c _) (slotA c _) sent0 got0 sent0 got0 (slotA c _) (slotA c _)) $$ [Sc R0 T0 As0 Ar0 C0 HO]
  · isplitr; · iexact He
    rw [sn_zero]
    isplitl [Sc]; · iexact Sc
    isplitl [R0]; · iexact R0
    isplitl [T0 As0 Ar0 C0]
    · unfold hopPre
      isplitl [T0]; · iexact T0
      isplitl [As0]; · iexact As0
      isplitl [Ar0]; · iexact Ar0
      iexact C0
    iexact HO
  rw [sn_zero]
  iintro ⟨Sc, S0, P0, HO⟩
  unfold owed1
  iapply (wp_step D K c _ (dev4 c) 1 (from2 c) (slotB c _) (slotB c _) sent1 got1 sent1 got1 (slotB c _) (slotB c _)) $$ [S0 R1 T1 As1 Ar1 C1 HO]
  · isplitr; · iexact He
    rw [sn_one]
    isplitl [S0]; · iexact S0
    isplitl [R1]; · iexact R1
    isplitl [T1 As1 Ar1 C1]
    · unfold hopPre
      isplitl [T1]; · iexact T1
      isplitl [As1]; · iexact As1
      isplitl [Ar1]; · iexact Ar1
      iexact C1
    iexact HO
  rw [sn_one]
  iintro ⟨S0, S1, P1, HO⟩
  unfold owed2
  iapply (wp_step D K c _ (dev5 c) 2 (from3 c) (slotC c _) (slotC c _) sent2 got2 sent2 got2 (slotC c _) (slotC c _)) $$ [S1 R2 T2 As2 Ar2 C2 HO]
  · isplitr; · iexact He
    rw [sn_two]
    isplitl [S1]; · iexact S1
    isplitl [R2]; · iexact R2
    isplitl [T2 As2 Ar2 C2]
    · unfold hopPre
      isplitl [T2]; · iexact T2
      isplitl [As2]; · iexact As2
      isplitl [Ar2]; · iexact Ar2
      iexact C2
    iexact HO
  rw [sn_two]
  iintro ⟨S1, S2, P2, HO⟩
  unfold hopPost
  icases P0 with ⟨As0, Ar0⟩
  icases P1 with ⟨As1, Ar1⟩
  icases P2 with ⟨As2, Ar2⟩
  unfold env
  icases He with ⟨#Hi, -, -, -⟩
  rw [wp_ret]
  imod (close_bar D K c) $$ [Hb] with Hb0
  · isplitr; · iapply (inv_bar D K c); iexact Hi
    iexact Hb
  imod (close_scoped D K c) $$ [As0 As1 As2 Ar0 Ar1 Ar2] with Hs0
  · isplitr; · iexact Hi
    rw [cks]
    isplitl [As0 As1 As2]
    · isplitl [As0]; · iexact As0
      isplitl [As1]; · iexact As1
      iexact As2
    isplitl [Ar0]; · iexact Ar0
    isplitl [Ar1]; · iexact Ar1
    iexact Ar2
  imodintro
  iapply Hk
  unfold talkPost
  isplitl [Hb0]; · iexact Hb0
  isplitl [Hs0]; · iexact Hs0
  isplitl [Hl]; · iexact Hl
  isplitl [Hd]; · iexact Hd
  isplitl [Sc S0 S1 S2]
  · iapply (Entails.of_eq ((cut c (full D)).trans (slots4 c (fun s => slotPt c s (full D)))).symm)
    isplitl [Sc]; · iexact Sc
    isplitl [S0]; · iexact S0
    isplitl [S1] <;> iassumption
  unfold owed3
  iexact HO

end Cert.Proof.RingTalk

end
-- ==== Proof.Ring.Region.lean ====
/-
  The ring as one region of the program: what goes in, what the body leaves, what comes out.
-/
module

public import proofs.«01_k».proof.Proof.Ring.Body
public import proofs.«01_k».proof.Proof.Gen.GatherIdeal.Frame
public import proofs.«01_k».proof.Proof.Gen.GatherIdeal.Points
public import Idealize.ShloMosaic.Lib.Rounds.Family
public import Idealize.ShloMosaic.Lib.Pipeline.RegionTalk
public import Idealize.ShloMosaic.Lib.Pipeline.DatRel
public import Idealize.ShloMosaic.Lib.Pipeline.ArrRel
public import Idealize.ShloMosaic.Lib.Pipeline.ValueKit

@[expose] public section

noncomputable section

namespace Cert.Proof.RingTalk

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Blocks F)

open Idealize.ShloMosaic.Pipeline (Dat RDat Seg HostSeg RegionSeg BodyObligationRel)

/-- A family of pairs is two families, -/
theorem unpair {ι : Type} [DecidableEq ι] {S : Finset ι} {Φ Ψ : ι → sProp 𝕄} :
    (bigSep S fun i => iprop(Φ i ∗ Ψ i) : sProp 𝕄) ⊢ iprop(bigSep S Φ ∗ bigSep S Ψ) := Entails.of_eq (bigSep_sep' _ _ _)
/-- and back. -/
theorem unite {ι : Type} [DecidableEq ι] {S : Finset ι} {Φ Ψ : ι → sProp 𝕄} :
    (iprop(bigSep S Φ ∗ bigSep S Ψ) : sProp 𝕄) ⊢ bigSep S fun i => iprop(Φ i ∗ Ψ i) := Entails.of_eq (bigSep_sep' _ _ _).symm

/-! ## What a device carries into the call -/

/-- The call's own counters: those of the ring, and the one of the local copy. -/
def osem0 : CK ⊕ Unit → SemLoc sig | .inl k => csem k | .inr _ => .dma locS

theorem ownSems_eq (c : Dev nD) : (Pipeline.ownSems0 osem0 c : sProp 𝕄)
    = iprop((bigSep Finset.univ fun k : CK => semVal (scell c k) 0) ∗ semVal (locCell c) 0) := by
  unfold Pipeline.ownSems0
  rw [bigSep_univ_sum, show (Finset.univ : Finset Unit) = {()} from rfl, bigSep_singleton]
  rfl

/-- The credits for what is to come. -/
def awaits (c : Dev nD) : sProp 𝕄 :=
  iprop(cred (tallyAt (barCell c) () 2) ∗ bigSep Finset.univ fun h => cred (tallyAt (recvCell c h) () N))

/-- From the launch on: the cells' invariants, the position at the barrier, the rights to open the scoped counters,
    the tokens of the payments to make, and the credits. -/
def start (c : Dev nD) : sProp 𝕄 :=
  iprop((∃ K, invs D K ∗ bars ∗ atPos ER (barCell c) 0 ∅ 0 ∗ (bigSep Finset.univ fun k : CK => openTok ER (scell c k)) ∗ toks c)
    ∗ awaits c)

/-- The same once the scoped counters are open. -/
def opened (c : Dev nD) : sProp 𝕄 :=
  iprop((∃ K, env D K c ∗ atPos ER (barCell c) 0 ∅ 0 ∗ (bigSep Finset.univ fun k : CK => atPos ER (scell c k) 0 ∅ 0) ∗ toks c)
    ∗ awaits c ∗ semVal (locCell c) 0)
/-- And when the body is through. -/
def closed (c : Dev nD) : sProp 𝕄 :=
  iprop(semVal (barCell c) 0 ∗ (bigSep Finset.univ fun k : CK => semVal (scell c k) 0) ∗ semVal (locCell c) 0)

theorem open_cells (c : Dev nD) : iprop(start D c ∗ Pipeline.ownSems0 osem0 c ∗ levAts L lv) ⊢ (|={Set.univ}=> opened D c : sProp 𝕄) := by
  rw [ownSems_eq]
  unfold start opened
  iintro ⟨⟨⟨%K, #Hi, #Hb, Hat, Hop, Htok⟩, Hcr⟩, ⟨Hs, Hl⟩, #Hlev⟩
  imod (Rounds.cells_open ER (exRd D) Finset.univ (scell c) (fun k => K (scell c k)) (Es := Set.univ) (fun k _ => Set.mem_univ _))
    $$ [Hop Hs] with Ho
  · isplitl [Hop]
    · iapply (bigSep_with_persistent (R := invs D K) (Φ := fun k : CK => openTok ER (scell c k)) (Ψ := fun k : CK => iprop(cellInv ER (exRd D) (K (scell c k)) (scell c k) ∗ openTok ER (scell c k))) fun k _ => by
        iintro ⟨#H1, H2⟩
        isplitr; · iapply (inv_scell D K c k); iexact H1
        iexact H2)
      isplitr; · iexact Hi
      iexact Hop
    iexact Hs
  ihave Ho' := unpair $$ Ho
  icases Ho' with ⟨Hats, #Hm⟩
  imodintro
  isplitr [Hcr Hl]
  · iexists K
    isplitr
    · unfold env
      isplitr; · iexact Hi
      isplitr; · iexact Hb
      isplitr; · unfold mine; iexact Hm
      iexact Hlev
    isplitl [Hat]; · iexact Hat
    isplitl [Hats]; · iexact Hats
    iexact Htok
  isplitl [Hcr]; · iexact Hcr
  iexact Hl

/-! ## The proof data -/

variable (V : Dev nD → Valuation τ sig (Elt F))

/-- The valuation before the call agrees with the blocks. -/
def Fits : Prop := ∀ c, V c (Proc.devRef .tc main_v1) = D c

variable [∀ e, Nonempty (Elt F e)]

/-- What the call leaves in the staging buffers: the block, and the gathered array. -/
def left0 (c : Dev nD) : (w : Fin 2) → (win0 w).block.Idx → Elt F (win0 w).elt
  | 0 => D c | 1 => full D

def dat0 (c : Dev nD) : Dat τ (Elt F) Unit ℕ UU ℕ cfg0 c where
  A w := V c (Proc.devRef .tc (Pipeline.arrRef spec0 w))
  after w _ := left0 D c w
  Φ t := if t.val = 0 then opened D c else closed c
  q _ := fullShare
  owed t := if t.val = 0 then O₀ c else 0

/-- The result is the gathered array. -/
def Rl0 (w : Fin 2) (X : (win0 w).block.Idx → Elt F (win0 w).elt) : Prop :=
  match w, X with
  | 1, X => X = full D
  | _, _ => True
def fgt0 (w : Fin 2) : Bool := decide (w = 1)

abbrev rdat0 (c : Dev nD) : RDat τ (Elt F) Unit ℕ UU ℕ cfg0 c := (dat0 D V c).toRRel fgt0 (fun w _ X => Rl0 D w X)

theorem owed_first (c : Dev nD) : (dat0 D V c).owed (t0_0 : Fin cfg0.N).castSucc = O₀ c := by
  show (if (t0_0.castSucc : Fin (cfg0.N + 1)).val = 0 then O₀ c else 0) = O₀ c; exact if_pos rfl
theorem owed_zero (c : Dev nD) : (dat0 D V c).owed 0 = O₀ c := by
  show (if ((0 : Fin (cfg0.N + 1)).val = 0) then O₀ c else 0) = O₀ c; exact if_pos rfl
theorem owed_succ (c : Dev nD) : (dat0 D V c).owed (t0_0 : Fin cfg0.N).succ = 0 := by
  show (if (t0_0.succ : Fin (cfg0.N + 1)).val = 0 then O₀ c else 0) = 0; exact if_neg (by decide)
theorem owed_last (c : Dev nD) : (dat0 D V c).owed (Fin.last _) = 0 := by
  show (if (Fin.last cfg0.N).val = 0 then O₀ c else 0) = 0
  rw [Fin.val_last, if_neg (by rw [show cfg0.N = 1 from N_0]; decide)]

theorem owes_in {c : Dev nD} (t : Fin (cfg0.N + 1)) (O : CellTallies nD τ sig Unit) (h0 : (dat0 D V c).owed t = O) :
    (still c O : sProp 𝕄) ⊢ ((dat0 D V c).owesAt () t : sProp 𝕄) := by
  unfold Dat.owesAt Pipeline.owesWithin Dat.bound still; rw [h0]
  iintro ⟨%W, HO⟩; iexists W; isplitr; · ipureintro; exact fun _ _ => Or.inl trivial
  iexact HO
theorem owes_out {c : Dev nD} (t : Fin (cfg0.N + 1)) (O : CellTallies nD τ sig Unit) (h0 : (dat0 D V c).owed t = O) :
    ((dat0 D V c).owesAt () t : sProp 𝕄) ⊢ still c O := by
  unfold Dat.owesAt Pipeline.owesWithin still; rw [h0]
  iintro ⟨%W, -, HO⟩; iexists W; iexact HO

/-! ## The body obligation -/

/-- A whole staging buffer, owned. -/
theorem owns_pt (c : Dev nD) (b : Ref sig .tc) (X : b.ty.Contents (Elt F)) :
    (owns (c : Thread nD τ) (Memref.whole b) fullShare X : sProp 𝕄) = pt c b X := by
  have h₁ : (iprop(∃ f : Buf (Elt F) ((c : Thread nD τ).loc b), ⌜f = X⌝ ∗ ((c : Thread nD τ).loc b ↦{fullShare} f)) : sProp 𝕄) ⊢ pt c b X := by
    iintro ⟨%f, %h, H⟩; subst h; iexact H
  have h₂ : (pt c b X : sProp 𝕄) ⊢ iprop(∃ f : Buf (Elt F) ((c : Thread nD τ).loc b), ⌜f = X⌝ ∗ ((c : Thread nD τ).loc b ↦{fullShare} f)) := by
    iintro H; iexists X; isplitr; · ipureintro; rfl
    iexact H
  exact (owns_whole_eq _ _ _ _).trans (BI.equiv_iff.mp ⟨h₁, h₂⟩)

/-- The block, as the body finds it. -/
theorem before_d (h : Fits D V) (c : Dev nD) (d) : (dat0 D V c).before (0 : Fin 2) t0_0 d = D c := by
  rw [(dat0 D V c).before_fetched 0 t0_0 (fetch0_0 t0_0) d, ← h c]
  funext y
  show V c (Proc.devRef .tc main_v1) (((cfg0.win 0).blk t0_0).view.emb y) = V c (Proc.devRef .tc main_v1) y
  refine congrArg _ (funext fun a => Fin.ext ?_)
  exact Pipeline.Window.rect_emb_val_of_index_zero (cfg0.win 0) t0_0 a (by revert a; decide) y

set_option maxHeartbeats 1000000 in
theorem body0 (h : Fits D V) (c : Dev nD) :
    BodyObligationRel (dat0 D V c) defs₀ 𝒱₀ () Set.univ fgt0 (fun w _ X => Rl0 D w X) := fun t => by
  obtain rfl := fin_N0 t
  rw [bigSep_W0, bigSep_W0]
  show iprop(opened D c ∗ (dat0 D V c).owesAt () (t0_0 : Fin cfg0.N).castSucc
      ∗ (∃ d, owns (c : Thread nD τ) (Memref.whole cc0_stg0_0) fullShare ((dat0 D V c).before (0 : Fin 2) t0_0 d))
      ∗ (∃ Y, ⌜(rdat0 D V c).Finds (1 : Fin 2) t0_0 Y⌝ ∗ owns (c : Thread nD τ) (Memref.whole cc0_stg1_0) fullShare Y))
    ⊢ wp frame (wpE (defs₀ (F := F)) 𝒱₀ (c : Thread nD τ) none) Set.univ (cc0__dest_gather_body dM (hstage0_0 0) aM (hstage0_1 0) cc0_scratch0 cc0_scratch1 cc0_scratch2) fun _ =>
      iprop(closed c ∗ (dat0 D V c).owesAt () (t0_0 : Fin cfg0.N).succ
        ∗ owns (c : Thread nD τ) (Memref.whole cc0_stg0_0) fullShare (D c)
        ∗ (∃ X, ⌜X = full D⌝ ∗ owns (c : Thread nD τ) (Memref.whole cc0_stg1_0) fullShare X))
  simp only [before_d D V h c, owns_pt]
  unfold opened awaits
  iintro ⟨⟨⟨%K, He, Hat, Hats, Htok⟩, ⟨HcB, HcV⟩, Hl⟩, HO, ⟨%_, Hd⟩, ⟨%Y, -, Ho⟩⟩
  ihave HO := (owes_out D V _ (O₀ c) (owed_first D V c)) $$ HO
  iapply (talkRun D K c _ _ _)
  isplitr []
  · unfold talkPre
    isplitl [He]; · iexact He
    isplitl [Hat]; · iexact Hat
    isplitl [Hats]; · iexact Hats
    isplitl [Htok]; · iexact Htok
    isplitl [HcB]; · iexact HcB
    isplitl [HcV]; · iexact HcV
    isplitl [Hd]; · iexact Hd
    isplitl [Ho]; · iexists Y; iexact Ho
    isplitl [Hl]; · iexact Hl
    iexact HO
  unfold talkPost closed
  iintro ⟨Hb, Hs, Hl, Hd, Ho, HO⟩
  isplitl [Hb Hs Hl]
  · isplitl [Hb]; · iexact Hb
    isplitl [Hs]; · iexact Hs
    iexact Hl
  isplitl [HO]; · iapply (owes_in D V _ 0 (owed_succ D V c)); iexact HO
  isplitl [Hd]; · iexact Hd
  iexists (full D)
  isplitr; · ipureintro; rfl
  iexact Ho

/-! ## What the arrays hold afterwards -/

/-- The valuation after the call: the gathered array is in. -/
def withOut (c : Dev nD) : Valuation τ sig (Elt F) := Function.update (V c) (Proc.devRef .tc main_v2) (full D)

theorem whole1 : (cfg0.win 1).WholeAt t0_0 := by decide +kernel

theorem arr_out (c : Dev nD) {G : Buf (Elt F) (((cfg0.win 1).arr.view.loc (c : Thread nD τ)))}
    (hG : (rdat0 D V c).ArrAt (1 : Fin 2) cfg0.N G) : (show S4x32x128.Idx → Elt F .i32 from G) = full D := by
  obtain ⟨X, hX, hA⟩ := Pipeline.RDat.ArrAt.emb_eq_of_wholeAt (rd := rdat0 D V c) (w := (1 : Fin cfg0.W)) (t₀ := t0_0) hG whole1
  have hP : X = full D := (dat0 D V c).toRRel_leaves (fgt := fgt0) (Rl := fun w _ X => Rl0 D w X) (w := (1 : Fin 2)) (by decide) hX
  have e : (show S4x32x128.Idx → Elt F .i32 from G) = X := funext fun j => hA j
  rw [e, hP]

theorem arr_in (c : Dev nD) {G : Buf (Elt F) (((cfg0.win 0).arr.view.loc (c : Thread nD τ)))}
    (hG : (rdat0 D V c).ArrAt (0 : Fin 2) cfg0.N G) : G = V c (Proc.devRef .tc (Pipeline.arrRef spec0 0)) := by
  rw [(rdat0 D V c).ArrAt_in (0 : Fin 2) rfl cfg0.N] at hG
  exact hG

theorem arr_all (c : Dev nD) {G : (w : Fin 2) → Buf (Elt F) (((cfg0.win w).arr.view.loc (c : Thread nD τ)))}
    (hG : ∀ w, (rdat0 D V c).ArrAt w cfg0.N (G w)) (w : Fin 2) :
    G w = withOut D V c (Proc.devRef .tc (Pipeline.arrRef spec0 w)) := by
  unfold withOut
  match w with
  | 0 =>
    rw [arr_in D V c (hG 0)]
    exact (Function.update_of_ne (by decide) _ _).symm
  | 1 => exact (arr_out D V c (hG 1)).trans (Function.update_self (Proc.devRef .tc main_v2 : DevRef τ sig) (full D) (V c)).symm

/-! ## The region -/

abbrev adm0 : (p : Fin 1) → (pcfgs (F := F) p).Adm := fun p => (cfgs p).toPCfg_adm
def pdats : (p : Fin 1) → (c : Dev nD) → Dat τ (Elt F) Unit ℕ UU ℕ (Pipeline.pin (pcfgs (F := F)) adm0 p) c := fun _ c => dat0 D V c
def rdats : (p : Fin 1) → (c : Dev nD) → RDat τ (Elt F) Unit ℕ UU ℕ (Pipeline.pin (pcfgs (F := F)) adm0 p) c := fun _ c => rdat0 D V c

theorem O₀_pos (c : Dev nD) {g : GSem nD τ sig} {u : Unit} (h : 0 < O₀ c g u) : u ∈ L g ∧ 0 < lv g u := by
  unfold O₀ owedB at h
  simp only [Pi.add_apply, Finsupp.add_apply] at h
  have key : ∀ {a b : ℕ}, 0 < a + b → 0 < a ∨ 0 < b := fun h => by omega
  have bar : ∀ p : Dev nD, g = barCell p → u ∈ L g ∧ 0 < lv g u := fun p e => by
    subst e; exact ⟨by rw [L_tc]; exact Finset.mem_singleton_self _, by cases u; rw [lv_bar]; decide⟩
  rcases key h with h | h
  · rcases key h with h | h
    · obtain ⟨i, -, rfl⟩ := from0 c g u h
      exact ⟨by rw [L_tc]; exact Finset.mem_singleton_self _, by cases u; rw [lv_recv]; omega⟩
    · exact bar _ (tallyAt_pos h)
  · exact bar _ (tallyAt_pos h)

/-- The levels of the staging counters are below everything owed. -/
theorem stage_level (c : Dev nD) (w : Fin 2) (s : Fin (spec0 w).nbuf) : lv ((c : Thread nD τ), .dma ((spec0 w).sem s)) () = 0 := by
  have : ∀ (w : Fin 2) (s : Fin (spec0 w).nbuf), kind ((spec0 w).sem s) = none := by decide
  dsimp only [lv]; rw [this w s]

theorem waits0 (c : Dev nD) : (levAts L lv : sProp 𝕄) ⊢ Pipeline.RDat.cellsWaits (Pipeline.pin (pcfgs (F := F)) adm0) (rdats D V) () 0 c :=
  Pipeline.RDat.cellsWaits_intro (Pipeline.pin (pcfgs (F := F)) adm0) (rdats D V) () 0 c fun w s t =>
    have owed : ∀ (g : GSem nD τ sig) (u : Unit), 0 < (dat0 D V c).owed t g u → u ∈ L g ∧ 0 < lv g u := fun g u hg => by
      have e : (dat0 D V c).owed t = if t.val = 0 then O₀ c else 0 := rfl
      rw [e] at hg
      split at hg
      · exact O₀_pos c hg
      · exact absurd hg (Nat.lt_irrefl 0)
    MayOwe.of_cut 0 (fun q hq => by rw [Finset.mem_singleton.mp hq, L_tc]; exact Finset.mem_singleton_self _)
      (fun g u hg => (owed g u hg).1)
      (fun q hq => by rw [Finset.mem_singleton.mp hq]; exact le_of_eq (stage_level c w s))
      (fun g u hg => (owed g u hg).2)

theorem share0 (c : Dev nD) (w : Fin 2) : (dat0 D V c).share w = fullShare := by
  unfold Dat.share; split <;> rfl
theorem arrs_sub : Pipeline.arrRefs (τ := τ) spec0 ⊆ Pipeline.ucRefs τ sig := Pipeline.arrRefs_sub_ucRefs spec0 (by decide)

/-- What rides beside the buffers before the call, and after it. -/
def before0 (c : Dev nD) : sProp 𝕄 := iprop(start D c ∗ still c (O₀ c))
def after0 (c : Dev nD) : sProp 𝕄 := iprop(semVal (barCell c) 0 ∗ ∃ W, owes (c : Thread nD τ) (0 : CellTallies nD τ sig Unit) W)

set_option backward.isDefEq.respectTransparency.types false in
def region (h : Fits D V) : Pipeline.RDat.RegionSeg (pcfgs (F := F)) adm0 (rdats D V) () defs₀ 𝒱₀ L lv 0 where
  win := (launch0.toP (Val := Elt F)).to₀.win
  block_pos := block_pos0
  stage_whole := stage_whole0
  K := CK ⊕ Unit
  osem := osem0
  ho := (by decide : Pipeline.OwnSemFacts spec0 osem0)
  hbody c := (body0 D V h c).toRRel
  hwaits c := waits0 D V c
  pre c := iprop(StableHlo.held (c : Thread nD τ) (Pipeline.ucRefs τ sig) (V c) ∗ before0 D c)
  post c := iprop(StableHlo.held (c : Thread nD τ) (Pipeline.ucRefs τ sig) (withOut D V c) ∗ after0 c)
  X c := opened D c
  Y c := semVal (barCell c) 0
  Z c := StableHlo.held (c : Thread nD τ) (Pipeline.ucRefs τ sig \ Pipeline.arrRefs spec0) (V c)
  hentry c := by
    rw [Pipeline.prefHeld_of_none _ rfl, StableHlo.held_sub_split (c.tc : Thread nD τ) arrs_sub (V c)]
    have ha : (StableHlo.held (c : Thread nD τ) (Pipeline.arrRefs spec0) (V c) : sProp 𝕄) ⊢ (rdats D V 0 c).arrays (rdats D V 0 c).A :=
      Entails.of_eq (Pipeline.arrays_held (pcfgs (F := F)) adm0 (pdats D V) 0 launch0.toP c (share0 D V c) (dat0 D V c).A (V c) (fun _ => rfl)).symm
    unfold before0
    iintro ⟨⟨⟨Ha, Hr⟩, Hst, HO⟩, Hos, #Hlev⟩
    imod (open_cells D c) $$ [Hst Hos] with HX
    · isplitl [Hst]; · iexact Hst
      isplitl [Hos]; · iexact Hos
      iexact Hlev
    imodintro
    isplitl [Ha]; · iapply ha $$ Ha
    isplitr; · iempintro
    isplitl [HO]; · iapply (owes_in D V 0 (O₀ c) (owed_zero D V c)); iexact HO
    isplitl [HX]; · iexact HX
    iexact Hr
  hin c := by
    show iprop(opened D c ∗ Pipeline.prefHeld (pcfgs (F := F) 0).pre c (fun _ => fullShare) (adm0 (F := F) 0).1 ∗ Pipeline.scopedRest spec0 c)
      ⊢ opened D c
    iintro ⟨Ho, -, -⟩
    iexact Ho
  hout c := by
    show closed c ⊢ iprop(semVal (barCell c) 0 ∗ Pipeline.ownSems0 osem0 c ∗ Pipeline.scopedRest spec0 c)
    rw [scopedRest0_eq, ownSems_eq]
    unfold closed
    iintro ⟨Hb, Hs, Hc⟩
    isplitl [Hb]; · iexact Hb
    isplitl [Hs Hc]
    · isplitl [Hs] <;> iassumption
    iempintro
  hexit c := by
    have hgo : (rdats D V 0 c).arraysAt (Pipeline.pin (pcfgs (F := F)) adm0 0).N
        ⊢ (StableHlo.held (c : Thread nD τ) (Pipeline.arrRefs spec0) (withOut D V c) : sProp 𝕄) := by
      refine (bigSep_exists_pi Finset.univ (fun w F => iprop(⌜(rdat0 D V c).ArrAt w cfg0.N F⌝
        ∗ ((cfg0.win w).arr.view.loc (c : Thread nD τ) ↦[(cfg0.win w).arr.view.set]{(rdat0 D V c).share w} F)))).trans ?_
      iintro ⟨%G, H⟩
      ihave H' := (bigSep_pure_sep Finset.univ (fun w => (rdat0 D V c).ArrAt w cfg0.N (G w)) _) $$ H
      icases H' with ⟨%hG, H⟩
      have hh : (bigSep Finset.univ fun w : Fin cfg0.W =>
          ((cfg0.win w).arr.view.loc (c : Thread nD τ) ↦[(cfg0.win w).arr.view.set]{(rdat0 D V c).share w} G w : sProp 𝕄))
          ⊢ StableHlo.held (c : Thread nD τ) (Pipeline.arrRefs spec0) (withOut D V c) :=
        Entails.of_eq (Pipeline.arrays_held (pcfgs (F := F)) adm0 (pdats D V) 0 launch0.toP c (share0 D V c) G (withOut D V c)
          (arr_all D V c fun w => hG w (Finset.mem_univ _)))
      iapply hh $$ H
    unfold after0
    iintro ⟨Ha, HO, Hb, Hr⟩
    ihave Ha := hgo $$ Ha
    imodintro
    isplitr [HO Hb]
    · iapply (Entails.of_eq (StableHlo.held_sub_split (c.tc : Thread nD τ) arrs_sub (withOut D V c)).symm)
      isplitl [Ha]; · iexact Ha
      iapply (Entails.of_eq (StableHlo.held_congr (c.tc : Thread nD τ) (V := V c) (V' := withOut D V c) fun b hb => by
        unfold withOut
        refine (Function.update_of_ne ?_ _ _).symm
        rintro rfl
        exact (Finset.mem_sdiff.mp hb).2 (by decide)))
      iexact Hr
    isplitl [Hb]; · iexact Hb
    have ho := owes_out D V (Fin.last _) 0 (owed_last D V c)
    unfold still at ho
    iapply ho; iexact HO

end Cert.Proof.RingTalk

end
-- ==== Proof.Ring.Run.lean ====
/-
  The launch of the ring program: the ghost state is made and dealt out, and the two reshapes and the call are run one
  after the other.
-/
module

public import proofs.«01_k».proof.Proof.Ring.Region
public import Idealize.ShloMosaic.Lib.Pipeline.RegionsOwned

@[expose] public section

noncomputable section

namespace Cert.Proof.RingTalk

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Blocks F)

open Idealize.ShloMosaic.Pipeline (Dat RDat HostSeg)

/-! ## The cells and the tokens -/

theorem csem_inj : Function.Injective csem := by decide
theorem csem_ne_bar : ∀ k : CK, csem k ≠ .reg barS := by decide

def barEmb : Dev nD ↪ GSem nD τ sig := ⟨fun c => barCell c, fun _ _ h => congrArg (fun g : GSem nD τ sig => g.1.1) h⟩
def scEmb : Dev nD × CK ↪ GSem nD τ sig :=
  ⟨fun p => scell p.1 p.2, fun _ _ h => Prod.ext (congrArg (fun g : GSem nD τ sig => g.1.1) h) (csem_inj (congrArg Prod.snd h))⟩
/-- The barrier cells run from the launch on; the others are opened by the call. -/
abbrev barCells : Finset (GSem nD τ sig) := Finset.univ.map barEmb
abbrev scCells : Finset (GSem nD τ sig) := Finset.univ.map scEmb

theorem cells_disjoint : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact csem_ne_bar p.2 (congrArg Prod.snd h)

/-- The payments of device `c`: a unit to each neighbour's barrier; per hop, the slot read to its own send counter and
    the block to the right neighbour's receive counter. -/
def payOf (c : Dev nD) : Bool ⊕ (Fin 3 × Bool) → GSem nD τ sig × ℕ × Dev nD
  | .inl true => (barCell (lf c), 0, c)
  | .inl false => (barCell (rt c), 0, c)
  | .inr (h, true) => (sendCell c h, 0, c)
  | .inr (h, false) => (recvCell (rt c) h, 0, c)

theorem payOf_inj : Function.Injective fun x : Dev nD × (Bool ⊕ (Fin 3 × Bool)) => payOf x.1 x.2 := by
  have sem : ∀ (c d : Dev nD) (k l : Bool ⊕ (Fin 3 × Bool)), (payOf c k).1.1.1 = (payOf d l).1.1.1 →
      (payOf c k).1.2 = (payOf d l).1.2 → (payOf c k).2.2 = (payOf d l).2.2 → c = d ∧ k = l := by
    rintro c d (k | ⟨h, k⟩) (l | ⟨i, l⟩) <;> revert c d <;> revert k l <;> (try revert h) <;> (try revert i) <;> decide +kernel
  rintro ⟨c, k⟩ ⟨d, l⟩ h
  refine Prod.ext_iff.mpr (sem c d k l (congrArg (fun t : GSem nD τ sig × ℕ × Dev nD => t.1.1.1) h) (congrArg (fun t : GSem nD τ sig × ℕ × Dev nD => t.1.2) h)
    (congrArg (fun t : GSem nD τ sig × ℕ × Dev nD => t.2.2) h))
def payToks : Finset (GSem nD τ sig × ℕ × Dev nD) := Finset.univ.map ⟨_, payOf_inj⟩

theorem both (Φ : Bool → sProp 𝕄) : bigSep Finset.univ Φ = iprop(Φ true ∗ Φ false) :=
  bigSep_univ_eq_bigSepL [true, false] (by decide) (by decide) Φ

theorem toks_split (c : Dev nD) : bigSep Finset.univ (fun k => (dutyTok ER (payOf c k).1 (payOf c k).2.1 (payOf c k).2.2 : sProp 𝕄)) = toks c := by
  rw [bigSep_univ_sum, both, bigSep_univ_prod]
  simp only [both]
  show iprop((dutyTok ER (barCell (lf c)) 0 c ∗ dutyTok ER (barCell (rt c)) 0 c) ∗ bigSep Finset.univ (hopToks c)) = (toks c : sProp 𝕄)
  unfold toks
  have h₁ : (iprop((dutyTok ER (barCell (lf c)) 0 c ∗ dutyTok ER (barCell (rt c)) 0 c) ∗ bigSep Finset.univ (hopToks c)) : sProp 𝕄)
      ⊢ iprop(dutyTok ER (barCell (lf c)) 0 c ∗ dutyTok ER (barCell (rt c)) 0 c ∗ bigSep Finset.univ (hopToks c)) := by
    iintro ⟨⟨H1, H2⟩, H3⟩
    isplitl [H1]; · iexact H1
    isplitl [H2]; · iexact H2
    iexact H3
  have h₂ : (iprop(dutyTok ER (barCell (lf c)) 0 c ∗ dutyTok ER (barCell (rt c)) 0 c ∗ bigSep Finset.univ (hopToks c)) : sProp 𝕄)
      ⊢ iprop((dutyTok ER (barCell (lf c)) 0 c ∗ dutyTok ER (barCell (rt c)) 0 c) ∗ bigSep Finset.univ (hopToks c)) := by
    iintro ⟨H1, H2, H3⟩
    isplitl [H1 H2]
    · isplitl [H1]; · iexact H1
      iexact H2
    iexact H3
  exact BI.equiv_iff.mp ⟨h₁, h₂⟩

theorem toks_eq : bigSep payToks (fun x => (dutyTok ER x.1 x.2.1 x.2.2 : sProp 𝕄)) = bigSep Finset.univ (toks (F := F)) := by
  unfold payToks
  rw [bigSep_map, bigSep_univ_prod]
  exact bigSep_congr fun c _ => toks_split c

/-! ## The credits -/

theorem recvS_inj : Function.Injective recvS := by decide

theorem O₀_bar (d c : Dev nD) : O₀ d (barCell c) () = if d = lf c ∨ d = rt c then 1 else 0 := by
  have hr : ∀ (p : Dev nD) (h : Fin 3), (barCell c : GSem nD τ sig) ≠ recvCell p h := fun p s h => absurd (congrArg Prod.snd h) (by simp)
  have hb : ∀ p : Dev nD, (barCell c : GSem nD τ sig) = barCell p ↔ c = p := fun p => ⟨fun h => congrArg (fun g : GSem nD τ sig => g.1.1) h, fun h => by rw [h]⟩
  unfold O₀ owedB owed0 owed1 owed2 owed3
  simp only [Pi.add_apply, Finsupp.add_apply, tallyAt_apply, hr, hb, _root_.false_and, if_false, _root_.and_true, Pi.zero_apply, Finsupp.zero_apply]
  revert d c; decide
theorem O₀_recv (d c : Dev nD) (h : Fin 3) : O₀ d (recvCell c h) () = if d = lf c then N else 0 := by
  have hb : ∀ p : Dev nD, (recvCell c h : GSem nD τ sig) ≠ barCell p := fun p h => absurd (congrArg Prod.snd h) (by simp)
  have hr : ∀ (p : Dev nD) (k : Fin 3), (recvCell c h : GSem nD τ sig) = recvCell p k ↔ c = p ∧ h = k := fun p d =>
    ⟨fun h => ⟨congrArg (fun g : GSem nD τ sig => g.1.1) h, recvS_inj (SemLoc.dma.inj (congrArg Prod.snd h))⟩, fun h => by rw [h.1, h.2]⟩
  unfold O₀ owedB owed0 owed1 owed2 owed3
  simp only [Pi.add_apply, Finsupp.add_apply, tallyAt_apply, hr, hb, _root_.false_and, if_false, _root_.and_true, Pi.zero_apply, Finsupp.zero_apply]
  generalize (N : ℕ) = n
  have key : ∀ (d c : Dev nD) (h : Fin 3), (if c = rt d ∧ h = 2 then 1 else 0) + (if c = rt d ∧ h = 1 then 1 else 0) + (if c = rt d ∧ h = 0 then 1 else 0)
      = if d = lf c then 1 else 0 := by decide
  have := congrArg (· * n) (key d c h)
  simpa only [add_mul, ite_mul, one_mul, zero_mul, zero_add, add_zero] using this

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c]
  revert c; decide
theorem credit_recv (c : Dev nD) (h : Fin 3) :
    tallyOn (recvCell c h) (launchCredit (Pipeline.owing O₀) 0 (recvCell c h)) = (tallyAt (recvCell c h) () N : CellTallies nD τ sig Unit) := by
  unfold tallyAt; refine congrArg _ (Finsupp.ext fun u => ?_); cases u
  rw [Pipeline.launchCredit_owing, Finsupp.single_eq_same, Finset.sum_congr rfl fun d _ => O₀_recv d c h]
  rw [Finset.sum_ite_eq' Finset.univ (lf c) fun _ => N, if_pos (Finset.mem_univ _)]

def recvEmb : Fin 3 ↪ SemLoc sig := ⟨fun h => .dma (recvS h), by decide⟩

theorem creds (c : Dev nD) : (Pipeline.launchCred O₀ c : sProp 𝕄) ⊢ awaits c := by
  unfold Pipeline.launchCred awaits
  rw [bigSep_univ_at _ (SemLoc.reg barS), credit_bar]
  refine sep_mono_right ?_
  have hsub : Finset.univ.map recvEmb ⊆ (Finset.univ.erase (SemLoc.reg barS) : Finset (SemLoc sig)) := fun x hx => by
    obtain ⟨s, -, rfl⟩ := Finset.mem_map.mp hx
    exact Finset.mem_erase.mpr ⟨by intro h; exact absurd h (by simp [recvEmb]), Finset.mem_univ _⟩
  refine (bigSep_subset hsub).trans ?_
  rw [bigSep_map]
  exact bigSep_mono fun h _ => by
    show (cred (tallyOn (recvCell c h) (launchCredit (Pipeline.owing O₀) 0 (recvCell c h))) : sProp 𝕄) ⊢ _
    rw [credit_recv c h]

/-! ## The launch element -/

def u₀ : UU :=
  (initOf (Pipeline.cells (Pipeline.pin (pcfgs (F := F)) adm0) cellOf_inj) (Pipeline.launchToks (Pipeline.pin (pcfgs (F := F)) adm0) cellOf_inj),
    (launchOf barCells scCells payToks, 1))

/-- A resource kept by device `c₀`. -/
def onDev (c₀ : Dev nD) (X : sProp 𝕄) (c : Dev nD) : sProp 𝕄 := if c = c₀ then X else iprop(emp)
theorem gt_ne (c : Dev nD) (h : Fin 3) : gt c h ≠ c := by revert c h; decide
theorem bigSep_onDev (c₀ : Dev nD) (X : sProp 𝕄) : bigSep Finset.univ (onDev c₀ X) = X := by
  rw [slots4 c₀]
  unfold onDev
  rw [if_pos rfl, if_neg (gt_ne c₀ 0), if_neg (gt_ne c₀ 1), if_neg (gt_ne c₀ 2)]
  have h₁ : (iprop(X ∗ emp ∗ emp ∗ emp) : sProp 𝕄) ⊢ X := by iintro ⟨H, -, -, -⟩; iexact H
  have h₂ : (X : sProp 𝕄) ⊢ iprop(X ∗ emp ∗ emp ∗ emp) := by
    iintro H
    isplitl [H]; · iexact H
    isplitr; · iempintro
    isplitr; · iempintro
    iempintro
  exact BI.equiv_iff.mp ⟨h₁, h₂⟩
def G₀ : Dev nD → sProp 𝕄 := onDev 0 (BI.own (ER (launchOf barCells scCells payToks)))

theorem fund : (ownU (u₀ (F := F)) : sProp 𝕄)
    ⊢ |={Set.univ}=> iprop(BI.own (EP (initOf (Pipeline.cells (Pipeline.pin (pcfgs (F := F)) adm0) cellOf_inj) (Pipeline.launchToks (Pipeline.pin (pcfgs (F := F)) adm0) cellOf_inj)))
      ∗ bigSep Finset.univ G₀) := by
  unfold u₀ G₀
  rw [bigSep_onDev]
  iintro Hu
  ihave H := (ownU_pair _ _) $$ Hu
  icases H with ⟨HP, HX⟩
  imodintro
  isplitl [HP]; · iexact HP
  unfold ER
  iexact HX

/-! ## The start -/

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

/-- What a device keeps of the ghost state. -/
def own₀ (c : Dev nD) : sProp 𝕄 :=
  iprop(atPos ER (barCell c) 0 ∅ 0 ∗ (bigSep Finset.univ fun k : CK => openTok ER (scell c k)) ∗ toks c)

theorem start_intro (κ : GSem nD τ sig → ℕ) (c : Dev nD) :
    iprop((invs D κ ∗ bars) ∗ (own₀ c ∗ awaits c ∗ owes (c : Thread nD τ) (O₀ c) ∅)) ⊢ (before0 D c : sProp 𝕄) := by
  unfold own₀ before0 start still
  iintro ⟨⟨#Hi, #Hb⟩, ⟨Hat, Hop, Ht⟩, Hc, HO⟩
  isplitr [HO]
  · isplitl [Hat Hop Ht]
    · iexists κ
      isplitr; · iexact Hi
      isplitr; · iexact Hb
      isplitl [Hat]; · iexact Hat
      isplitl [Hop]; · iexact Hop
      iexact Ht
    iexact Hc
  iexists ∅; iexact HO

variable (ρ : Dev nD → PrngReg)

theorem make_start :
    iprop((bigSep Finset.univ fun c : Dev nD => iprop(unscopedSems0 c ∗ owes (c : Thread nD τ) (O₀ c) ∅ ∗ Pipeline.launchCred O₀ c ∗ prngReg c (ρ c) ∗ G₀ c)) ∗ levAts L lv)
      ⊢ (|={Set.univ}=> bigSep Finset.univ (before0 D) : sProp 𝕄) := by
  have hcore (c : Dev nD) : iprop(unscopedSems0 c ∗ owes (c : Thread nD τ) (O₀ c) ∅ ∗ Pipeline.launchCred O₀ c ∗ prngReg c (ρ c) ∗ G₀ c)
      ⊢ (iprop((awaits c ∗ owes (c : Thread nD τ) (O₀ c) ∅) ∗ (semVal (barCell c) 0 ∗ G₀ c)) : sProp 𝕄) := by
    rw [unscopedSems_eq]
    iintro ⟨Hus, HO, Hcr, -, HG⟩
    ihave Hc := (creds (F := F) c) $$ Hcr
    isplitl [Hc HO]
    · isplitl [Hc]; · iexact Hc
      iexact HO
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bars :=
    Entails.of_eq (bigSep_map (s := Finset.univ) barEmb (Φ := fun g : GSem nD τ sig => (reached ER g 0 : sProp 𝕄)))
  have hop : bigSep scCells (fun g => (openTok ER g : sProp 𝕄))
      ⊢ bigSep Finset.univ (fun c : Dev nD => bigSep Finset.univ fun k : CK => openTok ER (scell c k)) :=
    Entails.of_eq (by rw [bigSep_map, bigSep_univ_prod]; rfl)
  have hinv (κ : GSem nD τ sig → ℕ) : bigSep (barCells ∪ scCells) (fun g => (cellInv ER (exRd D) (κ g) g : sProp 𝕄)) ⊢ invs D κ :=
    Entails.of_eq (by rw [bigSep_union cells_disjoint, bigSep_map, bigSep_map]; rfl)
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G₀ c))
      ⊢ (bigSep Finset.univ fun c : Dev nD => iprop((awaits c ∗ owes (c : Thread nD τ) (O₀ c) ∅) ∗ (semVal (barCell c) 0 ∗ G₀ c)) : sProp 𝕄) from
    bigSep_mono fun c _ => hcore c) $$ H
  ihave H2 := unpair $$ H'; icases H2 with ⟨HB, H3⟩
  ihave H4 := unpair $$ H3; icases H4 with ⟨Hv, HG⟩
  ihave Hu := (show bigSep Finset.univ (G₀ (F := F)) ⊢ BI.own (ER (launchOf barCells scCells payToks)) from
    Entails.of_eq (bigSep_onDev (F := F) 0 (BI.own (ER (launchOf barCells scCells payToks))))) $$ HG
  imod (Rounds.fund_launch ER (exRd D) cells_disjoint (fun g _ h => h) payToks) $$ [Hv Hu] with ⟨%κ, -, #Hinv, #Hr, Hat, Hopen, Htok⟩
  · isplitl [Hv]
    · iapply hv $$ Hv
    · iexact Hu
  imodintro
  iapply (bigSep_with_persistent (R := iprop(invs D κ ∗ bars)) (Φ := fun c : Dev nD => iprop(own₀ c
    ∗ awaits c ∗ owes (c : Thread nD τ) (O₀ c) ∅)) fun c _ => start_intro D κ c)
  isplitr
  · isplitr; · iapply (hinv κ); iexact Hinv
    iapply hre; iexact Hr
  iapply unite
  isplitr [HB]
  · unfold own₀
    iapply unite; isplitl [Hat]; · iapply hat $$ Hat
    iapply unite; isplitl [Hopen]; · iapply hop $$ Hopen
    iapply (Entails.of_eq (toks_eq (F := F))) $$ Htok
  · iexact HB

/-! ## The program -/

variable (m : (ℓ : Loc nD τ sig) → Buf (Elt F) ℓ) [∀ e, Nonempty (Elt F e)]

/-- The block of each device: its argument as rows of 128. -/
def Blk : Blocks F := fun c => shapeCast S32x128 (m ((c : Thread nD τ).loc main_arg0) : S4096.Idx → Elt F .i32) shapeCasts_S4096_S32x128

/-- The buffers at the start, before the call and at the end. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps1 (withOut (Blk m) (W1 m) c)

theorem fits : Fits (Blk m) (W1 m) := fun c => by
  show StableHlo.after hostOps0 (W0 m c) (Proc.devRef .tc main_v1) = Blk m c
  after_results <;> rfl

theorem last_arg (c : Dev nD) : W2 m c (Proc.devRef .tc main_arg0) = m ((c : Thread nD τ).loc main_arg0) := by
  have h₁ : W2 m c (Proc.devRef .tc main_arg0) = withOut (Blk m) (W1 m) c (Proc.devRef .tc main_arg0) := by
    after_results
  have h₂ : withOut (Blk m) (W1 m) c (Proc.devRef .tc main_arg0) = W1 m c (Proc.devRef .tc main_arg0) :=
    Function.update_of_ne (by decide) _ _
  have h₃ : W1 m c (Proc.devRef .tc main_arg0) = W0 m c (Proc.devRef .tc main_arg0) := by
    after_results
  exact h₁.trans (h₂.trans h₃)

/-- The result: the gathered blocks, as one row per device. -/
theorem last_out (c : Dev nD) : W2 m c (Proc.devRef .tc main_v3)
    = shapeCast S4x4096 (full (Blk m) : S4x32x128.Idx → Elt F .i32) shapeCasts_S4x32x128_S4x4096 := by
  have h₁ : W2 m c (Proc.devRef .tc main_v3)
      = shapeCast S4x4096 (withOut (Blk m) (W1 m) c (Proc.devRef .tc main_v2) : S4x32x128.Idx → Elt F .i32) shapeCasts_S4x32x128_S4x4096 := by
    after_results <;> rfl
  have h₂ : withOut (Blk m) (W1 m) c (Proc.devRef .tc main_v2) = full (Blk m) := by
    unfold withOut
    exact Function.update_self _ _ _
  rw [h₁, h₂]

def head0 : HostSeg (Ix := Unit) (Name := ℕ) (U := UU) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (before0 (Blk m))
def tail0 : HostSeg (Ix := Unit) (Name := ℕ) (U := UU) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (withOut (Blk m) (W1 m)) after0

def items (_ : Dev nD) : List (RDat.Seg (pcfgs (F := F)) adm0 (rdats (Blk m) (W1 m)) () defs₀ 𝒱₀ L lv) :=
  [.host (head0 m), .region (region (Blk m) (W1 m) (fits m)), .host (tail0 m)]

theorem pipes_items (c : Dev nD) : (RDat.Seg.pipes (items m c)).Nodup := by
  simp only [items, RDat.Seg.pipes_host, RDat.Seg.pipes_region, RDat.Seg.pipes_nil]; decide

/-- What a device ends with. -/
def end0 (c : Dev nD) : sProp 𝕄 :=
  iprop(StableHlo.held (c : Thread nD τ) (Pipeline.ucRefs τ sig) (W2 m c) ∗ semVal (barCell c) 0)

theorem mem_uc (b : Ref sig .tc) (h : b.isScoped = false) : Proc.devRef .tc b ∈ Pipeline.ucRefs τ sig :=
  Finset.mem_filter.mpr ⟨StableHlo.devRef_mem_tcRefs b, by rw [show (Proc.devRef .tc b : DevRef τ sig).isScoped = b.isScoped from rfl, h]; decide⟩

set_option backward.isDefEq.respectTransparency.types false in
set_option maxHeartbeats 1000000 in
/-- From any memory with zero counters every weakly fair execution on the four devices ends; the argument is unchanged,
    every device has the blocks of all devices, and every counter is at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v3)
          = shapeCast S4x4096 (full (Blk m) : S4x32x128.Idx → Elt F .i32) shapeCasts_S4x32x128_S4x4096)
      ∧ r.2.sem = fun _ => 0) :=
  Pipeline.RDat.θ_run_regions_kit_dev_sems (pcfgs (F := F)) adm0 (rdats (Blk m) (W1 m)) () cellOf_inj EP defs₀ 𝒱₀ L lv m ρ main (items m)
    (fun c Q => by
      rewrite [main_chain c, RDat.Seg.run_eq_chain,
        show (items m c).map RDat.Seg.prog = [
          StableHlo.seq hostOps0,
          Prog.lift (.customCall (Pipeline.entry 0) ()),
          StableHlo.seq hostOps1 ] from rfl]
      dsimp (config := { failIfUnchanged := false }) only
      exact .rfl)
    (pipes_items m) O₀ L_of_ne G₀ u₀ fund
    (T₀ := fun c => iprop(StableHlo.held (c : Thread nD τ) (Pipeline.ucRefs τ sig) (W0 m c) ∗ before0 (Blk m) c))
    (Tₙ := end0 m)
    (hch := fun c => by
      refine ⟨.rfl, .rfl, .rfl, ?_⟩
      show iprop(StableHlo.held (c : Thread nD τ) (Pipeline.ucRefs τ sig) (W2 m c) ∗ after0 c)
        ⊢ iprop(end0 m c ∗ ∃ W, owes (c : Thread nD τ) (0 : CellTallies nD τ sig Unit) W)
      unfold after0 end0
      iintro ⟨Hh, Hb, HO⟩
      isplitr [HO]
      · isplitl [Hh]; · iexact Hh
        iexact Hb
      iexact HO)
    (hinit := by
      have hsplit : (bigSep Finset.univ fun c : Dev nD => iprop(unscopedBufs c (fun b => m ((c.tc : Thread nD τ).loc b)) ∗ unscopedSems0 c
            ∗ owes (c.tc : Thread nD τ) (O₀ c) ∅ ∗ Pipeline.launchCred O₀ c ∗ prngReg c (ρ c) ∗ G₀ c))
          ⊢ (iprop((bigSep Finset.univ fun c : Dev nD => StableHlo.held (c : Thread nD τ) (Pipeline.ucRefs τ sig) (W0 m c))
              ∗ bigSep Finset.univ fun c : Dev nD => iprop(unscopedSems0 c ∗ owes (c : Thread nD τ) (O₀ c) ∅ ∗ Pipeline.launchCred O₀ c ∗ prngReg c (ρ c) ∗ G₀ c))
              : sProp 𝕄) := by
        rw [← bigSep_sep']
        exact bigSep_mono fun c _ => by rw [← Pipeline.unscopedBufs_held (Ix := Unit) (Name := ℕ) (U := UU) (Lvl := ℕ) c (W0 m c)]; exact BI.Entails.refl _
      iintro ⟨H, Hla⟩
      ihave H' := hsplit $$ H
      icases H' with ⟨Hh, Hr⟩
      imod (make_start (Blk m) ρ) $$ [Hr Hla] with HE
      · isplitl [Hr]; · iexact Hr
        iexact Hla
      imodintro
      iapply unite
      isplitl [Hh]; · iexact Hh
      iexact HE)
    (QY := fun c s => (s.mem ((c : Thread nD τ).loc main_arg0) = m ((c : Thread nD τ).loc main_arg0)
        ∧ s.mem ((c : Thread nD τ).loc main_v3)
          = shapeCast S4x4096 (full (Blk m) : S4x32x128.Idx → Elt F .i32) shapeCasts_S4x32x128_S4x4096)
      ∧ s.sem (barCell c) = 0)
    (hfin := fun c s' => by
      unfold end0 StableHlo.held
      iintro ⟨⟨Hh, Hb⟩, HSI⟩
      icombine HSI Hb gives %hb
      ihave Hr := (pointsTo_read_all (Pipeline.ucRefs τ sig) (fun b => ((c : Thread nD τ).1, b)) (W2 m c) s') $$ [Hh HSI]
      · isplitl [Hh] <;> iassumption
      icases Hr with ⟨%hr, HSI⟩
      imodintro
      isplitr
      · ipureintro
        exact ⟨⟨(hr (Proc.devRef .tc main_arg0) (mem_uc main_arg0 rfl)).trans (last_arg m c),
          (hr (Proc.devRef .tc main_v3) (mem_uc main_v3 rfl)).trans (last_out m c)⟩, by simpa using hb⟩
      iexact HSI)
    (hQ := fun s h hs => ⟨fun c => (h c).1, sem_eq_zero hs fun c sm hsm => by
      obtain rfl := unscoped_eq sm hsm
      exact (h c).2⟩)

end Cert.Proof.RingTalk

end
-- ==== Proof.Ring.Value.lean ====
/-
  What the ring gathers, element by element: the blocks of the devices, one after the other, are the whole array.
-/
module

public import proofs.«01_k».proof.Proof.Ring.Run
public import Idealize.ShloMosaic.Lib.Layout
public import Idealize.ShloMosaic.Lib.Pipeline.Value

@[expose] public section

noncomputable section

namespace Cert.Proof.RingTalk

open Cert.GatherIdeal Cert.GatherIdeal.Gen
open Idealize.ShloMosaic
open Idealize.ShloMosaic.TcCoe

variable {F : FTy → Type} [FloatOps F]

/-- A place of the gathered array, in the row-major order: its block, then the place in the block. -/
theorem place (p : S4x32x128.Idx) : (S4x32x128.rowMajor p).val = (p 0).val * 4096 + (S32x128.rowMajor (inner p)).val := by
  have h₃ : (S4x32x128.rowMajor p).val = ((p 0).val * 32 + (p 1).val) * 128 + (p 2).val := Shape.rowMajor_val_three p
  have h₂ : (S32x128.rowMajor (inner p)).val = (p 1).val * 128 + (p 2).val := Shape.rowMajor_val_two (inner p)
  rw [h₃, h₂]
  omega

/-- If the argument of each device is its part of an array, every device ends with that array, as rows of 4096. -/
theorem gathered (m : (ℓ : Loc nD τ sig) → Buf (Elt F) ℓ) (w : (⟨1, ![16384]⟩ : Shape).Idx → Elt F .i32)
    (hw : ∀ c : Dev nD, m ((c : Thread nD τ).loc main_arg0) = Layout.block ⟨1, ![4096]⟩ ⟨1, ![16384]⟩ 0 4 c w)
    (hc : (⟨1, ![16384]⟩ : Shape).ShapeCasts S4x4096) :
    shapeCast S4x4096 (full (Blk m) : S4x32x128.Idx → Elt F .i32) shapeCasts_S4x32x128_S4x4096 = shapeCast S4x4096 w hc := by
  have hB : ∀ (c : Dev nD) (y : S32x128.Idx), Blk m c y
      = Layout.block ⟨1, ![4096]⟩ ⟨1, ![16384]⟩ 0 4 c w (by decide) (Shape.reshapeEquiv shapeCasts_S4096_S32x128 y) :=
    fun c y => congrFun (hw c) _
  funext i
  have hp := Shape.rowMajor_reshapeEquiv shapeCasts_S4x32x128_S4x4096 i
  have hj := Shape.rowMajor_reshapeEquiv hc i
  show Blk m (Shape.reshapeEquiv shapeCasts_S4x32x128_S4x4096 i 0) (inner (Shape.reshapeEquiv shapeCasts_S4x32x128_S4x4096 i))
    = w (Shape.reshapeEquiv hc i)
  generalize Shape.reshapeEquiv shapeCasts_S4x32x128_S4x4096 i = p at hp ⊢
  generalize (Shape.reshapeEquiv hc i : (⟨1, ![16384]⟩ : Shape).Idx) = j at hj ⊢
  have hk := Shape.rowMajor_reshapeEquiv shapeCasts_S4096_S32x128 (inner p)
  refine (hB (p 0) (inner p)).trans ?_
  generalize (Shape.reshapeEquiv shapeCasts_S4096_S32x128 (inner p) : S4096.Idx) = k at hk ⊢
  refine congrArg w (funext fun a => Fin.ext ?_)
  match a with
  | ⟨0, _⟩ =>
    have e₁ : (S4096.rowMajor k).val = (k 0).val := Shape.rowMajor_val_one k
    have e₂ : ((⟨1, ![16384]⟩ : Shape).rowMajor j).val = (j 0).val := Shape.rowMajor_val_one j
    have e₃ := place p
    show (p 0).val * 4096 + (k 0).val = (j 0).val
    omega

end Cert.Proof.RingTalk

end
-- ==== Proof.Ring.Same.lean ====
/-
  `Gather` and `GatherIdeal` have the same text, so a run of the one is a run of the other.
-/
module

public import proofs.«01_k».proof.Proof.Ring.Value
public import proofs.«01_k».proof.Proof.Gen.Gather

@[expose] public section

noncomputable section

namespace Cert.Proof.RingTalk

open Idealize.ShloMosaic
open Idealize.SL.Sem

variable {F : FTy → Type} [FloatOps F]

theorem main_same : Cert.Gather.main (F := F) = Cert.GatherIdeal.main := rfl

theorem bodies_same : Cert.Gather.defs₀ (F := F) = Cert.GatherIdeal.defs₀ := by
  unfold Cert.Gather.defs₀ Cert.GatherIdeal.defs₀
  refine congrArg Defs.onTc ?_
  funext l a
  match l with
  | ⟨0, _⟩ => rfl

theorem defs_same : Cert.Gather.defs (F := F) = Cert.GatherIdeal.defs := congrArg (Pipeline.defs Cert.Gather.pcfgs) bodies_same

/-- The run of `GatherIdeal`, told of `Gather`. -/
theorem run_gather (m : (ℓ : Loc Cert.Gather.nD Cert.Gather.τ Cert.Gather.sig) → Buf (Elt F) ℓ) [∀ e, Nonempty (Elt F e)]
    (ρ : Dev Cert.Gather.nD → PrngReg) :
    θ_run Cert.Gather.defs (onTc (τ := Cert.Gather.τ) (Cert.Gather.main (F := F))) ⟨m, fun _ => 0, ρ⟩
      (fun r => (∀ c : Dev Cert.Gather.nD, r.2.mem ((c.tc : Thread Cert.Gather.nD Cert.Gather.τ).loc Cert.Gather.main_arg0)
          = m ((c.tc : Thread Cert.Gather.nD Cert.Gather.τ).loc Cert.Gather.main_arg0))
        ∧ r.2.sem = fun _ => 0) := by
  rw [defs_same, main_same]
  exact (θ_run Cert.GatherIdeal.defs _ _).mono (fun _ hr => ⟨fun c => (hr.1 c).1, hr.2⟩) (run_main (F := F) ρ m)

end Cert.Proof.RingTalk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_fits_Kernel
public import proofs.«01_k».proof.Proof.Gen.Pre_fits_ReferenceIdeal
public import proofs.«01_k».proof.Proof.Gen.ReferenceIdeal.Run
public import proofs.«01_k».proof.Proof.Gen.Gather
public import proofs.«01_k».proof.Proof.Gen.Gather.Skeleton
public import proofs.«01_k».proof.Proof.Gen.Gather.Launch
public import proofs.«01_k».proof.Proof.Gen.Gather.Frame
public import proofs.«01_k».proof.Proof.Gen.Gather.Points
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Frame
public import proofs.«01_k».proof.Proof.Gen.GatherIdeal.Points
public import proofs.«01_k».proof.Proof.Gen.GatherReferenceIdeal
public import proofs.«01_k».proof.Proof.Gen.GatherReferenceIdeal.Run
public import proofs.«01_k».proof.Proof.Value
public import proofs.«01_k».proof.Proof.Whole
public import proofs.«01_k».proof.Proof.Same
public import proofs.«01_k».proof.Proof.Ring.Same
public import Idealize.ShloMosaic.Adequacy
public import Idealize.ShloMosaic.Init

@[expose] public section

noncomputable section

namespace Cert.Proof

open Idealize.ShloMosaic hiding ix1 ix2 eq_ix1 eq_ix2
open Idealize.SL.Sem
open Idealize.ShloMosaic.Routing (shape1 shape2)
open Idealize.ShloMosaic.ValueIdx
open Cert.Proof.Order Cert.Proof.Words Cert.Proof.Precond Cert.Proof.Given Cert.Proof.Value

/-! ## The arguments stay, every counter ends at zero -/

theorem frame_kernelIdeal : Cert.quiescent_KernelIdeal := fun m g hpre =>
  have h : Good m := fun c => of_fits _ _ (hpre c)
  (θ_run Cert.KernelIdeal.defs _ _).mono (fun _ hr => ⟨fun c => ⟨(hr.1 c).1, (hr.1 c).2.1⟩, hr.2⟩)
    (Talk.run_main (inp h) g m (fits h))

theorem frame_kernel : Cert.quiescent_Kernel := fun m g hpre =>
  Talk.run_kernel (F := Bits) m g fun c => of_fits _ _ (hpre c)

theorem frame_referenceIdeal : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run (F := Ideal) m g)

/-! ## The value -/

/-- Every device ends with its part of the sorted rows. -/
theorem value_eq : Cert.algebraic_KernelIdeal_ReferenceIdeal := fun m g m' g' hpre hargs => by
  have h : Good m := fun c => of_fits _ _ (hpre c)
  have hD : ∀ c, Host.D m c = m' (((0 : Dev Cert.ReferenceIdeal.nD).tc : Thread Cert.ReferenceIdeal.nD Cert.ReferenceIdeal.τ).loc Cert.ReferenceIdeal.main_arg1) :=
    fun c => (hargs c).2
  refine ⟨Whole.value (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r hr c => ⟨?_, (hr.1 c).1, (hr.1 c).2.1⟩) (Talk.run_main (inp h) g m (fits h))
    obtain ⟨f, hf, hv⟩ := (hr.1 c).2.2
    have hc : c.val < 4 := c.isLt
    rw [hv]
    refine funext fun (i : (shape2 4096 1024).Idx) => ?_
    obtain ⟨q, y, rfl⟩ : ∃ (q : Fin 4096) (y : Fin 1024), i = ix2 q y := ⟨i 0, i 1, eq_ix2 i⟩
    obtain ⟨s, j, hw, ho⟩ := out_at h (fun c => (hD c).trans (hD 0).symm) c f hf q y
    have hs : s.val < 4 := s.isLt
    have hj := j.isLt
    refine ho.trans ?_
    rw [hD 0] at hw
    have hlt : ∀ b, b < 16384 → dest (m' (((0 : Dev Cert.ReferenceIdeal.nD).tc : Thread Cert.ReferenceIdeal.nD Cert.ReferenceIdeal.τ).loc Cert.ReferenceIdeal.main_arg1)) b < 4 :=
      fun b hb => by rw [← hD 0]; exact key_lt _ (h 0).1 b hb
    have hR := Whole.value_at (F := Ideal) (m' (((0 : Dev Cert.ReferenceIdeal.nD).tc : Thread Cert.ReferenceIdeal.nD Cert.ReferenceIdeal.τ).loc Cert.ReferenceIdeal.main_arg0))
      _ hlt ⟨4096 * c.val + q.val, by omega⟩ ⟨4096 * s.val + j.val, by omega⟩ (Fin.ext hw) y
    have hi : ∀ (c : Fin 4) (q : Fin 4096) (y : Fin 1024) (hT : Layout.Tiles ⟨2, ![4096, 1024]⟩ ⟨2, ![16384, 1024]⟩ 0 4),
        hT.idx c (ix2 q y) = ix2 ⟨4096 * c.val + q.val, by omega⟩ y := fun c q y hT => by
      funext a
      match a with
      | ⟨0, _⟩ =>
        refine Fin.ext ?_
        show c.val * 4096 + q.val = 4096 * c.val + q.val
        omega
      | ⟨1, _⟩ => rfl
    rw [Layout.block_apply, hi c q y]
    refine Eq.trans ?_ hR.symm
    rw [(hargs s).1, Layout.block_apply, hi s j y]
  · exact (θ_run Cert.ReferenceIdeal.defs _ _).mono (fun _ hr => hr 0) (Cert.ReferenceIdeal.Value.run (F := Ideal) m' g')

/-! ## The gathering of the destinations -/

theorem frame_gatherIdeal : Cert.quiescent_GatherIdeal := fun m g _ =>
  (θ_run Cert.GatherIdeal.defs _ _).mono (fun _ hr => ⟨fun c => (hr.1 c).1, hr.2⟩) (RingTalk.run_main (F := Ideal) g m)

theorem frame_gather : Cert.quiescent_Gather := fun m g _ => RingTalk.run_gather (F := Bits) m g

theorem frame_gatherReferenceIdeal : Cert.quiescent_GatherReferenceIdeal := fun m g _ =>
  (θ_run Cert.GatherReferenceIdeal.defs _ _).mono (fun r hr => ⟨fun c => (hr c).2, sem_eq_zero_of_no_sems (by decide) r.2⟩)
    (Cert.GatherReferenceIdeal.Value.run (F := Ideal) m g)

/-- Every device ends with the destinations of all rows. -/
theorem gather_eq : Cert.algebraic_GatherIdeal_GatherReferenceIdeal := fun m g m' g' _ hargs =>
  ⟨_, (θ_run Cert.GatherIdeal.defs _ _).mono
      (fun _ hr c => ⟨(hr.1 c).2.trans (RingTalk.gathered (F := Ideal) m _ hargs Cert.GatherReferenceIdeal.Gen.shapeCasts_S16384_S4x4096), (hr.1 c).1⟩)
      (RingTalk.run_main (F := Ideal) g m),
    (θ_run Cert.GatherReferenceIdeal.defs _ _).mono (fun _ hr => hr 0) (Cert.GatherReferenceIdeal.Value.run (F := Ideal) m' g')⟩

theorem claim : Cert.Claim := ⟨Cert.Kernel.Gen.facts, Cert.KernelIdeal.Gen.facts, Cert.ReferenceIdeal.Gen.facts, Cert.Gather.Gen.facts, Cert.GatherIdeal.Gen.facts,
  Cert.GatherReferenceIdeal.Gen.facts, Cert.Pre_fits_Kernel.Gen.facts, Cert.Pre_fits_ReferenceIdeal.Gen.facts,
  frame_kernel, frame_kernelIdeal, frame_referenceIdeal, fun m g _ => frame_referenceIdeal m g trivial,
  frame_gather, frame_gatherIdeal, frame_gatherReferenceIdeal, trivial, value_eq, trivial, gather_eq⟩

end Cert.Proof

end
